-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_weights [hPre_finite_weights : Cert.Pre_finite_weights.Facts] (m : (ℓ : Loc Cert.KernelIdeal.nD Cert.KernelIdeal.τ Cert.KernelIdeal.sig) → Buf (Elt Ideal) ℓ) : Prop :=
  ∀ c : Dev Cert.KernelIdeal.nD,
    (Cert.Pre_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).1 = (fun _ => 1#1)
    ∧ (Cert.Pre_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.1 = (fun _ => 1#1)
    ∧ (Cert.Pre_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.1 = (fun _ => 1#1)
    ∧ (Cert.Pre_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.1 = (fun _ => 1#1)
    ∧ (Cert.Pre_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_weights [hPre_finite_weights : Cert.Pre_finite_weights.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).1 = (fun _ => 1#1)
    ∧ (Cert.Pre_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.1 = (fun _ => 1#1)
    ∧ (Cert.Pre_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.1 = (fun _ => 1#1)
    ∧ (Cert.Pre_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.1 = (fun _ => 1#1)
    ∧ (Cert.Pre_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_finite_weights [hKernelIdeal : Cert.KernelIdeal.Facts] [hPre_finite_weights : Cert.Pre_finite_weights.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_weights m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_finite_weights [hReferenceIdeal : Cert.ReferenceIdeal.Facts] [hPre_finite_weights : Cert.Pre_finite_weights.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_weights m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_weights [hKernelIdeal : Cert.KernelIdeal.Facts] [hReferenceIdeal : Cert.ReferenceIdeal.Facts] [hPre_finite_weights : Cert.Pre_finite_weights.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_weights m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v129)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v129) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v227) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_weights : Cert.Pre_finite_weights.Facts),
    quiescent_Kernel (hKernel := hKernel)
    ∧ quiescent_KernelIdeal (hKernelIdeal := hKernelIdeal)
    ∧ quiescent_KernelIdeal_pre_finite_weights (hKernelIdeal := hKernelIdeal) (hPre_finite_weights := hPre_finite_weights)
    ∧ quiescent_ReferenceIdeal (hReferenceIdeal := hReferenceIdeal)
    ∧ quiescent_ReferenceIdeal_pre_finite_weights (hReferenceIdeal := hReferenceIdeal) (hPre_finite_weights := hPre_finite_weights)
    ∧ preserves_Kernel_KernelIdeal
    ∧ algebraic_KernelIdeal_ReferenceIdeal_pre_finite_weights (hKernelIdeal := hKernelIdeal) (hReferenceIdeal := hReferenceIdeal) (hPre_finite_weights := hPre_finite_weights)
-- ==== Pre_finite_weights.lean ====
abbrev S8x8192x1024 : Shape := ⟨3, ![8, 8192, 1024]⟩
abbrev S1x1024 : Shape := ⟨2, ![1, 1024]⟩
abbrev S1x1024x4352 : Shape := ⟨3, ![1, 1024, 4352]⟩
abbrev S1x2048 : Shape := ⟨2, ![1, 2048]⟩
abbrev S1x8 : Shape := ⟨2, ![1, 8]⟩
abbrev S1x8x15x31 : Shape := ⟨4, ![1, 8, 15, 31]⟩
abbrev S1x512x1024 : Shape := ⟨3, ![1, 512, 1024]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S1024 : Shape := ⟨1, ![1024]⟩
abbrev S_ : Shape := ⟨0, ![]⟩
abbrev S1x1024x640 : Shape := ⟨3, ![1, 1024, 640]⟩

class Facts : Prop where
  bcast_S_S1x1024 : S_.BroadcastsInDim S1x1024 (![] : Fin 0 → Fin S1x1024.rank)
  slices_S1x1024x4352_S1x1024x640_0_0_0 : S1x1024x4352.Slices ![0, 0, 0] S1x1024x640
  bcast_S_S1x1024x640 : S_.BroadcastsInDim S1x1024x640 (![] : Fin 0 → Fin S1x1024x640.rank)
  slices_S1x1024x4352_S1x1024x1024_0_0_768 : S1x1024x4352.Slices ![0, 0, 768] S1x1024x1024
  bcast_S_S1x1024x1024 : S_.BroadcastsInDim S1x1024x1024 (![] : Fin 0 → Fin S1x1024x1024.rank)
  bcast_S_S1x8 : S_.BroadcastsInDim S1x8 (![] : Fin 0 → Fin S1x8.rank)
  bcast_S_S1x8x15x31 : S_.BroadcastsInDim S1x8x15x31 (![] : Fin 0 → Fin S1x8x15x31.rank)

variable [Facts]

def fn {F : FTy → Type} [FloatOps F] (main_arg0 : FVec F S8x8192x1024 .f32) (main_arg1 : FVec F S1x1024 .f32) (main_arg2 : FVec F S1x1024x4352 .f32) (main_arg3 : FVec F S1x2048 .f32) (main_arg4 : FVec F S1x8 .f32) (main_arg5 : FVec F S1x8x15x31 .f32) (main_arg6 : FVec F S1x512x1024 .f32) (main_arg7 : FVec F S1x512x1024 .f32) (main_arg8 : FVec F S1x1024x1024 .f32) (main_arg9 : FVec F S1x1024 .f32) (main_arg10 : FVec F S1x1024x4096 .f32) (main_arg11 : FVec F S1x4096x1024 .f32) (main_arg12 : FVec F S1024 .f32) : IVec S1x1024 1 × IVec S1x1024x640 1 × IVec S1x1024x1024 1 × IVec S1x8 1 × IVec S1x8x15x31 1 :=
  let main_v0 : FVec F S1x1024 .f32 := Host.absf main_arg1
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_v3 : FVec F S1x1024x640 .f32 := (extractStridedSlice S1x1024x640 ![0, 0, 0] · slices_S1x1024x4352_S1x1024x640_0_0_0) main_arg2
  let main_v4 : FVec F S1x1024x640 .f32 := Host.absf main_v3
  let main_cst_0 : FVec F S_ .f32 := constant S_ .f32 0x7F800000#32
  let main_v5 : FVec F S1x1024x640 .f32 := broadcastInDim S1x1024x640 ![] bcast_S_S1x1024x640 main_cst_0
  let main_v6 : IVec S1x1024x640 1 := cmpf .olt main_v4 main_v5
  let main_v7 : FVec F S1x1024x1024 .f32 := (extractStridedSlice S1x1024x1024 ![0, 0, 768] · slices_S1x1024x4352_S1x1024x1024_0_0_768) main_arg2
  let main_v8 : FVec F S1x1024x1024 .f32 := Host.absf main_v7
  let main_cst_1 : FVec F S_ .f32 := constant S_ .f32 0x7F800000#32
  let main_v9 : FVec F S1x1024x1024 .f32 := broadcastInDim S1x1024x1024 ![] bcast_S_S1x1024x1024 main_cst_1
  let main_v10 : IVec S1x1024x1024 1 := cmpf .olt main_v8 main_v9
  let main_cst_2 : FVec F S_ .f32 := constant S_ .f32 0x7F800000#32
  let main_v11 : FVec F S1x8 .f32 := broadcastInDim S1x8 ![] bcast_S_S1x8 main_cst_2
  let main_v12 : IVec S1x8 1 := cmpf .olt main_arg4 main_v11
  let main_v13 : FVec F S1x8x15x31 .f32 := Host.absf main_arg5
  let main_cst_3 : FVec F S_ .f32 := constant S_ .f32 0x7F800000#32
  let main_v14 : FVec F S1x8x15x31 .f32 := broadcastInDim S1x8x15x31 ![] bcast_S_S1x8x15x31 main_cst_3
  let main_v15 : IVec S1x8x15x31 1 := cmpf .olt main_v13 main_v14
  (main_v2, main_v6, main_v10, main_v12, main_v15)
-- ==== Kernel.lean ====
abbrev S8x8192x1024 : Shape := ⟨3, ![8, 8192, 1024]⟩
abbrev S1x1024 : Shape := ⟨2, ![1, 1024]⟩
abbrev S1x1024x4352 : Shape := ⟨3, ![1, 1024, 4352]⟩
abbrev S1x2048 : Shape := ⟨2, ![1, 2048]⟩
abbrev S1x8 : Shape := ⟨2, ![1, 8]⟩
abbrev S1x8x15x31 : Shape := ⟨4, ![1, 8, 15, 31]⟩
abbrev S1x512x1024 : Shape := ⟨3, ![1, 512, 1024]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S1024 : Shape := ⟨1, ![1024]⟩
abbrev S8 : Shape := ⟨1, ![8]⟩
abbrev S_ : Shape := ⟨0, ![]⟩
abbrev S128 : Shape := ⟨1, ![128]⟩
abbrev S128x1 : Shape := ⟨2, ![128, 1]⟩
abbrev S384 : Shape := ⟨1, ![384]⟩
abbrev S1x384 : Shape := ⟨2, ![1, 384]⟩
abbrev S128x384 : Shape := ⟨2, ![128, 384]⟩
abbrev S8x1x1 : Shape := ⟨3, ![8, 1, 1]⟩
abbrev S1x128x384 : Shape := ⟨3, ![1, 128, 384]⟩
abbrev S8x128x384 : Shape := ⟨3, ![8, 128, 384]⟩
abbrev S65536x1024 : Shape := ⟨2, ![65536, 1024]⟩
abbrev S1024x4352 : Shape := ⟨2, ![1024, 4352]⟩
abbrev S1024x512 : Shape := ⟨2, ![1024, 512]⟩
abbrev S1024x8x64 : Shape := ⟨3, ![1024, 8, 64]⟩
abbrev S8x1 : Shape := ⟨2, ![8, 1]⟩
abbrev S1024x256 : Shape := ⟨2, ![1024, 256]⟩
abbrev S1024x3072 : Shape := ⟨2, ![1024, 3072]⟩
abbrev S2048 : Shape := ⟨1, ![2048]⟩
abbrev S65536x512 : Shape := ⟨2, ![65536, 512]⟩
abbrev S65536x256 : Shape := ⟨2, ![65536, 256]⟩
abbrev S65536x2048 : Shape := ⟨2, ![65536, 2048]⟩
abbrev S512x1024 : Shape := ⟨2, ![512, 1024]⟩
abbrev S512x512 : Shape := ⟨2, ![512, 512]⟩
abbrev S512x256 : Shape := ⟨2, ![512, 256]⟩
abbrev S512x2048 : Shape := ⟨2, ![512, 2048]⟩
abbrev S512 : Shape := ⟨1, ![512]⟩
abbrev S512x1 : Shape := ⟨2, ![512, 1]⟩
abbrev S1024x1024 : Shape := ⟨2, ![1024, 1024]⟩
abbrev S1x512 : Shape := ⟨2, ![1, 512]⟩
abbrev S128x256 : Shape := ⟨2, ![128, 256]⟩
abbrev S768x256 : Shape := ⟨2, ![768, 256]⟩
abbrev S384x256 : Shape := ⟨2, ![384, 256]⟩
abbrev S384x128 : Shape := ⟨2, ![384, 128]⟩
abbrev S768x128 : Shape := ⟨2, ![768, 128]⟩
abbrev S128x128 : Shape := ⟨2, ![128, 128]⟩
abbrev S256x128 : Shape := ⟨2, ![256, 128]⟩
abbrev S1024x128 : Shape := ⟨2, ![1024, 128]⟩
abbrev S1024x384 : Shape := ⟨2, ![1024, 384]⟩
abbrev S1 : Shape := ⟨1, ![1]⟩
abbrev S128x768 : Shape := ⟨2, ![128, 768]⟩
abbrev S8x15x31 : Shape := ⟨3, ![8, 15, 31]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S1x1x64x64 : Shape := ⟨4, ![1, 1, 64, 64]⟩
abbrev S64x64x1 : Shape := ⟨3, ![64, 64, 1]⟩
abbrev S8x15x64x64 : Shape := ⟨4, ![8, 15, 64, 64]⟩
abbrev S8x8x64x64 : Shape := ⟨4, ![8, 8, 64, 64]⟩
abbrev S1x8x8x64x64 : Shape := ⟨5, ![1, 8, 8, 64, 64]⟩
abbrev S8x8x8x64x64 : Shape := ⟨5, ![8, 8, 8, 64, 64]⟩
abbrev S8x8x64x8x64 : Shape := ⟨5, ![8, 8, 64, 8, 64]⟩
abbrev S8x8x64x512 : Shape := ⟨4, ![8, 8, 64, 512]⟩
abbrev S64x128 : Shape := ⟨2, ![64, 128]⟩
abbrev S512x128 : Shape := ⟨2, ![512, 128]⟩
abbrev S128x512 : Shape := ⟨2, ![128, 512]⟩
abbrev S64x512 : Shape := ⟨2, ![64, 512]⟩
abbrev S1x1x64x512 : Shape := ⟨4, ![1, 1, 64, 512]⟩
abbrev S64x1024 : Shape := ⟨2, ![64, 1024]⟩
abbrev S8x64x1024 : Shape := ⟨3, ![8, 64, 1024]⟩
abbrev S1024x4096 : Shape := ⟨2, ![1024, 4096]⟩
abbrev S4096x1024 : Shape := ⟨2, ![4096, 1024]⟩

abbrev nBuf : Space → Nat
  | .hbm => 187
  | .vmem => 51
  | .smem => 1
  | _ => 0

abbrev hbmTy0_0 (i : Nat) : BufTy := match i % 128 with
  | 0 => ⟨S8x8192x1024, .f32⟩
  | 1 => ⟨S1x1024, .f32⟩
  | 2 => ⟨S1x1024x4352, .f32⟩
  | 3 => ⟨S1x2048, .f32⟩
  | 4 => ⟨S1x8, .f32⟩
  | 5 => ⟨S1x8x15x31, .f32⟩
  | 6 => ⟨S1x512x1024, .f32⟩
  | 7 => ⟨S1x512x1024, .f32⟩
  | 8 => ⟨S1x1024x1024, .f32⟩
  | 9 => ⟨S1x1024, .f32⟩
  | 10 => ⟨S1x1024x4096, .f32⟩
  | 11 => ⟨S1x4096x1024, .f32⟩
  | 12 => ⟨S1024, .f32⟩
  | 13 => ⟨S8, .i32⟩
  | 14 => ⟨S8, .i1⟩
  | 15 => ⟨S8, .i1⟩
  | 16 => ⟨S8, .f32⟩
  | 17 => ⟨S_, .f32⟩
  | 18 => ⟨S8, .f32⟩
  | 19 => ⟨S8, .f32⟩
  | 20 => ⟨S_, .f32⟩
  | 21 => ⟨S8, .f32⟩
  | 22 => ⟨S8, .f32⟩
  | 23 => ⟨S_, .f32⟩
  | 24 => ⟨S8, .f32⟩
  | 25 => ⟨S8, .f32⟩
  | 26 => ⟨S_, .f32⟩
  | 27 => ⟨S8, .f32⟩
  | 28 => ⟨S8, .f32⟩
  | 29 => ⟨S128, .i32⟩
  | 30 => ⟨S128x1, .i32⟩
  | 31 => ⟨S384, .i32⟩
  | 32 => ⟨S1x384, .i32⟩
  | 33 => ⟨S_, .i32⟩
  | 34 => ⟨S1x384, .i32⟩
  | 35 => ⟨S1x384, .i32⟩
  | 36 => ⟨S128x384, .i32⟩
  | 37 => ⟨S128x384, .i32⟩
  | 38 => ⟨S128x384, .i32⟩
  | 39 => ⟨S128x384, .i32⟩
  | 40 => ⟨S8x1x1, .f32⟩
  | 41 => ⟨S8x1x1, .f32⟩
  | 42 => ⟨S128x384, .f32⟩
  | 43 => ⟨S1x128x384, .f32⟩
  | 44 => ⟨S8x128x384, .f32⟩
  | 45 => ⟨S8x128x384, .f32⟩
  | 46 => ⟨S8x128x384, .f32⟩
  | 47 => ⟨S_, .i32⟩
  | 48 => ⟨S128x384, .i32⟩
  | 49 => ⟨S128x384, .i1⟩
  | 50 => ⟨S1x128x384, .i1⟩
  | 51 => ⟨S_, .f32⟩
  | 52 => ⟨S_, .f32⟩
  | 53 => ⟨S8x128x384, .i1⟩
  | 54 => ⟨S8x128x384, .f32⟩
  | 55 => ⟨S8x128x384, .f32⟩
  | 56 => ⟨S65536x1024, .f32⟩
  | 57 => ⟨S1024x4352, .f32⟩
  | 58 => ⟨S1024x512, .f32⟩
  | 59 => ⟨S1024x8x64, .f32⟩
  | 60 => ⟨S_, .i32⟩
  | 61 => ⟨S8, .i32⟩
  | 62 => ⟨S8, .i32⟩
  | 63 => ⟨S8, .i32⟩
  | 64 => ⟨S8x1, .i32⟩
  | 65 => ⟨S1024x8x64, .f32⟩
  | 66 => ⟨S1024x512, .f32⟩
  | 67 => ⟨S_, .f32⟩
  | 68 => ⟨S1024x512, .f32⟩
  | 69 => ⟨S1024x512, .f32⟩
  | 70 => ⟨S1024x256, .f32⟩
  | 71 => ⟨S1024x512, .f32⟩
  | 72 => ⟨S_, .f32⟩
  | 73 => ⟨S1024x512, .f32⟩
  | 74 => ⟨S1024x512, .f32⟩
  | 75 => ⟨S1024x3072, .f32⟩
  | 76 => ⟨S1024x4352, .f32⟩
  | 77 => ⟨S1024, .f32⟩
  | 78 => ⟨S1x1024, .f32⟩
  | 79 => ⟨S1024x4352, .bf16⟩
  | 80 => ⟨S2048, .f32⟩
  | 81 => ⟨S1x2048, .f32⟩
  | 82 => ⟨S65536x512, .bf16⟩
  | 83 => ⟨S65536x256, .bf16⟩
  | 84 => ⟨S65536x512, .bf16⟩
  | 85 => ⟨S65536x1024, .bf16⟩
  | 86 => ⟨S65536x2048, .bf16⟩
  | 87 => ⟨S8, .f32⟩
  | 88 => ⟨S65536x512, .bf16⟩
  | 89 => ⟨S8x15x31, .f32⟩
  | 90 => ⟨S64, .i32⟩
  | 91 => ⟨S64x1, .i32⟩
  | 92 => ⟨S64, .i32⟩
  | 93 => ⟨S1x64, .i32⟩
  | 94 => ⟨S_, .i32⟩
  | 95 => ⟨S64x1, .i32⟩
  | 96 => ⟨S64x1, .i32⟩
  | 97 => ⟨S_, .i32⟩
  | 98 => ⟨S_, .i32⟩
  | 99 => ⟨S_, .i32⟩
  | 100 => ⟨S64x1, .i32⟩
  | 101 => ⟨S64x1, .i32⟩
  | 102 => ⟨S_, .i32⟩
  | 103 => ⟨S64x1, .i32⟩
  | 104 => ⟨S64x1, .i32⟩
  | 105 => ⟨S64x64, .i32⟩
  | 106 => ⟨S64x64, .i32⟩
  | 107 => ⟨S64x64, .i1⟩
  | 108 => ⟨S_, .i32⟩
  | 109 => ⟨S64x1, .i32⟩
  | 110 => ⟨S64x1, .i32⟩
  | 111 => ⟨S64x64, .i32⟩
  | 112 => ⟨S64x64, .i32⟩
  | 113 => ⟨S64x64, .i1⟩
  | 114 => ⟨S64x64, .i1⟩
  | 115 => ⟨S64x64, .i32⟩
  | 116 => ⟨S64x64, .i32⟩
  | 117 => ⟨S64x64, .i32⟩
  | 118 => ⟨S_, .i32⟩
  | 119 => ⟨S64x64, .i32⟩
  | 120 => ⟨S64x64, .i32⟩
  | 121 => ⟨S_, .i32⟩
  | 122 => ⟨S_, .i32⟩
  | 123 => ⟨S_, .i32⟩
  | 124 => ⟨S64x64, .i32⟩
  | 125 => ⟨S64x64, .i32⟩
  | 126 => ⟨S_, .i32⟩
  | 127 => ⟨S64x64, .i32⟩
  | _ => ⟨S8x8192x1024, .f32⟩

abbrev hbmTy0_1 (i : Nat) : BufTy := match i % 128 with
  | 0 => ⟨S64x64, .i32⟩
  | 1 => ⟨S1x1x64x64, .i1⟩
  | 2 => ⟨S_, .i32⟩
  | 3 => ⟨S64x64, .i32⟩
  | 4 => ⟨S64x64, .i1⟩
  | 5 => ⟨S_, .i32⟩
  | 6 => ⟨S64x64, .i32⟩
  | 7 => ⟨S64x64, .i32⟩
  | 8 => ⟨S64x64, .i32⟩
  | 9 => ⟨S64x64x1, .i32⟩
  | 10 => ⟨S8x15x64x64, .f32⟩
  | 11 => ⟨S_, .f32⟩
  | 12 => ⟨S_, .f32⟩
  | 13 => ⟨S8x15x64x64, .i1⟩
  | 14 => ⟨S8x15x64x64, .f32⟩
  | 15 => ⟨S8x15x64x64, .f32⟩
  | 16 => ⟨S8x8x64x64, .f32⟩
  | 17 => ⟨S8x8x64x64, .f32⟩
  | 18 => ⟨S8x8x64x64, .f32⟩
  | 19 => ⟨S8x8x64x64, .f32⟩
  | 20 => ⟨S8x8x64x64, .f32⟩
  | 21 => ⟨S8x8x64x64, .f32⟩
  | 22 => ⟨S8x8x64x64, .f32⟩
  | 23 => ⟨S8x8x64x64, .f32⟩
  | 24 => ⟨S1x8x8x64x64, .f32⟩
  | 25 => ⟨S1x8x8x64x64, .f32⟩
  | 26 => ⟨S1x8x8x64x64, .f32⟩
  | 27 => ⟨S1x8x8x64x64, .f32⟩
  | 28 => ⟨S1x8x8x64x64, .f32⟩
  | 29 => ⟨S1x8x8x64x64, .f32⟩
  | 30 => ⟨S1x8x8x64x64, .f32⟩
  | 31 => ⟨S1x8x8x64x64, .f32⟩
  | 32 => ⟨S8x8x8x64x64, .f32⟩
  | 33 => ⟨S8x8x64x8x64, .f32⟩
  | 34 => ⟨S8x8x64x512, .f32⟩
  | 35 => ⟨S65536x512, .bf16⟩
  | 36 => ⟨S512x1024, .f32⟩
  | 37 => ⟨S8x64x1024, .f32⟩
  | 38 => ⟨S_, .i32⟩
  | 39 => ⟨S8, .i32⟩
  | 40 => ⟨S8, .i32⟩
  | 41 => ⟨S8, .i32⟩
  | 42 => ⟨S8x1, .i32⟩
  | 43 => ⟨S8x64x1024, .f32⟩
  | 44 => ⟨S512x1024, .f32⟩
  | 45 => ⟨S512x1024, .bf16⟩
  | 46 => ⟨S512x1024, .f32⟩
  | 47 => ⟨S512x1024, .bf16⟩
  | 48 => ⟨S1024x1024, .f32⟩
  | 49 => ⟨S1024x1024, .bf16⟩
  | 50 => ⟨S1024, .f32⟩
  | 51 => ⟨S1x1024, .f32⟩
  | 52 => ⟨S1024x4096, .f32⟩
  | 53 => ⟨S1024x4096, .bf16⟩
  | 54 => ⟨S4096x1024, .f32⟩
  | 55 => ⟨S4096x1024, .bf16⟩
  | 56 => ⟨S1x1024, .f32⟩
  | 57 => ⟨S65536x1024, .f32⟩
  | 58 => ⟨S8x8192x1024, .f32⟩
  | _ => ⟨S8x8192x1024, .f32⟩

abbrev hbmTy (i : Nat) : BufTy := match i / 128 with
  | 0 => hbmTy0_0 i
  | 1 => hbmTy0_1 i
  | _ => ⟨S8x8192x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4352, .bf16⟩
  | .local _ .vmem, ⟨4, _⟩ => ⟨S1x2048, .f32⟩
  | .local _ .vmem, ⟨5, _⟩ => ⟨S512x512, .bf16⟩
  | .local _ .vmem, ⟨6, _⟩ => ⟨S512x512, .bf16⟩
  | .local _ .vmem, ⟨7, _⟩ => ⟨S512x256, .bf16⟩
  | .local _ .vmem, ⟨8, _⟩ => ⟨S512x256, .bf16⟩
  | .local _ .vmem, ⟨9, _⟩ => ⟨S512x512, .bf16⟩
  | .local _ .vmem, ⟨10, _⟩ => ⟨S512x512, .bf16⟩
  | .local _ .vmem, ⟨11, _⟩ => ⟨S512x1024, .bf16⟩
  | .local _ .vmem, ⟨12, _⟩ => ⟨S512x1024, .bf16⟩
  | .local _ .vmem, ⟨13, _⟩ => ⟨S512x2048, .bf16⟩
  | .local _ .vmem, ⟨14, _⟩ => ⟨S512x2048, .bf16⟩
  | .local _ .vmem, ⟨15, _⟩ => ⟨S512x512, .bf16⟩
  | .local _ .vmem, ⟨16, _⟩ => ⟨S512x512, .bf16⟩
  | .local _ .vmem, ⟨17, _⟩ => ⟨S128x256, .bf16⟩
  | .local _ .vmem, ⟨18, _⟩ => ⟨S128x256, .bf16⟩
  | .local _ .vmem, ⟨19, _⟩ => ⟨S512x256, .bf16⟩
  | .local _ .vmem, ⟨20, _⟩ => ⟨S512x256, .bf16⟩
  | .local _ .vmem, ⟨21, _⟩ => ⟨S128x256, .bf16⟩
  | .local _ .vmem, ⟨22, _⟩ => ⟨S128x256, .bf16⟩
  | .local _ .vmem, ⟨23, _⟩ => ⟨S8x128x384, .f32⟩
  | .local _ .vmem, ⟨24, _⟩ => ⟨S512x512, .bf16⟩
  | .local _ .vmem, ⟨25, _⟩ => ⟨S512x512, .bf16⟩
  | .local _ .vmem, ⟨26, _⟩ => ⟨S768x256, .bf16⟩
  | .local _ .vmem, ⟨27, _⟩ => ⟨S512x512, .bf16⟩
  | .local _ .vmem, ⟨28, _⟩ => ⟨S512x512, .bf16⟩
  | .local _ .vmem, ⟨29, _⟩ => ⟨S1024x1024, .bf16⟩
  | .local _ .vmem, ⟨30, _⟩ => ⟨S1024x1024, .bf16⟩
  | .local _ .vmem, ⟨31, _⟩ => ⟨S8x8x64x512, .f32⟩
  | .local _ .vmem, ⟨32, _⟩ => ⟨S512x512, .bf16⟩
  | .local _ .vmem, ⟨33, _⟩ => ⟨S512x512, .bf16⟩
  | .local _ .vmem, ⟨34, _⟩ => ⟨S512x1024, .f32⟩
  | .local _ .vmem, ⟨35, _⟩ => ⟨S512x1024, .f32⟩
  | .local _ .vmem, ⟨36, _⟩ => ⟨S512x512, .bf16⟩
  | .local _ .vmem, ⟨37, _⟩ => ⟨S512x512, .bf16⟩
  | .local _ .vmem, ⟨38, _⟩ => ⟨S512x512, .bf16⟩
  | .local _ .vmem, ⟨39, _⟩ => ⟨S512x512, .bf16⟩
  | .local _ .vmem, ⟨40, _⟩ => ⟨S512x2048, .bf16⟩
  | .local _ .vmem, ⟨41, _⟩ => ⟨S512x2048, .bf16⟩
  | .local _ .vmem, ⟨42, _⟩ => ⟨S512x1024, .bf16⟩
  | .local _ .vmem, ⟨43, _⟩ => ⟨S512x1024, .bf16⟩
  | .local _ .vmem, ⟨44, _⟩ => ⟨S1024x1024, .bf16⟩
  | .local _ .vmem, ⟨45, _⟩ => ⟨S1x1024, .f32⟩
  | .local _ .vmem, ⟨46, _⟩ => ⟨S1024x4096, .bf16⟩
  | .local _ .vmem, ⟨47, _⟩ => ⟨S4096x1024, .bf16⟩
  | .local _ .vmem, ⟨48, _⟩ => ⟨S1x1024, .f32⟩
  | .local _ .vmem, ⟨49, _⟩ => ⟨S512x1024, .f32⟩
  | .local _ .vmem, ⟨50, _⟩ => ⟨S512x1024, .f32⟩
  | .local _ .smem, ⟨0, _⟩ => ⟨S8, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .smem, ⟨0, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_c_0 : Ref sig .tc := ⟨.hbm, 14, rfl⟩
abbrev main_c_1 : Ref sig .tc := ⟨.hbm, 15, rfl⟩
abbrev main_v0 : Ref sig .tc := ⟨.hbm, 16, rfl⟩
abbrev main_cst : Ref sig .tc := ⟨.hbm, 17, rfl⟩
abbrev main_v1 : Ref sig .tc := ⟨.hbm, 18, rfl⟩
abbrev main_v2 : Ref sig .tc := ⟨.hbm, 19, rfl⟩
abbrev main_cst_2 : Ref sig .tc := ⟨.hbm, 20, rfl⟩
abbrev main_v3 : Ref sig .tc := ⟨.hbm, 21, rfl⟩
abbrev main_v4 : Ref sig .tc := ⟨.hbm, 22, rfl⟩
abbrev main_cst_3 : Ref sig .tc := ⟨.hbm, 23, rfl⟩
abbrev main_v5 : Ref sig .tc := ⟨.hbm, 24, rfl⟩
abbrev main_v6 : Ref sig .tc := ⟨.hbm, 25, rfl⟩
abbrev main_cst_4 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_c_5 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_c_6 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_7 : Ref sig .tc := ⟨.hbm, 51, rfl⟩
abbrev main_call0_v0 : Ref sig .tc := ⟨.hbm, 52, rfl⟩
abbrev main_call0_v1 : Ref sig .tc := ⟨.hbm, 53, rfl⟩
abbrev main_call0_v2 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_c_8 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_9 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_10 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53_0 : Ref sig .tc := ⟨.hbm, 82, rfl⟩
abbrev main_v53_1 : Ref sig .tc := ⟨.hbm, 83, rfl⟩
abbrev main_v53_2 : Ref sig .tc := ⟨.hbm, 84, rfl⟩
abbrev main_v53_3 : Ref sig .tc := ⟨.hbm, 85, rfl⟩
abbrev main_v53_4 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_c_11 : Ref sig .tc := ⟨.hbm, 94, rfl⟩
abbrev main_v61 : Ref sig .tc := ⟨.hbm, 95, rfl⟩
abbrev main_v62 : Ref sig .tc := ⟨.hbm, 96, rfl⟩
abbrev main_c_12 : Ref sig .tc := ⟨.hbm, 97, rfl⟩
abbrev main_c_13 : Ref sig .tc := ⟨.hbm, 98, rfl⟩
abbrev main_call1_v0 : Ref sig .tc := ⟨.hbm, 99, rfl⟩
abbrev main_call1_v1 : Ref sig .tc := ⟨.hbm, 100, rfl⟩
abbrev main_call1_v2 : Ref sig .tc := ⟨.hbm, 101, rfl⟩
abbrev main_call1_v3 : Ref sig .tc := ⟨.hbm, 102, rfl⟩
abbrev main_call1_v4 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_c_14 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_c_15 : Ref sig .tc := ⟨.hbm, 118, rfl⟩
abbrev main_v76 : Ref sig .tc := ⟨.hbm, 119, rfl⟩
abbrev main_v77 : Ref sig .tc := ⟨.hbm, 120, rfl⟩
abbrev main_c_16 : Ref sig .tc := ⟨.hbm, 121, rfl⟩
abbrev main_c_17 : Ref sig .tc := ⟨.hbm, 122, rfl⟩
abbrev main_call2_v0 : Ref sig .tc := ⟨.hbm, 123, rfl⟩
abbrev main_call2_v1 : Ref sig .tc := ⟨.hbm, 124, rfl⟩
abbrev main_call2_v2 : Ref sig .tc := ⟨.hbm, 125, rfl⟩
abbrev main_call2_v3 : Ref sig .tc := ⟨.hbm, 126, rfl⟩
abbrev main_call2_v4 : Ref sig .tc := ⟨.hbm, 127, rfl⟩
abbrev main_v78 : Ref sig .tc := ⟨.hbm, 128, rfl⟩
abbrev main_v79 : Ref sig .tc := ⟨.hbm, 129, rfl⟩
abbrev main_c_18 : Ref sig .tc := ⟨.hbm, 130, rfl⟩
abbrev main_v80 : Ref sig .tc := ⟨.hbm, 131, rfl⟩
abbrev main_v81 : Ref sig .tc := ⟨.hbm, 132, rfl⟩
abbrev main_c_19 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_cst_20 : Ref sig .tc := ⟨.hbm, 139, rfl⟩
abbrev main_call3_v0 : Ref sig .tc := ⟨.hbm, 140, rfl⟩
abbrev main_call3_v1 : Ref sig .tc := ⟨.hbm, 141, rfl⟩
abbrev main_call3_v2 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_c_21 : Ref sig .tc := ⟨.hbm, 166, rfl⟩
abbrev main_v110 : Ref sig .tc := ⟨.hbm, 167, rfl⟩
abbrev main_v111 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_v115 : Ref sig .tc := ⟨.hbm, 172, rfl⟩
abbrev main_v116 : Ref sig .tc := ⟨.hbm, 173, rfl⟩
abbrev main_v117 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg4_1 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg6_1 : Ref sig .tc := ⟨.vmem, 25, rfl⟩
abbrev cc1_scratch0 : Ref sig .tc := ⟨.vmem, 26, rfl⟩
abbrev cc2_stg0_0 : Ref sig .tc := ⟨.vmem, 27, rfl⟩
abbrev cc2_stg0_1 : Ref sig .tc := ⟨.vmem, 28, rfl⟩
abbrev cc2_stg1_0 : Ref sig .tc := ⟨.vmem, 29, rfl⟩
abbrev cc2_stg1_1 : Ref sig .tc := ⟨.vmem, 30, rfl⟩
abbrev cc2_stg2_0 : Ref sig .tc := ⟨.vmem, 31, rfl⟩
abbrev cc2_stg3_0 : Ref sig .tc := ⟨.vmem, 32, rfl⟩
abbrev cc2_stg3_1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg1_1 : Ref sig .tc := ⟨.vmem, 37, rfl⟩
abbrev cc3_stg2_0 : Ref sig .tc := ⟨.vmem, 38, rfl⟩
abbrev cc3_stg2_1 : Ref sig .tc := ⟨.vmem, 39, rfl⟩
abbrev cc3_stg3_0 : Ref sig .tc := ⟨.vmem, 40, rfl⟩
abbrev cc3_stg3_1 : Ref sig .tc := ⟨.vmem, 41, rfl⟩
abbrev cc3_stg4_0 : Ref sig .tc := ⟨.vmem, 42, rfl⟩
abbrev cc3_stg5_0 : Ref sig .tc := ⟨.vmem, 43, rfl⟩
abbrev cc3_stg6_0 : Ref sig .tc := ⟨.vmem, 44, rfl⟩
abbrev cc3_stg7_0 : Ref sig .tc := ⟨.vmem, 45, rfl⟩
abbrev cc3_stg8_0 : Ref sig .tc := ⟨.vmem, 46, rfl⟩
abbrev cc3_stg9_0 : Ref sig .tc := ⟨.vmem, 47, rfl⟩
abbrev cc3_stg10_0 : Ref sig .tc := ⟨.vmem, 48, rfl⟩
abbrev cc3_stg11_0 : Ref sig .tc := ⟨.vmem, 49, rfl⟩
abbrev cc3_stg11_1 : Ref sig .tc := ⟨.vmem, 50, rfl⟩
abbrev cc1_stg0_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc1_sem0_0 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem6_0 : DmaSem sig := 25
abbrev cc1_sem6_1 : DmaSem sig := 26
abbrev cc2_sem0_0 : DmaSem sig := 27
abbrev cc2_sem0_1 : DmaSem sig := 28
abbrev cc2_sem1_0 : DmaSem sig := 29
abbrev cc2_sem1_1 : DmaSem sig := 30
abbrev cc2_sem2_0 : DmaSem sig := 31
abbrev cc2_sem3_0 : DmaSem sig := 32
abbrev cc2_sem3_1 : DmaSem sig := 33
abbrev cc3_sem0_0 : DmaSem sig := 34
abbrev cc3_sem0_1 : DmaSem sig := 35
abbrev cc3_sem1_0 : DmaSem sig := 36
abbrev cc3_sem1_1 : DmaSem sig := 37
abbrev cc3_sem2_0 : DmaSem sig := 38
abbrev cc3_sem2_1 : DmaSem sig := 39
abbrev cc3_sem3_0 : DmaSem sig := 40
abbrev cc3_sem3_1 : DmaSem sig := 41
abbrev cc3_sem4_0 : DmaSem sig := 42
abbrev cc3_sem5_0 : DmaSem sig := 43
abbrev cc3_sem6_0 : DmaSem sig := 44
abbrev cc3_sem7_0 : DmaSem sig := 45
abbrev cc3_sem8_0 : DmaSem sig := 46
abbrev cc3_sem9_0 : DmaSem sig := 47
abbrev cc3_sem10_0 : DmaSem sig := 48
abbrev cc3_sem11_0 : DmaSem sig := 49
abbrev cc3_sem11_1 : DmaSem sig := 50

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4352 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![128], ![false]⟩

def cc1_transform_0 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c1_i32 : BitVec 32 := 1#32
  let v0 : BitVec 32 := Scalar.addi arg0 c1_i32
  let c4_i32 : BitVec 32 := 4#32
  let v1 : BitVec 32 := Scalar.muli v0 c4_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .smem S8 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S512x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S128x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S8x128x384 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S512x512 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![128], ![false]⟩

def k2_mult1 (i : grid2.Coords) : BitVec 32 :=
  let arg0 : BitVec 32 := BitVec.ofNat 32 (i 0).val
  let c0_i32_5 : BitVec 32 := 0#32
  let v15 : BitVec 1 := Scalar.cmpi .sgt arg0 c0_i32_5
  let v16 : BitVec 32 := Scalar.extui v15
  let c0_i32_6 : BitVec 32 := 0#32
  let v17 : BitVec 1 := Scalar.cmpi .slt arg0 c0_i32_6
  let v18 : BitVec 32 := Scalar.extui v17
  let v19 : BitVec 32 := Scalar.subi v16 v18
  let c16_i32_4 : BitVec 32 := 16#32
  let c0_i32_7 : BitVec 32 := 0#32
  let v20 : BitVec 1 := Scalar.cmpi .sgt c16_i32_4 c0_i32_7
  let v21 : BitVec 32 := Scalar.extui v20
  let c0_i32_8 : BitVec 32 := 0#32
  let v22 : BitVec 1 := Scalar.cmpi .slt c16_i32_4 c0_i32_8
  let v23 : BitVec 32 := Scalar.extui v22
  let v24 : BitVec 32 := Scalar.subi v21 v23
  let v25 : BitVec 1 := Scalar.cmpi .ne v19 v24
  let v26 : BitVec 32 := Scalar.remsi arg0 c16_i32_4
  let c0_i32_9 : BitVec 32 := 0#32
  let v27 : BitVec 1 := Scalar.cmpi .ne v26 c0_i32_9
  let v28 : BitVec 1 := Scalar.andi v25 v27
  let v14 : BitVec 32 := Scalar.divsi arg0 c16_i32_4
  let c1_i32_10 : BitVec 32 := 1#32
  let v29 : BitVec 32 := Scalar.subi v14 c1_i32_10
  let v30 : BitVec 32 := Scalar.select v28 v29 v14
  let c8192_i32 : BitVec 32 := 8192#32
  let v31 : BitVec 32 := Scalar.muli v30 c8192_i32
  let c112_i32 : BitVec 32 := 112#32
  let c0_i32_3 : BitVec 32 := 0#32
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c8_i32 : BitVec 32 := 8#32
  let v10 : BitVec 32 := Scalar.muli v9 c8_i32
  let c4_i32 : BitVec 32 := 4#32
  let v11 : BitVec 32 := Scalar.subi v10 c4_i32
  let v12 : BitVec 32 := Scalar.maxsi c0_i32_3 v11
  let v13 : BitVec 32 := Scalar.minsi c112_i32 v12
  let c64_i32 : BitVec 32 := 64#32
  let v32 : BitVec 32 := Scalar.muli v13 c64_i32
  let v33 : BitVec 32 := Scalar.addi v31 v32
  v33
@[reducible] def k2_t1_loop : Scf.Loop 32 :=
  let c0_i32_4 : BitVec 32 := 0#32
  let c8_i32_5 : BitVec 32 := 8#32
  let v14 : BitVec 32 := Scalar.addi c0_i32_4 c8_i32_5
  let c1_i32_6 : BitVec 32 := 1#32
  ⟨c0_i32_4, v14, c1_i32_6⟩
def k2_mult2 (i : grid2.Coords) (k2_t1 : Fin k2_t1_loop.trips) : BitVec 32 :=
  let c120_i32 : BitVec 32 := 120#32
  let c0_i32_9 : BitVec 32 := 0#32
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c8_i32 : BitVec 32 := 8#32
  let v10 : BitVec 32 := Scalar.muli v9 c8_i32
  let c0_i32_4 : BitVec 32 := 0#32
  let c1_i32_6 : BitVec 32 := 1#32
  let arg5 : BitVec 32 := Scf.iv c0_i32_4 c1_i32_6 k2_t1
  let v15 : BitVec 32 := Scalar.addi v10 arg5
  let c4_i32_8 : BitVec 32 := 4#32
  let v16 : BitVec 32 := Scalar.subi v15 c4_i32_8
  let v17 : BitVec 32 := Scalar.maxsi c0_i32_9 v16
  let v18 : BitVec 32 := Scalar.minsi c120_i32 v17
  let c112_i32 : BitVec 32 := 112#32
  let c0_i32_3 : BitVec 32 := 0#32
  let c4_i32 : BitVec 32 := 4#32
  let v11 : BitVec 32 := Scalar.subi v10 c4_i32
  let v12 : BitVec 32 := Scalar.maxsi c0_i32_3 v11
  let v13 : BitVec 32 := Scalar.minsi c112_i32 v12
  let v19 : BitVec 32 := Scalar.subi v18 v13
  let c64_i32 : BitVec 32 := 64#32
  let v20 : BitVec 32 := Scalar.muli v19 c64_i32
  v20
def k2_mult3 (k2_t1 : Fin k2_t1_loop.trips) : BitVec 32 :=
  let c0_i32_4 : BitVec 32 := 0#32
  let c1_i32_6 : BitVec 32 := 1#32
  let arg5 : BitVec 32 := Scf.iv c0_i32_4 c1_i32_6 k2_t1
  let c64_i32_10 : BitVec 32 := 64#32
  let v24 : BitVec 32 := Scalar.muli arg5 c64_i32_10
  v24
def k2_off1 (k2_t1 : Fin k2_t1_loop.trips) : Fin 2 → Nat :=
  let c0_i32_4 : BitVec 32 := 0#32
  let c1_i32_6 : BitVec 32 := 1#32
  let arg5 : BitVec 32 := Scf.iv c0_i32_4 c1_i32_6 k2_t1
  let c64_i32_10 : BitVec 32 := 64#32
  let v24 : BitVec 32 := Scalar.muli arg5 c64_i32_10
  let v25 : BitVec 32 := v24
  let v26 : Index := Scalar.indexCast v25
  let c0 : Index := 0#32
  ![v26.toNat, 0]
def k2_off2 (i : grid2.Coords) (k2_t1 : Fin k2_t1_loop.trips) : Fin 2 → Nat :=
  let c120_i32 : BitVec 32 := 120#32
  let c0_i32_9 : BitVec 32 := 0#32
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c8_i32 : BitVec 32 := 8#32
  let v10 : BitVec 32 := Scalar.muli v9 c8_i32
  let c0_i32_4 : BitVec 32 := 0#32
  let c1_i32_6 : BitVec 32 := 1#32
  let arg5 : BitVec 32 := Scf.iv c0_i32_4 c1_i32_6 k2_t1
  let v15 : BitVec 32 := Scalar.addi v10 arg5
  let c4_i32_8 : BitVec 32 := 4#32
  let v16 : BitVec 32 := Scalar.subi v15 c4_i32_8
  let v17 : BitVec 32 := Scalar.maxsi c0_i32_9 v16
  let v18 : BitVec 32 := Scalar.minsi c120_i32 v17
  let c112_i32 : BitVec 32 := 112#32
  let c0_i32_3 : BitVec 32 := 0#32
  let c4_i32 : BitVec 32 := 4#32
  let v11 : BitVec 32 := Scalar.subi v10 c4_i32
  let v12 : BitVec 32 := Scalar.maxsi c0_i32_3 v11
  let v13 : BitVec 32 := Scalar.minsi c112_i32 v12
  let v19 : BitVec 32 := Scalar.subi v18 v13
  let c64_i32 : BitVec 32 := 64#32
  let v20 : BitVec 32 := Scalar.muli v19 c64_i32
  let v21 : BitVec 32 := v20
  let v36 : Index := Scalar.indexCast v21
  let c0_12 : Index := 0#32
  ![v36.toNat, 0]
def k2_off3 (i : grid2.Coords) (k2_t1 : Fin k2_t1_loop.trips) : Fin 2 → Nat :=
  let c120_i32 : BitVec 32 := 120#32
  let c0_i32_9 : BitVec 32 := 0#32
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c8_i32 : BitVec 32 := 8#32
  let v10 : BitVec 32 := Scalar.muli v9 c8_i32
  let c0_i32_4 : BitVec 32 := 0#32
  let c1_i32_6 : BitVec 32 := 1#32
  let arg5 : BitVec 32 := Scf.iv c0_i32_4 c1_i32_6 k2_t1
  let v15 : BitVec 32 := Scalar.addi v10 arg5
  let c4_i32_8 : BitVec 32 := 4#32
  let v16 : BitVec 32 := Scalar.subi v15 c4_i32_8
  let v17 : BitVec 32 := Scalar.maxsi c0_i32_9 v16
  let v18 : BitVec 32 := Scalar.minsi c120_i32 v17
  let c112_i32 : BitVec 32 := 112#32
  let c0_i32_3 : BitVec 32 := 0#32
  let c4_i32 : BitVec 32 := 4#32
  let v11 : BitVec 32 := Scalar.subi v10 c4_i32
  let v12 : BitVec 32 := Scalar.maxsi c0_i32_3 v11
  let v13 : BitVec 32 := Scalar.minsi c112_i32 v12
  let v19 : BitVec 32 := Scalar.subi v18 v13
  let c64_i32 : BitVec 32 := 64#32
  let v20 : BitVec 32 := Scalar.muli v19 c64_i32
  let v21 : BitVec 32 := v20
  let v39 : Index := Scalar.indexCast v21
  let c512 : Index := 512#32
  ![v39.toNat, 512]
def k2_off4 (i : grid2.Coords) (k2_t1 : Fin k2_t1_loop.trips) : Fin 4 → Nat :=
  let c120_i32 : BitVec 32 := 120#32
  let c0_i32_9 : BitVec 32 := 0#32
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c8_i32 : BitVec 32 := 8#32
  let v10 : BitVec 32 := Scalar.muli v9 c8_i32
  let c0_i32_4 : BitVec 32 := 0#32
  let c1_i32_6 : BitVec 32 := 1#32
  let arg5 : BitVec 32 := Scf.iv c0_i32_4 c1_i32_6 k2_t1
  let v15 : BitVec 32 := Scalar.addi v10 arg5
  let c4_i32_8 : BitVec 32 := 4#32
  let v16 : BitVec 32 := Scalar.subi v15 c4_i32_8
  let v17 : BitVec 32 := Scalar.maxsi c0_i32_9 v16
  let v18 : BitVec 32 := Scalar.minsi c120_i32 v17
  let v22 : BitVec 32 := Scalar.subi v18 v15
  let c7_i32 : BitVec 32 := 7#32
  let v23 : BitVec 32 := Scalar.addi v22 c7_i32
  let v44 : Index := Scalar.indexCast v23
  let c0_14 : Index := 0#32
  let c0_15 : Index := 0#32
  let c0_16 : Index := 0#32
  ![v44.toNat, 0, 0, 0]
def k2_off5 (i : grid2.Coords) (k2_t1 : Fin k2_t1_loop.trips) : Fin 4 → Nat :=
  let c120_i32 : BitVec 32 := 120#32
  let c0_i32_9 : BitVec 32 := 0#32
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c8_i32 : BitVec 32 := 8#32
  let v10 : BitVec 32 := Scalar.muli v9 c8_i32
  let c0_i32_4 : BitVec 32 := 0#32
  let c1_i32_6 : BitVec 32 := 1#32
  let arg5 : BitVec 32 := Scf.iv c0_i32_4 c1_i32_6 k2_t1
  let v15 : BitVec 32 := Scalar.addi v10 arg5
  let c4_i32_8 : BitVec 32 := 4#32
  let v16 : BitVec 32 := Scalar.subi v15 c4_i32_8
  let v17 : BitVec 32 := Scalar.maxsi c0_i32_9 v16
  let v18 : BitVec 32 := Scalar.minsi c120_i32 v17
  let v22 : BitVec 32 := Scalar.subi v18 v15
  let c7_i32 : BitVec 32 := 7#32
  let v23 : BitVec 32 := Scalar.addi v22 c7_i32
  let v57 : Index := Scalar.indexCast v23
  let c1 : Index := 1#32
  let c0_19 : Index := 0#32
  let c0_20 : Index := 0#32
  ![v57.toNat, 1, 0, 0]
def k2_off6 (k2_t1 : Fin k2_t1_loop.trips) : Fin 2 → Nat :=
  let c0_i32_4 : BitVec 32 := 0#32
  let c1_i32_6 : BitVec 32 := 1#32
  let arg5 : BitVec 32 := Scf.iv c0_i32_4 c1_i32_6 k2_t1
  let c64_i32_10 : BitVec 32 := 64#32
  let v24 : BitVec 32 := Scalar.muli arg5 c64_i32_10
  let v25 : BitVec 32 := v24
  let v90 : Index := Scalar.indexCast v25
  let c128 : Index := 128#32
  ![v90.toNat, 128]
def k2_off7 (i : grid2.Coords) (k2_t1 : Fin k2_t1_loop.trips) : Fin 2 → Nat :=
  let c120_i32 : BitVec 32 := 120#32
  let c0_i32_9 : BitVec 32 := 0#32
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c8_i32 : BitVec 32 := 8#32
  let v10 : BitVec 32 := Scalar.muli v9 c8_i32
  let c0_i32_4 : BitVec 32 := 0#32
  let c1_i32_6 : BitVec 32 := 1#32
  let arg5 : BitVec 32 := Scf.iv c0_i32_4 c1_i32_6 k2_t1
  let v15 : BitVec 32 := Scalar.addi v10 arg5
  let c4_i32_8 : BitVec 32 := 4#32
  let v16 : BitVec 32 := Scalar.subi v15 c4_i32_8
  let v17 : BitVec 32 := Scalar.maxsi c0_i32_9 v16
  let v18 : BitVec 32 := Scalar.minsi c120_i32 v17
  let c112_i32 : BitVec 32 := 112#32
  let c0_i32_3 : BitVec 32 := 0#32
  let c4_i32 : BitVec 32 := 4#32
  let v11 : BitVec 32 := Scalar.subi v10 c4_i32
  let v12 : BitVec 32 := Scalar.maxsi c0_i32_3 v11
  let v13 : BitVec 32 := Scalar.minsi c112_i32 v12
  let v19 : BitVec 32 := Scalar.subi v18 v13
  let c64_i32 : BitVec 32 := 64#32
  let v20 : BitVec 32 := Scalar.muli v19 c64_i32
  let v21 : BitVec 32 := v20
  let v100 : Index := Scalar.indexCast v21
  let c128_30 : Index := 128#32
  ![v100.toNat, 128]
def k2_off8 (i : grid2.Coords) (k2_t1 : Fin k2_t1_loop.trips) : Fin 2 → Nat :=
  let c120_i32 : BitVec 32 := 120#32
  let c0_i32_9 : BitVec 32 := 0#32
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c8_i32 : BitVec 32 := 8#32
  let v10 : BitVec 32 := Scalar.muli v9 c8_i32
  let c0_i32_4 : BitVec 32 := 0#32
  let c1_i32_6 : BitVec 32 := 1#32
  let arg5 : BitVec 32 := Scf.iv c0_i32_4 c1_i32_6 k2_t1
  let v15 : BitVec 32 := Scalar.addi v10 arg5
  let c4_i32_8 : BitVec 32 := 4#32
  let v16 : BitVec 32 := Scalar.subi v15 c4_i32_8
  let v17 : BitVec 32 := Scalar.maxsi c0_i32_9 v16
  let v18 : BitVec 32 := Scalar.minsi c120_i32 v17
  let c112_i32 : BitVec 32 := 112#32
  let c0_i32_3 : BitVec 32 := 0#32
  let c4_i32 : BitVec 32 := 4#32
  let v11 : BitVec 32 := Scalar.subi v10 c4_i32
  let v12 : BitVec 32 := Scalar.maxsi c0_i32_3 v11
  let v13 : BitVec 32 := Scalar.minsi c112_i32 v12
  let v19 : BitVec 32 := Scalar.subi v18 v13
  let c64_i32 : BitVec 32 := 64#32
  let v20 : BitVec 32 := Scalar.muli v19 c64_i32
  let v21 : BitVec 32 := v20
  let v103 : Index := Scalar.indexCast v21
  let c640 : Index := 640#32
  ![v103.toNat, 640]
def k2_off9 (i : grid2.Coords) (k2_t1 : Fin k2_t1_loop.trips) : Fin 4 → Nat :=
  let c120_i32 : BitVec 32 := 120#32
  let c0_i32_9 : BitVec 32 := 0#32
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c8_i32 : BitVec 32 := 8#32
  let v10 : BitVec 32 := Scalar.muli v9 c8_i32
  let c0_i32_4 : BitVec 32 := 0#32
  let c1_i32_6 : BitVec 32 := 1#32
  let arg5 : BitVec 32 := Scf.iv c0_i32_4 c1_i32_6 k2_t1
  let v15 : BitVec 32 := Scalar.addi v10 arg5
  let c4_i32_8 : BitVec 32 := 4#32
  let v16 : BitVec 32 := Scalar.subi v15 c4_i32_8
  let v17 : BitVec 32 := Scalar.maxsi c0_i32_9 v16
  let v18 : BitVec 32 := Scalar.minsi c120_i32 v17
  let v22 : BitVec 32 := Scalar.subi v18 v15
  let c7_i32 : BitVec 32 := 7#32
  let v23 : BitVec 32 := Scalar.addi v22 c7_i32
  let v108 : Index := Scalar.indexCast v23
  let c2 : Index := 2#32
  let c0_32 : Index := 0#32
  let c0_33 : Index := 0#32
  ![v108.toNat, 2, 0, 0]
def k2_off10 (i : grid2.Coords) (k2_t1 : Fin k2_t1_loop.trips) : Fin 4 → Nat :=
  let c120_i32 : BitVec 32 := 120#32
  let c0_i32_9 : BitVec 32 := 0#32
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c8_i32 : BitVec 32 := 8#32
  let v10 : BitVec 32 := Scalar.muli v9 c8_i32
  let c0_i32_4 : BitVec 32 := 0#32
  let c1_i32_6 : BitVec 32 := 1#32
  let arg5 : BitVec 32 := Scf.iv c0_i32_4 c1_i32_6 k2_t1
  let v15 : BitVec 32 := Scalar.addi v10 arg5
  let c4_i32_8 : BitVec 32 := 4#32
  let v16 : BitVec 32 := Scalar.subi v15 c4_i32_8
  let v17 : BitVec 32 := Scalar.maxsi c0_i32_9 v16
  let v18 : BitVec 32 := Scalar.minsi c120_i32 v17
  let v22 : BitVec 32 := Scalar.subi v18 v15
  let c7_i32 : BitVec 32 := 7#32
  let v23 : BitVec 32 := Scalar.addi v22 c7_i32
  let v121 : Index := Scalar.indexCast v23
  let c3 : Index := 3#32
  let c0_36 : Index := 0#32
  let c0_37 : Index := 0#32
  ![v121.toNat, 3, 0, 0]
def k2_off11 (k2_t1 : Fin k2_t1_loop.trips) : Fin 2 → Nat :=
  let c0_i32_4 : BitVec 32 := 0#32
  let c1_i32_6 : BitVec 32 := 1#32
  let arg5 : BitVec 32 := Scf.iv c0_i32_4 c1_i32_6 k2_t1
  let c64_i32_10 : BitVec 32 := 64#32
  let v24 : BitVec 32 := Scalar.muli arg5 c64_i32_10
  let v25 : BitVec 32 := v24
  let v154 : Index := Scalar.indexCast v25
  let c256 : Index := 256#32
  ![v154.toNat, 256]
def k2_off12 (i : grid2.Coords) (k2_t1 : Fin k2_t1_loop.trips) : Fin 2 → Nat :=
  let c120_i32 : BitVec 32 := 120#32
  let c0_i32_9 : BitVec 32 := 0#32
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c8_i32 : BitVec 32 := 8#32
  let v10 : BitVec 32 := Scalar.muli v9 c8_i32
  let c0_i32_4 : BitVec 32 := 0#32
  let c1_i32_6 : BitVec 32 := 1#32
  let arg5 : BitVec 32 := Scf.iv c0_i32_4 c1_i32_6 k2_t1
  let v15 : BitVec 32 := Scalar.addi v10 arg5
  let c4_i32_8 : BitVec 32 := 4#32
  let v16 : BitVec 32 := Scalar.subi v15 c4_i32_8
  let v17 : BitVec 32 := Scalar.maxsi c0_i32_9 v16
  let v18 : BitVec 32 := Scalar.minsi c120_i32 v17
  let c112_i32 : BitVec 32 := 112#32
  let c0_i32_3 : BitVec 32 := 0#32
  let c4_i32 : BitVec 32 := 4#32
  let v11 : BitVec 32 := Scalar.subi v10 c4_i32
  let v12 : BitVec 32 := Scalar.maxsi c0_i32_3 v11
  let v13 : BitVec 32 := Scalar.minsi c112_i32 v12
  let v19 : BitVec 32 := Scalar.subi v18 v13
  let c64_i32 : BitVec 32 := 64#32
  let v20 : BitVec 32 := Scalar.muli v19 c64_i32
  let v21 : BitVec 32 := v20
  let v164 : Index := Scalar.indexCast v21
  let c256_47 : Index := 256#32
  ![v164.toNat, 256]
def k2_off13 (i : grid2.Coords) (k2_t1 : Fin k2_t1_loop.trips) : Fin 2 → Nat :=
  let c120_i32 : BitVec 32 := 120#32
  let c0_i32_9 : BitVec 32 := 0#32
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c8_i32 : BitVec 32 := 8#32
  let v10 : BitVec 32 := Scalar.muli v9 c8_i32
  let c0_i32_4 : BitVec 32 := 0#32
  let c1_i32_6 : BitVec 32 := 1#32
  let arg5 : BitVec 32 := Scf.iv c0_i32_4 c1_i32_6 k2_t1
  let v15 : BitVec 32 := Scalar.addi v10 arg5
  let c4_i32_8 : BitVec 32 := 4#32
  let v16 : BitVec 32 := Scalar.subi v15 c4_i32_8
  let v17 : BitVec 32 := Scalar.maxsi c0_i32_9 v16
  let v18 : BitVec 32 := Scalar.minsi c120_i32 v17
  let c112_i32 : BitVec 32 := 112#32
  let c0_i32_3 : BitVec 32 := 0#32
  let c4_i32 : BitVec 32 := 4#32
  let v11 : BitVec 32 := Scalar.subi v10 c4_i32
  let v12 : BitVec 32 := Scalar.maxsi c0_i32_3 v11
  let v13 : BitVec 32 := Scalar.minsi c112_i32 v12
  let v19 : BitVec 32 := Scalar.subi v18 v13
  let c64_i32 : BitVec 32 := 64#32
  let v20 : BitVec 32 := Scalar.muli v19 c64_i32
  let v21 : BitVec 32 := v20
  let v167 : Index := Scalar.indexCast v21
  let c768 : Index := 768#32
  ![v167.toNat, 768]
def k2_off14 (i : grid2.Coords) (k2_t1 : Fin k2_t1_loop.trips) : Fin 4 → Nat :=
  let c120_i32 : BitVec 32 := 120#32
  let c0_i32_9 : BitVec 32 := 0#32
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c8_i32 : BitVec 32 := 8#32
  let v10 : BitVec 32 := Scalar.muli v9 c8_i32
  let c0_i32_4 : BitVec 32 := 0#32
  let c1_i32_6 : BitVec 32 := 1#32
  let arg5 : BitVec 32 := Scf.iv c0_i32_4 c1_i32_6 k2_t1
  let v15 : BitVec 32 := Scalar.addi v10 arg5
  let c4_i32_8 : BitVec 32 := 4#32
  let v16 : BitVec 32 := Scalar.subi v15 c4_i32_8
  let v17 : BitVec 32 := Scalar.maxsi c0_i32_9 v16
  let v18 : BitVec 32 := Scalar.minsi c120_i32 v17
  let v22 : BitVec 32 := Scalar.subi v18 v15
  let c7_i32 : BitVec 32 := 7#32
  let v23 : BitVec 32 := Scalar.addi v22 c7_i32
  let v172 : Index := Scalar.indexCast v23
  let c4 : Index := 4#32
  let c0_49 : Index := 0#32
  let c0_50 : Index := 0#32
  ![v172.toNat, 4, 0, 0]
def k2_off15 (i : grid2.Coords) (k2_t1 : Fin k2_t1_loop.trips) : Fin 4 → Nat :=
  let c120_i32 : BitVec 32 := 120#32
  let c0_i32_9 : BitVec 32 := 0#32
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c8_i32 : BitVec 32 := 8#32
  let v10 : BitVec 32 := Scalar.muli v9 c8_i32
  let c0_i32_4 : BitVec 32 := 0#32
  let c1_i32_6 : BitVec 32 := 1#32
  let arg5 : BitVec 32 := Scf.iv c0_i32_4 c1_i32_6 k2_t1
  let v15 : BitVec 32 := Scalar.addi v10 arg5
  let c4_i32_8 : BitVec 32 := 4#32
  let v16 : BitVec 32 := Scalar.subi v15 c4_i32_8
  let v17 : BitVec 32 := Scalar.maxsi c0_i32_9 v16
  let v18 : BitVec 32 := Scalar.minsi c120_i32 v17
  let v22 : BitVec 32 := Scalar.subi v18 v15
  let c7_i32 : BitVec 32 := 7#32
  let v23 : BitVec 32 := Scalar.addi v22 c7_i32
  let v185 : Index := Scalar.indexCast v23
  let c5 : Index := 5#32
  let c0_53 : Index := 0#32
  let c0_54 : Index := 0#32
  ![v185.toNat, 5, 0, 0]
def k2_off16 (k2_t1 : Fin k2_t1_loop.trips) : Fin 2 → Nat :=
  let c0_i32_4 : BitVec 32 := 0#32
  let c1_i32_6 : BitVec 32 := 1#32
  let arg5 : BitVec 32 := Scf.iv c0_i32_4 c1_i32_6 k2_t1
  let c64_i32_10 : BitVec 32 := 64#32
  let v24 : BitVec 32 := Scalar.muli arg5 c64_i32_10
  let v25 : BitVec 32 := v24
  let v218 : Index := Scalar.indexCast v25
  let c384 : Index := 384#32
  ![v218.toNat, 384]
def k2_off17 (i : grid2.Coords) (k2_t1 : Fin k2_t1_loop.trips) : Fin 2 → Nat :=
  let c120_i32 : BitVec 32 := 120#32
  let c0_i32_9 : BitVec 32 := 0#32
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c8_i32 : BitVec 32 := 8#32
  let v10 : BitVec 32 := Scalar.muli v9 c8_i32
  let c0_i32_4 : BitVec 32 := 0#32
  let c1_i32_6 : BitVec 32 := 1#32
  let arg5 : BitVec 32 := Scf.iv c0_i32_4 c1_i32_6 k2_t1
  let v15 : BitVec 32 := Scalar.addi v10 arg5
  let c4_i32_8 : BitVec 32 := 4#32
  let v16 : BitVec 32 := Scalar.subi v15 c4_i32_8
  let v17 : BitVec 32 := Scalar.maxsi c0_i32_9 v16
  let v18 : BitVec 32 := Scalar.minsi c120_i32 v17
  let c112_i32 : BitVec 32 := 112#32
  let c0_i32_3 : BitVec 32 := 0#32
  let c4_i32 : BitVec 32 := 4#32
  let v11 : BitVec 32 := Scalar.subi v10 c4_i32
  let v12 : BitVec 32 := Scalar.maxsi c0_i32_3 v11
  let v13 : BitVec 32 := Scalar.minsi c112_i32 v12
  let v19 : BitVec 32 := Scalar.subi v18 v13
  let c64_i32 : BitVec 32 := 64#32
  let v20 : BitVec 32 := Scalar.muli v19 c64_i32
  let v21 : BitVec 32 := v20
  let v228 : Index := Scalar.indexCast v21
  let c384_64 : Index := 384#32
  ![v228.toNat, 384]
def k2_off18 (i : grid2.Coords) (k2_t1 : Fin k2_t1_loop.trips) : Fin 2 → Nat :=
  let c120_i32 : BitVec 32 := 120#32
  let c0_i32_9 : BitVec 32 := 0#32
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c8_i32 : BitVec 32 := 8#32
  let v10 : BitVec 32 := Scalar.muli v9 c8_i32
  let c0_i32_4 : BitVec 32 := 0#32
  let c1_i32_6 : BitVec 32 := 1#32
  let arg5 : BitVec 32 := Scf.iv c0_i32_4 c1_i32_6 k2_t1
  let v15 : BitVec 32 := Scalar.addi v10 arg5
  let c4_i32_8 : BitVec 32 := 4#32
  let v16 : BitVec 32 := Scalar.subi v15 c4_i32_8
  let v17 : BitVec 32 := Scalar.maxsi c0_i32_9 v16
  let v18 : BitVec 32 := Scalar.minsi c120_i32 v17
  let c112_i32 : BitVec 32 := 112#32
  let c0_i32_3 : BitVec 32 := 0#32
  let c4_i32 : BitVec 32 := 4#32
  let v11 : BitVec 32 := Scalar.subi v10 c4_i32
  let v12 : BitVec 32 := Scalar.maxsi c0_i32_3 v11
  let v13 : BitVec 32 := Scalar.minsi c112_i32 v12
  let v19 : BitVec 32 := Scalar.subi v18 v13
  let c64_i32 : BitVec 32 := 64#32
  let v20 : BitVec 32 := Scalar.muli v19 c64_i32
  let v21 : BitVec 32 := v20
  let v231 : Index := Scalar.indexCast v21
  let c896 : Index := 896#32
  ![v231.toNat, 896]
def k2_off19 (i : grid2.Coords) (k2_t1 : Fin k2_t1_loop.trips) : Fin 4 → Nat :=
  let c120_i32 : BitVec 32 := 120#32
  let c0_i32_9 : BitVec 32 := 0#32
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c8_i32 : BitVec 32 := 8#32
  let v10 : BitVec 32 := Scalar.muli v9 c8_i32
  let c0_i32_4 : BitVec 32 := 0#32
  let c1_i32_6 : BitVec 32 := 1#32
  let arg5 : BitVec 32 := Scf.iv c0_i32_4 c1_i32_6 k2_t1
  let v15 : BitVec 32 := Scalar.addi v10 arg5
  let c4_i32_8 : BitVec 32 := 4#32
  let v16 : BitVec 32 := Scalar.subi v15 c4_i32_8
  let v17 : BitVec 32 := Scalar.maxsi c0_i32_9 v16
  let v18 : BitVec 32 := Scalar.minsi c120_i32 v17
  let v22 : BitVec 32 := Scalar.subi v18 v15
  let c7_i32 : BitVec 32 := 7#32
  let v23 : BitVec 32 := Scalar.addi v22 c7_i32
  let v236 : Index := Scalar.indexCast v23
  let c6 : Index := 6#32
  let c0_66 : Index := 0#32
  let c0_67 : Index := 0#32
  ![v236.toNat, 6, 0, 0]
def k2_off20 (i : grid2.Coords) (k2_t1 : Fin k2_t1_loop.trips) : Fin 4 → Nat :=
  let c120_i32 : BitVec 32 := 120#32
  let c0_i32_9 : BitVec 32 := 0#32
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c8_i32 : BitVec 32 := 8#32
  let v10 : BitVec 32 := Scalar.muli v9 c8_i32
  let c0_i32_4 : BitVec 32 := 0#32
  let c1_i32_6 : BitVec 32 := 1#32
  let arg5 : BitVec 32 := Scf.iv c0_i32_4 c1_i32_6 k2_t1
  let v15 : BitVec 32 := Scalar.addi v10 arg5
  let c4_i32_8 : BitVec 32 := 4#32
  let v16 : BitVec 32 := Scalar.subi v15 c4_i32_8
  let v17 : BitVec 32 := Scalar.maxsi c0_i32_9 v16
  let v18 : BitVec 32 := Scalar.minsi c120_i32 v17
  let v22 : BitVec 32 := Scalar.subi v18 v15
  let c7_i32 : BitVec 32 := 7#32
  let v23 : BitVec 32 := Scalar.addi v22 c7_i32
  let v249 : Index := Scalar.indexCast v23
  let c7 : Index := 7#32
  let c0_70 : Index := 0#32
  let c0_71 : Index := 0#32
  ![v249.toNat, 7, 0, 0]
def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c8_i32 : BitVec 32 := 8#32
  let v10 : BitVec 32 := Scalar.muli v9 c8_i32
  let c4_i32 : BitVec 32 := 4#32
  let v11 : BitVec 32 := Scalar.subi v10 c4_i32
  let c0_i32_3 : BitVec 32 := 0#32
  let c112_i32 : BitVec 32 := 112#32
  let v12 : BitVec 32 := Scalar.maxsi c0_i32_3 v11
  let v13 : BitVec 32 := Scalar.minsi c112_i32 v12
  let c16_i32_4 : BitVec 32 := 16#32
  let v14 : BitVec 32 := Scalar.divsi arg0 c16_i32_4
  let c0_i32_5 : BitVec 32 := 0#32
  let v15 : BitVec 1 := Scalar.cmpi .sgt arg0 c0_i32_5
  let v16 : BitVec 32 := Scalar.extui v15
  let c0_i32_6 : BitVec 32 := 0#32
  let v17 : BitVec 1 := Scalar.cmpi .slt arg0 c0_i32_6
  let v18 : BitVec 32 := Scalar.extui v17
  let v19 : BitVec 32 := Scalar.subi v16 v18
  let c0_i32_7 : BitVec 32 := 0#32
  let v20 : BitVec 1 := Scalar.cmpi .sgt c16_i32_4 c0_i32_7
  let v21 : BitVec 32 := Scalar.extui v20
  let c0_i32_8 : BitVec 32 := 0#32
  let v22 : BitVec 1 := Scalar.cmpi .slt c16_i32_4 c0_i32_8
  let v23 : BitVec 32 := Scalar.extui v22
  let v24 : BitVec 32 := Scalar.subi v21 v23
  let v25 : BitVec 1 := Scalar.cmpi .ne v19 v24
  let v26 : BitVec 32 := Scalar.remsi arg0 c16_i32_4
  let c0_i32_9 : BitVec 32 := 0#32
  let v27 : BitVec 1 := Scalar.cmpi .ne v26 c0_i32_9
  let v28 : BitVec 1 := Scalar.andi v25 v27
  let c1_i32_10 : BitVec 32 := 1#32
  let v29 : BitVec 32 := Scalar.subi v14 c1_i32_10
  let v30 : BitVec 32 := Scalar.select v28 v29 v14
  let c8192_i32 : BitVec 32 := 8192#32
  let v31 : BitVec 32 := Scalar.muli v30 c8192_i32
  let c64_i32 : BitVec 32 := 64#32
  let v32 : BitVec 32 := Scalar.muli v13 c64_i32
  let v33 : BitVec 32 := Scalar.addi v31 v32
  let v34 : BitVec 32 := v33
  let c0_i32_11 : BitVec 32 := 0#32
  let c0_i32_12 : BitVec 32 := 0#32
  ![v34.toNat, c0_i32_11.toNat]

def cc2_transform_2 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S8x8x64x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x512 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![128], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S512x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S512x512 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S512x2048 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S512x1024 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S512x1024 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1024x1024 .bf16 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x1024 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1024x4096 .bf16 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S4096x1024 .bf16 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1x1024 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 2 → Memref sig .tc .vmem S512x1024 .f32 := fun | 0 => Memref.whole cc3_stg11_0 | 1 => Memref.whole cc3_stg11_1 | ⟨_ + 2, h⟩ => absurd h (Nat.not_lt.2 (Nat.le_add_left _ _))
abbrev sem3_11 : Fin 2 → DmaSem sig := fun | 0 => cc3_sem11_0 | 1 => cc3_sem11_1 | ⟨_ + 2, h⟩ => absurd h (Nat.not_lt.2 (Nat.le_add_left _ _))
abbrev reads3_11 : Fin grid3.rank → Bool := ![true]
-- ==== KernelIdeal.lean ====
variable {F : FTy → Type} [FloatOps F] [Named F]
def κ : String → Option EReal := fun
  | "mask" => some ⊥
  | _ => none
-- ==== ReferenceIdeal.lean ====
abbrev S8x8192x1024 : Shape := ⟨3, ![8, 8192, 1024]⟩
abbrev S1x1024 : Shape := ⟨2, ![1, 1024]⟩
abbrev S1x1024x4352 : Shape := ⟨3, ![1, 1024, 4352]⟩
abbrev S1x2048 : Shape := ⟨2, ![1, 2048]⟩
abbrev S1x8 : Shape := ⟨2, ![1, 8]⟩
abbrev S1x8x15x31 : Shape := ⟨4, ![1, 8, 15, 31]⟩
abbrev S1x512x1024 : Shape := ⟨3, ![1, 512, 1024]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S1024 : Shape := ⟨1, ![1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S1024x4352 : Shape := ⟨2, ![1024, 4352]⟩
abbrev S8x8192x4352 : Shape := ⟨3, ![8, 8192, 4352]⟩
abbrev S8x8192x512 : Shape := ⟨3, ![8, 8192, 512]⟩
abbrev S8x8192x128 : Shape := ⟨3, ![8, 8192, 128]⟩
abbrev S8x8192x2x4x64 : Shape := ⟨5, ![8, 8192, 2, 4, 64]⟩
abbrev S8x8192x2x64 : Shape := ⟨4, ![8, 8192, 2, 64]⟩
abbrev S8 : Shape := ⟨1, ![8]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S2x4 : Shape := ⟨2, ![2, 4]⟩
abbrev S8x2x8192x8192x4 : Shape := ⟨5, ![8, 2, 8192, 8192, 4]⟩
abbrev S8x2x4x8192x8192 : Shape := ⟨5, ![8, 2, 4, 8192, 8192]⟩
abbrev S2x4x1x1 : Shape := ⟨4, ![2, 4, 1, 1]⟩
abbrev S1x1x8192x8192 : Shape := ⟨4, ![1, 1, 8192, 8192]⟩
abbrev S2x4x8192x8192 : Shape := ⟨4, ![2, 4, 8192, 8192]⟩
abbrev S1x2x4x8192x8192 : Shape := ⟨5, ![1, 2, 4, 8192, 8192]⟩
abbrev S1x2x4x1x1 : Shape := ⟨5, ![1, 2, 4, 1, 1]⟩
abbrev S8x2x4x8192x1 : Shape := ⟨5, ![8, 2, 4, 8192, 1]⟩
abbrev S8x2x4x8192x8193 : Shape := ⟨5, ![8, 2, 4, 8192, 8193]⟩
abbrev S8x2x4x8192 : Shape := ⟨4, ![8, 2, 4, 8192]⟩
abbrev S8x2x64x4x8192 : Shape := ⟨5, ![8, 2, 64, 4, 8192]⟩
abbrev S8x8192x8x64 : Shape := ⟨4, ![8, 8192, 8, 64]⟩
abbrev S8x15x31 : Shape := ⟨3, ![8, 15, 31]⟩
abbrev S128 : Shape := ⟨1, ![128]⟩
abbrev S64 : Shape := ⟨1, ![64]⟩
abbrev S128x1 : Shape := ⟨2, ![128, 1]⟩
abbrev S128x8 : Shape := ⟨2, ![128, 8]⟩
abbrev S64x1 : Shape := ⟨2, ![64, 1]⟩
abbrev S16 : Shape := ⟨1, ![16]⟩
abbrev S1x16 : Shape := ⟨2, ![1, 16]⟩
abbrev S64x16 : Shape := ⟨2, ![64, 16]⟩
abbrev S128x1x8x1 : Shape := ⟨4, ![128, 1, 8, 1]⟩
abbrev S1x64x1x16 : Shape := ⟨4, ![1, 64, 1, 16]⟩
abbrev S128x64x8x16 : Shape := ⟨4, ![128, 64, 8, 16]⟩
abbrev S8192x128 : Shape := ⟨2, ![8192, 128]⟩
abbrev S8192x128x1 : Shape := ⟨3, ![8192, 128, 1]⟩
abbrev S8x8192x128x8x64 : Shape := ⟨5, ![8, 8192, 128, 8, 64]⟩
abbrev S8x8x8192x128 : Shape := ⟨4, ![8, 8, 8192, 128]⟩
abbrev S8x465 : Shape := ⟨2, ![8, 465]⟩
abbrev S1x8x8192x128 : Shape := ⟨4, ![1, 8, 8192, 128]⟩
abbrev S8x8x8192 : Shape := ⟨3, ![8, 8, 8192]⟩
abbrev S8x8x8192x1 : Shape := ⟨4, ![8, 8, 8192, 1]⟩
abbrev S8x8192x2048 : Shape := ⟨3, ![8, 8192, 2048]⟩
abbrev S2048 : Shape := ⟨1, ![2048]⟩
abbrev S1x1x2048 : Shape := ⟨3, ![1, 1, 2048]⟩
abbrev S512x1024 : Shape := ⟨2, ![512, 1024]⟩
abbrev S1024x1024 : Shape := ⟨2, ![1024, 1024]⟩
abbrev S1024x4096 : Shape := ⟨2, ![1024, 4096]⟩
abbrev S8x8192x4096 : Shape := ⟨3, ![8, 8192, 4096]⟩
abbrev S4096x1024 : Shape := ⟨2, ![4096, 1024]⟩

abbrev nBuf : Space → Nat
  | .hbm => 297
  | .vmem => 0
  | .smem => 0
  | _ => 0

abbrev hbmTy0_0 (i : Nat) : BufTy := match i % 128 with
  | 0 => ⟨S8x8192x1024, .f32⟩
  | 1 => ⟨S1x1024, .f32⟩
  | 2 => ⟨S1x1024x4352, .f32⟩
  | 3 => ⟨S1x2048, .f32⟩
  | 4 => ⟨S1x8, .f32⟩
  | 5 => ⟨S1x8x15x31, .f32⟩
  | 6 => ⟨S1x512x1024, .f32⟩
  | 7 => ⟨S1x512x1024, .f32⟩
  | 8 => ⟨S1x1024x1024, .f32⟩
  | 9 => ⟨S1x1024, .f32⟩
  | 10 => ⟨S1x1024x4096, .f32⟩
  | 11 => ⟨S1x4096x1024, .f32⟩
  | 12 => ⟨S1024, .f32⟩
  | 13 => ⟨S1024, .f32⟩
  | 14 => ⟨S8x8192x1024, .f32⟩
  | 15 => ⟨S_, .f32⟩
  | 16 => ⟨S8x8192, .f32⟩
  | 17 => ⟨S8x8192x1, .f32⟩
  | 18 => ⟨S_, .f32⟩
  | 19 => ⟨S8x8192x1, .f32⟩
  | 20 => ⟨S8x8192x1, .f32⟩
  | 21 => ⟨S_, .f32⟩
  | 22 => ⟨S8x8192x1, .f32⟩
  | 23 => ⟨S8x8192x1, .f32⟩
  | 24 => ⟨S8x8192x1, .f32⟩
  | 25 => ⟨S8x8192x1024, .f32⟩
  | 26 => ⟨S8x8192x1024, .f32⟩
  | 27 => ⟨S1x1x1024, .f32⟩
  | 28 => ⟨S8x8192x1024, .f32⟩
  | 29 => ⟨S8x8192x1024, .f32⟩
  | 30 => ⟨S1024x4352, .f32⟩
  | 31 => ⟨S8x8192x4352, .f32⟩
  | 32 => ⟨S8x8192x512, .f32⟩
  | 33 => ⟨S8x8192x128, .f32⟩
  | 34 => ⟨S8x8192x128, .f32⟩
  | 35 => ⟨S8x8192x512, .f32⟩
  | 36 => ⟨S8x8192x512, .f32⟩
  | 37 => ⟨S8x8192x512, .f32⟩
  | 38 => ⟨S8x8192x1024, .f32⟩
  | 39 => ⟨S8x8192x1024, .f32⟩
  | 40 => ⟨S8x8192x2x4x64, .f32⟩
  | 41 => ⟨S8x8192x2x64, .f32⟩
  | 42 => ⟨S8x8192x2x64, .f32⟩
  | 43 => ⟨S8, .f32⟩
  | 44 => ⟨S8192, .i32⟩
  | 45 => ⟨S8192x1, .i32⟩
  | 46 => ⟨S1x8192, .i32⟩
  | 47 => ⟨S8192x8192, .i32⟩
  | 48 => ⟨S8192x8192, .i32⟩
  | 49 => ⟨S8192x8192, .i32⟩
  | 50 => ⟨S8192x8192, .i32⟩
  | 51 => ⟨S8, .f32⟩
  | 52 => ⟨S_, .f32⟩
  | 53 => ⟨S8, .f32⟩
  | 54 => ⟨S8, .f32⟩
  | 55 => ⟨S_, .f32⟩
  | 56 => ⟨S8, .f32⟩
  | 57 => ⟨S8, .f32⟩
  | 58 => ⟨S_, .f32⟩
  | 59 => ⟨S8, .f32⟩
  | 60 => ⟨S8, .f32⟩
  | 61 => ⟨S_, .f32⟩
  | 62 => ⟨S8, .f32⟩
  | 63 => ⟨S8, .f32⟩
  | 64 => ⟨S2x4, .f32⟩
  | 65 => ⟨S8x2x8192x8192x4, .f32⟩
  | 66 => ⟨S8x2x4x8192x8192, .f32⟩
  | 67 => ⟨S_, .f32⟩
  | 68 => ⟨S8x2x4x8192x8192, .f32⟩
  | 69 => ⟨S8x2x4x8192x8192, .f32⟩
  | 70 => ⟨S2x4x1x1, .f32⟩
  | 71 => ⟨S8192x8192, .f32⟩
  | 72 => ⟨S1x1x8192x8192, .f32⟩
  | 73 => ⟨S2x4x8192x8192, .f32⟩
  | 74 => ⟨S2x4x8192x8192, .f32⟩
  | 75 => ⟨S2x4x8192x8192, .f32⟩
  | 76 => ⟨S1x2x4x8192x8192, .f32⟩
  | 77 => ⟨S8x2x4x8192x8192, .f32⟩
  | 78 => ⟨S8x2x4x8192x8192, .f32⟩
  | 79 => ⟨S_, .i32⟩
  | 80 => ⟨S8192x8192, .i32⟩
  | 81 => ⟨S8192x8192, .i1⟩
  | 82 => ⟨S_, .f32⟩
  | 83 => ⟨S_, .f32⟩
  | 84 => ⟨S8x2x4x8192x8192, .i1⟩
  | 85 => ⟨S8x2x4x8192x8192, .f32⟩
  | 86 => ⟨S8x2x4x8192x8192, .f32⟩
  | 87 => ⟨S2x4, .f32⟩
  | 88 => ⟨S1x2x4x1x1, .f32⟩
  | 89 => ⟨S8x2x4x8192x1, .f32⟩
  | 90 => ⟨S8x2x4x8192x8193, .f32⟩
  | 91 => ⟨S_, .f32⟩
  | 92 => ⟨S8x2x4x8192, .f32⟩
  | 93 => ⟨S_, .f32⟩
  | 94 => ⟨S8x2x4x8192, .f32⟩
  | 95 => ⟨S8x2x4x8192, .f32⟩
  | 96 => ⟨S8x2x4x8192x1, .f32⟩
  | 97 => ⟨S8x2x4x8192x8193, .f32⟩
  | 98 => ⟨S8x2x4x8192x8193, .f32⟩
  | 99 => ⟨S8x2x4x8192x8193, .f32⟩
  | 100 => ⟨S_, .f32⟩
  | 101 => ⟨S8x2x4x8192, .f32⟩
  | 102 => ⟨S8x2x4x8192x1, .f32⟩
  | 103 => ⟨S8x2x4x8192x8193, .f32⟩
  | 104 => ⟨S8x2x4x8192x8193, .f32⟩
  | 105 => ⟨S8x2x4x8192x8192, .f32⟩
  | 106 => ⟨S8x2x64x4x8192, .f32⟩
  | 107 => ⟨S8x8192x2x4x64, .f32⟩
  | 108 => ⟨S8x8192x512, .f32⟩
  | 109 => ⟨S8x8192x8x64, .f32⟩
  | 110 => ⟨S8x8192x8x64, .f32⟩
  | 111 => ⟨S8x8192x8x64, .f32⟩
  | 112 => ⟨S8x15x31, .f32⟩
  | 113 => ⟨S128, .i32⟩
  | 114 => ⟨S64, .i32⟩
  | 115 => ⟨S_, .i32⟩
  | 116 => ⟨S128, .i32⟩
  | 117 => ⟨S128, .i32⟩
  | 118 => ⟨S_, .i32⟩
  | 119 => ⟨S_, .i32⟩
  | 120 => ⟨S_, .i32⟩
  | 121 => ⟨S128, .i32⟩
  | 122 => ⟨S128, .i32⟩
  | 123 => ⟨S_, .i32⟩
  | 124 => ⟨S128, .i32⟩
  | 125 => ⟨S128, .i32⟩
  | 126 => ⟨S128x1, .i32⟩
  | 127 => ⟨S8, .i32⟩
  | _ => ⟨S8x8192x1024, .f32⟩

abbrev hbmTy0_1 (i : Nat) : BufTy := match i % 128 with
  | 0 => ⟨S1x8, .i32⟩
  | 1 => ⟨S128x8, .i32⟩
  | 2 => ⟨S128x8, .i32⟩
  | 3 => ⟨S128x8, .i32⟩
  | 4 => ⟨S_, .i32⟩
  | 5 => ⟨S64, .i32⟩
  | 6 => ⟨S64, .i32⟩
  | 7 => ⟨S_, .i32⟩
  | 8 => ⟨S_, .i32⟩
  | 9 => ⟨S_, .i32⟩
  | 10 => ⟨S64, .i32⟩
  | 11 => ⟨S64, .i32⟩
  | 12 => ⟨S_, .i32⟩
  | 13 => ⟨S64, .i32⟩
  | 14 => ⟨S64, .i32⟩
  | 15 => ⟨S64x1, .i32⟩
  | 16 => ⟨S16, .i32⟩
  | 17 => ⟨S1x16, .i32⟩
  | 18 => ⟨S64x16, .i32⟩
  | 19 => ⟨S64x16, .i32⟩
  | 20 => ⟨S64x16, .i32⟩
  | 21 => ⟨S128x1, .i32⟩
  | 22 => ⟨S128x8, .i32⟩
  | 23 => ⟨S128x8, .i32⟩
  | 24 => ⟨S_, .i32⟩
  | 25 => ⟨S128x8, .i32⟩
  | 26 => ⟨S128x8, .i32⟩
  | 27 => ⟨S64x1, .i32⟩
  | 28 => ⟨S64x16, .i32⟩
  | 29 => ⟨S64x16, .i32⟩
  | 30 => ⟨S_, .i32⟩
  | 31 => ⟨S64x16, .i32⟩
  | 32 => ⟨S64x16, .i32⟩
  | 33 => ⟨S128x1x8x1, .i32⟩
  | 34 => ⟨S_, .i32⟩
  | 35 => ⟨S128x1x8x1, .i32⟩
  | 36 => ⟨S128x1x8x1, .i32⟩
  | 37 => ⟨S1x64x1x16, .i32⟩
  | 38 => ⟨S128x64x8x16, .i32⟩
  | 39 => ⟨S128x64x8x16, .i32⟩
  | 40 => ⟨S128x64x8x16, .i32⟩
  | 41 => ⟨S8192x128, .i32⟩
  | 42 => ⟨S128x1x8x1, .i32⟩
  | 43 => ⟨S_, .i32⟩
  | 44 => ⟨S128x1x8x1, .i32⟩
  | 45 => ⟨S128x1x8x1, .i32⟩
  | 46 => ⟨S1x64x1x16, .i32⟩
  | 47 => ⟨S128x64x8x16, .i32⟩
  | 48 => ⟨S128x64x8x16, .i32⟩
  | 49 => ⟨S128x64x8x16, .i32⟩
  | 50 => ⟨S8192x128, .i32⟩
  | 51 => ⟨S_, .i32⟩
  | 52 => ⟨S8192x128, .i32⟩
  | 53 => ⟨S8192x128, .i1⟩
  | 54 => ⟨S_, .i32⟩
  | 55 => ⟨S8192x128, .i32⟩
  | 56 => ⟨S8192x128, .i32⟩
  | 57 => ⟨S8192x128, .i32⟩
  | 58 => ⟨S8192x128x1, .i32⟩
  | 59 => ⟨S8x8192x128x8x64, .f32⟩
  | 60 => ⟨S8x8x8192x128, .f32⟩
  | 61 => ⟨S_, .f32⟩
  | 62 => ⟨S8x8x8192x128, .f32⟩
  | 63 => ⟨S8x8x8192x128, .f32⟩
  | 64 => ⟨S8x465, .f32⟩
  | 65 => ⟨S_, .i32⟩
  | 66 => ⟨S8192x128, .i32⟩
  | 67 => ⟨S8192x128, .i1⟩
  | 68 => ⟨S_, .i32⟩
  | 69 => ⟨S8192x128, .i32⟩
  | 70 => ⟨S8192x128, .i32⟩
  | 71 => ⟨S8192x128, .i32⟩
  | 72 => ⟨S8192x128x1, .i32⟩
  | 73 => ⟨S8x8192x128, .f32⟩
  | 74 => ⟨S1x8x8192x128, .f32⟩
  | 75 => ⟨S8x8x8192x128, .f32⟩
  | 76 => ⟨S8x8x8192x128, .f32⟩
  | 77 => ⟨S_, .f32⟩
  | 78 => ⟨S8x8x8192, .f32⟩
  | 79 => ⟨S_, .f32⟩
  | 80 => ⟨S8x8x8192, .f32⟩
  | 81 => ⟨S8x8x8192, .f32⟩
  | 82 => ⟨S8x8x8192x1, .f32⟩
  | 83 => ⟨S8x8x8192x128, .f32⟩
  | 84 => ⟨S8x8x8192x128, .f32⟩
  | 85 => ⟨S8x8x8192x128, .f32⟩
  | 86 => ⟨S_, .f32⟩
  | 87 => ⟨S8x8x8192, .f32⟩
  | 88 => ⟨S8x8x8192x1, .f32⟩
  | 89 => ⟨S8x8x8192x128, .f32⟩
  | 90 => ⟨S8x8x8192x128, .f32⟩
  | 91 => ⟨S_, .i32⟩
  | 92 => ⟨S8192x128, .i32⟩
  | 93 => ⟨S8192x128, .i1⟩
  | 94 => ⟨S_, .i32⟩
  | 95 => ⟨S8192x128, .i32⟩
  | 96 => ⟨S8192x128, .i32⟩
  | 97 => ⟨S8192x128, .i32⟩
  | 98 => ⟨S8192x128x1, .i32⟩
  | 99 => ⟨S8x8192x128x8x64, .f32⟩
  | 100 => ⟨S8x8192x8x64, .f32⟩
  | 101 => ⟨S8x8192x512, .f32⟩
  | 102 => ⟨S8x8192x2048, .f32⟩
  | 103 => ⟨S2048, .f32⟩
  | 104 => ⟨S1x1x2048, .f32⟩
  | 105 => ⟨S8x8192x2048, .f32⟩
  | 106 => ⟨S8x8192x2048, .f32⟩
  | 107 => ⟨S8x8192x2048, .f32⟩
  | 108 => ⟨S8x8192x2048, .f32⟩
  | 109 => ⟨S_, .f32⟩
  | 110 => ⟨S8x8192x2048, .f32⟩
  | 111 => ⟨S8x8192x2048, .f32⟩
  | 112 => ⟨S_, .f32⟩
  | 113 => ⟨S8x8192x2048, .f32⟩
  | 114 => ⟨S8x8192x2048, .f32⟩
  | 115 => ⟨S8x8192x1024, .f32⟩
  | 116 => ⟨S512x1024, .f32⟩
  | 117 => ⟨S8x8192x1024, .f32⟩
  | 118 => ⟨S8x8192x1024, .f32⟩
  | 119 => ⟨S8x8192x1024, .f32⟩
  | 120 => ⟨S512x1024, .f32⟩
  | 121 => ⟨S8x8192x1024, .f32⟩
  | 122 => ⟨S8x8192x1024, .f32⟩
  | 123 => ⟨S8x8192x1024, .f32⟩
  | 124 => ⟨S1024x1024, .f32⟩
  | 125 => ⟨S8x8192x1024, .f32⟩
  | 126 => ⟨S8x8192x1024, .f32⟩
  | 127 => ⟨S1024, .f32⟩
  | _ => ⟨S8x8192x1024, .f32⟩

abbrev hbmTy0_2 (i : Nat) : BufTy := match i % 128 with
  | 0 => ⟨S8x8192x1024, .f32⟩
  | 1 => ⟨S_, .f32⟩
  | 2 => ⟨S8x8192, .f32⟩
  | 3 => ⟨S8x8192x1, .f32⟩
  | 4 => ⟨S_, .f32⟩
  | 5 => ⟨S8x8192x1, .f32⟩
  | 6 => ⟨S8x8192x1, .f32⟩
  | 7 => ⟨S_, .f32⟩
  | 8 => ⟨S8x8192x1, .f32⟩
  | 9 => ⟨S8x8192x1, .f32⟩
  | 10 => ⟨S8x8192x1, .f32⟩
  | 11 => ⟨S8x8192x1024, .f32⟩
  | 12 => ⟨S8x8192x1024, .f32⟩
  | 13 => ⟨S1x1x1024, .f32⟩
  | 14 => ⟨S8x8192x1024, .f32⟩
  | 15 => ⟨S8x8192x1024, .f32⟩
  | 16 => ⟨S1024x4096, .f32⟩
  | 17 => ⟨S8x8192x4096, .f32⟩
  | 18 => ⟨S_, .f32⟩
  | 19 => ⟨S8x8192x4096, .f32⟩
  | 20 => ⟨S8x8192x4096, .f32⟩
  | 21 => ⟨S8x8192x4096, .f32⟩
  | 22 => ⟨S4096x1024, .f32⟩
  | 23 => ⟨S8x8192x1024, .f32⟩
  | 24 => ⟨S8x8192x1024, .f32⟩
  | 25 => ⟨S8x8192x1024, .f32⟩
  | 26 => ⟨S_, .f32⟩
  | 27 => ⟨S8x8192, .f32⟩
  | 28 => ⟨S8x8192x1, .f32⟩
  | 29 => ⟨S_, .f32⟩
  | 30 => ⟨S8x8192x1, .f32⟩
  | 31 => ⟨S8x8192x1, .f32⟩
  | 32 => ⟨S_, .f32⟩
  | 33 => ⟨S8x8192x1, .f32⟩
  | 34 => ⟨S8x8192x1, .f32⟩
  | 35 => ⟨S8x8192x1, .f32⟩
  | 36 => ⟨S8x8192x1024, .f32⟩
  | 37 => ⟨S8x8192x1024, .f32⟩
  | 38 => ⟨S1x1x1024, .f32⟩
  | 39 => ⟨S8x8192x1024, .f32⟩
  | 40 => ⟨S8x8192x1024, .f32⟩
  | _ => ⟨S8x8192x1024, .f32⟩

abbrev hbmTy (i : Nat) : BufTy := match i / 128 with
  | 0 => hbmTy0_0 i
  | 1 => hbmTy0_1 i
  | 2 => hbmTy0_2 i
  | _ => ⟨S8x8192x1024, .f32⟩

abbrev bufTy : (tb : Table) → Fin (tcTables nBuf tb) → BufTy
  | .hbm, ⟨i, _⟩ => hbmTy i
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_v3 : Ref sig .tc := ⟨.hbm, 17, rfl⟩
abbrev main_cst_0 : Ref sig .tc := ⟨.hbm, 18, rfl⟩
abbrev main_v4 : Ref sig .tc := ⟨.hbm, 19, rfl⟩
abbrev main_v5 : Ref sig .tc := ⟨.hbm, 20, rfl⟩
abbrev main_cst_1 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_2 : Ref sig .tc := ⟨.hbm, 52, rfl⟩
abbrev main_v36 : Ref sig .tc := ⟨.hbm, 53, rfl⟩
abbrev main_v37 : Ref sig .tc := ⟨.hbm, 54, rfl⟩
abbrev main_cst_3 : Ref sig .tc := ⟨.hbm, 55, rfl⟩
abbrev main_v38 : Ref sig .tc := ⟨.hbm, 56, rfl⟩
abbrev main_v39 : Ref sig .tc := ⟨.hbm, 57, rfl⟩
abbrev main_cst_4 : Ref sig .tc := ⟨.hbm, 58, rfl⟩
abbrev main_v40 : Ref sig .tc := ⟨.hbm, 59, rfl⟩
abbrev main_v41 : Ref sig .tc := ⟨.hbm, 60, rfl⟩
abbrev main_cst_5 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_6 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_c : Ref sig .tc := ⟨.hbm, 79, rfl⟩
abbrev main_v58 : Ref sig .tc := ⟨.hbm, 80, rfl⟩
abbrev main_v59 : Ref sig .tc := ⟨.hbm, 81, rfl⟩
abbrev main_cst_7 : Ref sig .tc := ⟨.hbm, 82, rfl⟩
abbrev main_call0_v0 : Ref sig .tc := ⟨.hbm, 83, rfl⟩
abbrev main_call0_v1 : Ref sig .tc := ⟨.hbm, 84, rfl⟩
abbrev main_call0_v2 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_8 : Ref sig .tc := ⟨.hbm, 91, rfl⟩
abbrev main_v65 : Ref sig .tc := ⟨.hbm, 92, rfl⟩
abbrev main_cst_9 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_10 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_c_11 : Ref sig .tc := ⟨.hbm, 115, rfl⟩
abbrev main_v86 : Ref sig .tc := ⟨.hbm, 116, rfl⟩
abbrev main_v87 : Ref sig .tc := ⟨.hbm, 117, rfl⟩
abbrev main_c_12 : Ref sig .tc := ⟨.hbm, 118, rfl⟩
abbrev main_c_13 : Ref sig .tc := ⟨.hbm, 119, rfl⟩
abbrev main_call1_v0 : Ref sig .tc := ⟨.hbm, 120, rfl⟩
abbrev main_call1_v1 : Ref sig .tc := ⟨.hbm, 121, rfl⟩
abbrev main_call1_v2 : Ref sig .tc := ⟨.hbm, 122, rfl⟩
abbrev main_call1_v3 : Ref sig .tc := ⟨.hbm, 123, rfl⟩
abbrev main_call1_v4 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_c_14 : Ref sig .tc := ⟨.hbm, 132, rfl⟩
abbrev main_v95 : Ref sig .tc := ⟨.hbm, 133, rfl⟩
abbrev main_v96 : Ref sig .tc := ⟨.hbm, 134, rfl⟩
abbrev main_c_15 : Ref sig .tc := ⟨.hbm, 135, rfl⟩
abbrev main_c_16 : Ref sig .tc := ⟨.hbm, 136, rfl⟩
abbrev main_call2_v0 : Ref sig .tc := ⟨.hbm, 137, rfl⟩
abbrev main_call2_v1 : Ref sig .tc := ⟨.hbm, 138, rfl⟩
abbrev main_call2_v2 : Ref sig .tc := ⟨.hbm, 139, rfl⟩
abbrev main_call2_v3 : Ref sig .tc := ⟨.hbm, 140, rfl⟩
abbrev main_call2_v4 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_c_17 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_c_18 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_c_19 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_c_20 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_c_21 : Ref sig .tc := ⟨.hbm, 179, rfl⟩
abbrev main_v130 : Ref sig .tc := ⟨.hbm, 180, rfl⟩
abbrev main_v131 : Ref sig .tc := ⟨.hbm, 181, rfl⟩
abbrev main_c_22 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_cst_23 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_c_24 : Ref sig .tc := ⟨.hbm, 193, rfl⟩
abbrev main_v141 : Ref sig .tc := ⟨.hbm, 194, rfl⟩
abbrev main_v142 : Ref sig .tc := ⟨.hbm, 195, rfl⟩
abbrev main_c_25 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩
abbrev main_v150 : Ref sig .tc := ⟨.hbm, 204, rfl⟩
abbrev main_cst_26 : Ref sig .tc := ⟨.hbm, 205, rfl⟩
abbrev main_v151 : Ref sig .tc := ⟨.hbm, 206, rfl⟩
abbrev main_cst_27 : Ref sig .tc := ⟨.hbm, 207, rfl⟩
abbrev main_v152 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_cst_28 : Ref sig .tc := ⟨.hbm, 214, rfl⟩
abbrev main_v158 : Ref sig .tc := ⟨.hbm, 215, rfl⟩
abbrev main_v159 : Ref sig .tc := ⟨.hbm, 216, rfl⟩
abbrev main_v160 : Ref sig .tc := ⟨.hbm, 217, rfl⟩
abbrev main_v161 : Ref sig .tc := ⟨.hbm, 218, rfl⟩
abbrev main_c_29 : Ref sig .tc := ⟨.hbm, 219, rfl⟩
abbrev main_v162 : Ref sig .tc := ⟨.hbm, 220, rfl⟩
abbrev main_v163 : Ref sig .tc := ⟨.hbm, 221, rfl⟩
abbrev main_c_30 : Ref sig .tc := ⟨.hbm, 222, rfl⟩
abbrev main_v164 : Ref sig .tc := ⟨.hbm, 223, rfl⟩
abbrev main_v165 : Ref sig .tc := ⟨.hbm, 224, rfl⟩
abbrev main_v166 : Ref sig .tc := ⟨.hbm, 225, rfl⟩
abbrev main_v167 : Ref sig .tc := ⟨.hbm, 226, rfl⟩
abbrev main_v168 : Ref sig .tc := ⟨.hbm, 227, rfl⟩
abbrev main_v169 : Ref sig .tc := ⟨.hbm, 228, rfl⟩
abbrev main_v170 : Ref sig .tc := ⟨.hbm, 229, rfl⟩
abbrev main_v171 : Ref sig .tc := ⟨.hbm, 230, rfl⟩
abbrev main_v172 : Ref sig .tc := ⟨.hbm, 231, rfl⟩
abbrev main_v173 : Ref sig .tc := ⟨.hbm, 232, rfl⟩
abbrev main_v174 : Ref sig .tc := ⟨.hbm, 233, rfl⟩
abbrev main_v175 : Ref sig .tc := ⟨.hbm, 234, rfl⟩
abbrev main_v176 : Ref sig .tc := ⟨.hbm, 235, rfl⟩
abbrev main_v177 : Ref sig .tc := ⟨.hbm, 236, rfl⟩
abbrev main_cst_31 : Ref sig .tc := ⟨.hbm, 237, rfl⟩
abbrev main_v178 : Ref sig .tc := ⟨.hbm, 238, rfl⟩
abbrev main_v179 : Ref sig .tc := ⟨.hbm, 239, rfl⟩
abbrev main_cst_32 : Ref sig .tc := ⟨.hbm, 240, rfl⟩
abbrev main_v180 : Ref sig .tc := ⟨.hbm, 241, rfl⟩
abbrev main_v181 : Ref sig .tc := ⟨.hbm, 242, rfl⟩
abbrev main_v182 : Ref sig .tc := ⟨.hbm, 243, rfl⟩
abbrev main_v183 : Ref sig .tc := ⟨.hbm, 244, rfl⟩
abbrev main_v184 : Ref sig .tc := ⟨.hbm, 245, rfl⟩
abbrev main_v185 : Ref sig .tc := ⟨.hbm, 246, rfl⟩
abbrev main_v186 : Ref sig .tc := ⟨.hbm, 247, rfl⟩
abbrev main_v187 : Ref sig .tc := ⟨.hbm, 248, rfl⟩
abbrev main_v188 : Ref sig .tc := ⟨.hbm, 249, rfl⟩
abbrev main_v189 : Ref sig .tc := ⟨.hbm, 250, rfl⟩
abbrev main_v190 : Ref sig .tc := ⟨.hbm, 251, rfl⟩
abbrev main_v191 : Ref sig .tc := ⟨.hbm, 252, rfl⟩
abbrev main_v192 : Ref sig .tc := ⟨.hbm, 253, rfl⟩
abbrev main_v193 : Ref sig .tc := ⟨.hbm, 254, rfl⟩
abbrev main_v194 : Ref sig .tc := ⟨.hbm, 255, rfl⟩
abbrev main_v195 : Ref sig .tc := ⟨.hbm, 256, rfl⟩
abbrev main_cst_33 : Ref sig .tc := ⟨.hbm, 257, rfl⟩
abbrev main_v196 : Ref sig .tc := ⟨.hbm, 258, rfl⟩
abbrev main_v197 : Ref sig .tc := ⟨.hbm, 259, rfl⟩
abbrev main_cst_34 : Ref sig .tc := ⟨.hbm, 260, rfl⟩
abbrev main_v198 : Ref sig .tc := ⟨.hbm, 261, rfl⟩
abbrev main_v199 : Ref sig .tc := ⟨.hbm, 262, rfl⟩
abbrev main_cst_35 : Ref sig .tc := ⟨.hbm, 263, rfl⟩
abbrev main_v200 : Ref sig .tc := ⟨.hbm, 264, rfl⟩
abbrev main_v201 : Ref sig .tc := ⟨.hbm, 265, rfl⟩
abbrev main_v202 : Ref sig .tc := ⟨.hbm, 266, rfl⟩
abbrev main_v203 : Ref sig .tc := ⟨.hbm, 267, rfl⟩
abbrev main_v204 : Ref sig .tc := ⟨.hbm, 268, rfl⟩
abbrev main_v205 : Ref sig .tc := ⟨.hbm, 269, rfl⟩
abbrev main_v206 : Ref sig .tc := ⟨.hbm, 270, rfl⟩
abbrev main_v207 : Ref sig .tc := ⟨.hbm, 271, rfl⟩
abbrev main_v208 : Ref sig .tc := ⟨.hbm, 272, rfl⟩
abbrev main_v209 : Ref sig .tc := ⟨.hbm, 273, rfl⟩
abbrev main_call3_cst : Ref sig .tc := ⟨.hbm, 274, rfl⟩
abbrev main_call3_v0 : Ref sig .tc := ⟨.hbm, 275, rfl⟩
abbrev main_v210 : Ref sig .tc := ⟨.hbm, 276, rfl⟩
abbrev main_v211 : Ref sig .tc := ⟨.hbm, 277, rfl⟩
abbrev main_v212 : Ref sig .tc := ⟨.hbm, 278, rfl⟩
abbrev main_v213 : Ref sig .tc := ⟨.hbm, 279, rfl⟩
abbrev main_v214 : Ref sig .tc := ⟨.hbm, 280, rfl⟩
abbrev main_v215 : Ref sig .tc := ⟨.hbm, 281, rfl⟩
abbrev main_cst_36 : Ref sig .tc := ⟨.hbm, 282, rfl⟩
abbrev main_v216 : Ref sig .tc := ⟨.hbm, 283, rfl⟩
abbrev main_v217 : Ref sig .tc := ⟨.hbm, 284, rfl⟩
abbrev main_cst_37 : Ref sig .tc := ⟨.hbm, 285, rfl⟩
abbrev main_v218 : Ref sig .tc := ⟨.hbm, 286, rfl⟩
abbrev main_v219 : Ref sig .tc := ⟨.hbm, 287, rfl⟩
abbrev main_cst_38 : Ref sig .tc := ⟨.hbm, 288, rfl⟩
abbrev main_v220 : Ref sig .tc := ⟨.hbm, 289, rfl⟩
abbrev main_v221 : Ref sig .tc := ⟨.hbm, 290, rfl⟩
abbrev main_v222 : Ref sig .tc := ⟨.hbm, 291, rfl⟩
abbrev main_v223 : Ref sig .tc := ⟨.hbm, 292, rfl⟩
abbrev main_v224 : Ref sig .tc := ⟨.hbm, 293, rfl⟩
abbrev main_v225 : Ref sig .tc := ⟨.hbm, 294, rfl⟩
abbrev main_v226 : Ref sig .tc := ⟨.hbm, 295, rfl⟩
abbrev main_v227 : Ref sig .tc := ⟨.hbm, 296, rfl⟩

abbrev nD : Nat := 1
abbrev τ : Topo := Topo.v7x

variable {F : FTy → Type} [FloatOps F]
-- ==== Proof.KernelRun.lean ====
/-
The whole kernel program's run, with its result: the launch proof of the frame, ending at the contents the
segments' chain of host lists and calls leaves in the result buffer as well.
-/
module

public import proofs.«01_k».proof.Proof.Gen.KernelIdeal.Frame

@[expose] public section

set_option maxRecDepth 16384

noncomputable section

namespace Cert.KernelIdeal.Gen.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

set_option backward.isDefEq.respectTransparency.types false in
/-- Every run of the program ends with the result buffer at the chain's last contents and every argument as it
    was. -/
theorem run : θ_run defs (onTc (τ := τ) (main (F := F))) ⟨m, fun _ => 0, ρ⟩ (fun r => (∀ c : Dev nD,
      r.2.mem ((c.tc : Thread nD τ).loc main_v129) = W17 m ρ c main_v129
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h hz => ⟨(fun c =>
      ⟨(h c _ (mem_uc main_v129 (by decide))),
       (h c _ (mem_uc main_arg0 (by decide))).trans (W17_main_arg0 m ρ c),
       (h c _ (mem_uc main_arg1 (by decide))).trans (W17_main_arg1 m ρ c),
       (h c _ (mem_uc main_arg2 (by decide))).trans (W17_main_arg2 m ρ c),
       (h c _ (mem_uc main_arg3 (by decide))).trans (W17_main_arg3 m ρ c),
       (h c _ (mem_uc main_arg4 (by decide))).trans (W17_main_arg4 m ρ c),
       (h c _ (mem_uc main_arg5 (by decide))).trans (W17_main_arg5 m ρ c),
       (h c _ (mem_uc main_arg6 (by decide))).trans (W17_main_arg6 m ρ c),
       (h c _ (mem_uc main_arg7 (by decide))).trans (W17_main_arg7 m ρ c),
       (h c _ (mem_uc main_arg8 (by decide))).trans (W17_main_arg8 m ρ c),
       (h c _ (mem_uc main_arg9 (by decide))).trans (W17_main_arg9 m ρ c),
       (h c _ (mem_uc main_arg10 (by decide))).trans (W17_main_arg10 m ρ c),
       (h c _ (mem_uc main_arg11 (by decide))).trans (W17_main_arg11 m ρ c),
       (h c _ (mem_uc main_arg12 (by decide))).trans (W17_main_arg12 m ρ c)⟩), funext fun g => hz g (.inr (no_unscoped g.2))⟩)

end Cert.KernelIdeal.Gen.Whole
-- ==== Proof.WinAttnPair.lean ====
/- The second call (`win_attn`), one 128-token sub-block: the scores of its eight heads as one stacked product, and the
   output of one pair of heads (the two heads whose features share 128 lanes), each read at one element. -/
module

public import proofs.«01_k».proof.Proof.Gen.KernelIdeal.Frame
public import Idealize.ShloMosaic.Lib.Pointwise

@[expose] public section

set_option maxRecDepth 16384

noncomputable section

namespace Cert.KernelIdeal.WinAttn

open Idealize.ShloMosaic Idealize.ShloMosaic.TcCoe Idealize.SL.Sem
open Cert.KernelIdeal Cert.KernelIdeal.Gen

/-- The largest of a row of scores and its sink. -/
def peak {n : Nat} (s : Fin n → EReal) (snk : EReal) : EReal := max (Finset.univ.fold max ⊥ s) snk

/-- One number of an attention with a sink: the values weighted by the exponentials of the scores less their peak, over
    the sum of those exponentials and the sink's. -/
def sinkOut {n : Nat} (s : Fin n → EReal) (snk : EReal) (v : Fin n → EReal) : EReal :=
  Ideal.div (∑ k, Ideal.exp (s k - peak s snk) * v k)
    ((∑ k, Ideal.exp (s k - peak s snk)) + Ideal.exp (snk - peak s snk))

/-- The peak of every row. -/
def peakV (s : FVec Ideal S128x384 .f32) (a : Elt Ideal .f32) : FVec Ideal S128x1 .f32 :=
  maximumf (shapeCast S128x1 (multiReduction .maximumf [1] S128 s 0xFF800000#32 reduces_S128x384_S128 (.inl rfl) rfl) shapeCasts_S128_S128x1)
    (broadcast S128x1 a)

/-- The exponentials of the scores less their row's peak. -/
def expV (s : FVec Ideal S128x384 .f32) (a : Elt Ideal .f32) : FVec Ideal S128x384 .f32 :=
  exp (subf s (broadcastTo S128x384 (peakV s a) broadcasts_S128x1_S128x384))

/-- Every row's denominator. -/
def denV (s : FVec Ideal S128x384 .f32) (a : Elt Ideal .f32) : FVec Ideal S128x1 .f32 :=
  addf (shapeCast S128x1 (multiReduction .add [1] S128 (expV s a) 0x00000000#32 reduces_S128x384_S128 (.inl rfl) rfl) shapeCasts_S128_S128x1)
    (exp (subf (broadcast S128x1 a) (peakV s a)))

/-- The output of a pair of heads from their scores, their sinks and the pair's stacked values. -/
def pairV (vbd : FVec Ideal S768x128 .bf16) (sLo sHi : FVec Ideal S128x384 .f32) (a b : Elt Ideal .f32) : FVec Ideal S128x128 .bf16 :=
  k1_pay20 vbd (denV sLo a) (truncf .bf16 (expV sLo a) bitsLt_bf16_f32) sHi b

/-- The stacked scores of the eight heads. -/
def scoresV (kv : Vec Ideal S384x256 .bf16) (q0 q1 q2 q3 : Vec Ideal S128x128 .bf16) : FVec Ideal S1024x384 .f32 :=
  k1_pay13 (k1_pay7 kv) (k1_pay9 q0) (k1_pay10 q1) (k1_pay11 q2) k1_pay12 q3

/-- One head's scores with its bias. -/
def biasV (s : FVec Ideal S128x384 .f32) (b : Vec Ideal S1x128x384 .f32) : FVec Ideal S128x384 .f32 :=
  addf s (shapeCast S128x384 b shapeCasts_S1x128x384_S128x384)

/-- A row added to every row of the scores. -/
def edgeV (s : FVec Ideal S128x384 .f32) (e : FVec Ideal S1x384 .f32) : FVec Ideal S128x384 .f32 :=
  addf s (broadcastTo S128x384 e broadcasts_S1x384_S128x384)

/-- A lane comparison picks the first value on the first 64 lanes. -/
theorem sel_lane {α : Type} {n : Nat} (d : Fin n) (hn : n ≤ 4096) (m : Nat) (hm : m ≤ 4096) (a b : α) :
    Scalar.select (IntOp.cmpi CmpIPredicate.slt (BitVec.ofNat 32 d.val) (BitVec.ofNat 32 m)) a b = if d.val < m then a else b := by
  rw [WordCmp.cmpi_slt_ofNat (by omega) (by omega)]
  by_cases h : d.val < m <;> simp [Scalar.select, h]

/-- The start of the maximum is minus infinity. -/
theorem negInf : Ideal.ofBits .f32 0xFF800000#32 = ⊥ := by simp [Ideal.ofBits, Ideal.ieee]

/-- A sum over 128 lanes of which only the first 64 count. -/
theorem sum_lo (f g : Fin 128 → EReal) :
    ∑ x : Fin 128, (if x.val < 64 then f x else 0) * g x = ∑ d : Fin 64, f ⟨0 + d.val, by omega⟩ * g ⟨0 + d.val, by omega⟩ := by
  rw [Fin.sum_univ_two_halves 64 64 rfl]
  simp

/-- A sum over 128 lanes of which only the last 64 count. -/
theorem sum_hi (f g : Fin 128 → EReal) :
    ∑ x : Fin 128, (if x.val < 64 then 0 else f x) * g x = ∑ d : Fin 64, f ⟨64 + d.val, by omega⟩ * g ⟨64 + d.val, by omega⟩ := by
  rw [Fin.sum_univ_two_halves 64 64 rfl]
  simp

/-- A pair's lanes: the first head's softmax with its sink on the first 64, the second head's on the others. -/
theorem pairV_apply (kv : Vec Ideal S384x256 .bf16) (sLo sHi : FVec Ideal S128x384 .f32) (a b : Elt Ideal .f32) (r d : Fin 128) :
    pairV (k1_pay8 kv) sLo sHi a b (ix2 r d)
      = if d.val < 64 then sinkOut (fun k => sLo (ix2 r k)) a (fun k => kv (ix2 k ⟨128 + d.val, by omega⟩))
        else sinkOut (fun k => sHi (ix2 r k)) b (fun k => kv (ix2 k ⟨128 + d.val, by omega⟩)) := by
  unfold sinkOut peak
  pointwise [pairV, k1_pay20, k1_pay8, denV, expV, peakV]
  simp only [sel_lane d (by omega) 64 (by omega), negInf]
  by_cases h : d.val < 64 <;> simp only [h, if_true, if_false, Finset.sum_const_zero, add_zero, zero_add]

/-- The stacked query's entry at lane `x`: the query on the head's own 64 lanes, zero on the other head's. -/
def lane (half : Fin 2) (x : Fin 128) (a : EReal) : EReal :=
  if x.val < 64 then (if half = 0 then a else 0) else if half = 0 then 0 else a

set_option maxHeartbeats 1600000 in
/-- The scores of head `half` of pair `p`: the products of the 64 features that are the head's. -/
theorem scoresV_apply (kv : Vec Ideal S384x256 .bf16) (q : Fin 4 → Vec Ideal S128x128 .bf16) (p : Fin 4) (half : Fin 2) (r : Fin 128)
    (k : Fin 384) :
    scoresV kv (q 0) (q 1) (q 2) (q 3) (ix2 ⟨256 * p.val + 128 * half.val + r.val, by omega⟩ k)
      = ∑ d : Fin 64, q p (ix2 r ⟨64 * half.val + d.val, by omega⟩) * kv (ix2 k ⟨64 * half.val + d.val, by omega⟩) := by
  refine Eq.trans (b := ∑ x : Fin 128, lane half x (q p (ix2 r x)) * kv (ix2 k ⟨x.val, by omega⟩)) ?_ ?_
  · fin_cases p <;> fin_cases half <;>
      pointwise [scoresV, k1_pay13, k1_pay7, k1_pay9, k1_pay10, k1_pay11, k1_pay12]
    all_goals
      refine Finset.sum_congr rfl fun x _ => congrArg (· * kv (ix2 k ⟨x.val, by omega⟩)) ?_
      have hx := x.isLt
      simp only [sel_lane x (by omega) 64 (by omega), lane, if_true, Fin.one_eq_zero_iff, OfNat.ofNat_ne_one, if_false]
      split_ifs <;> first | omega | rfl | contradiction | exact congrArg (fun z => q _ (ix2 z x)) (Fin.ext (by simp only []; omega))
  · obtain rfl | rfl : half = 0 ∨ half = 1 := by omega
    · exact (sum_lo (fun x => q p (ix2 r x)) fun x => kv (ix2 k ⟨x.val, by omega⟩))
    · exact (sum_hi (fun x => q p (ix2 r x)) fun x => kv (ix2 k ⟨x.val, by omega⟩))

end Cert.KernelIdeal.WinAttn
-- ==== Proof.WinAttnBlock.lean ====
/- The second call (`win_attn`), one 128-token sub-block and one pair of heads, from the tile's own loads: the scores with
   their bias and the row that cuts off the keys outside the sequence, and the attention over them. -/
module

public import proofs.«01_k».proof.Proof.WinAttnPair

@[expose] public section

set_option maxRecDepth 16384

noncomputable section

namespace Cert.KernelIdeal.WinAttn

open Idealize.ShloMosaic Idealize.ShloMosaic.TcCoe Idealize.SL.Sem
open Cert.KernelIdeal Cert.KernelIdeal.Gen

/-- Rows `128 g` to `128 g + 127` of the stacked scores. -/
def sliceV (g : Fin 8) (s : FVec Ideal S1024x384 .f32) : FVec Ideal S128x384 .f32 :=
  extractStridedSlice S128x384 ![128 * g.val, 0] s ⟨rfl, fun a => by revert a; fin_cases g <;> decide⟩

section
variable (kv : Vec Ideal S384x256 .bf16) (q0 q1 q2 q3 : Vec Ideal S128x128 .bf16) (e : FVec Ideal S1x384 .f32)
  (bLo bHi : Vec Ideal S1x128x384 .f32) (a b : Elt Ideal .f32)

/-- A pair of heads of an inner sub-block. -/
def midV (gLo gHi : Fin 8) : FVec Ideal S128x128 .bf16 :=
  pairV (k1_pay8 kv) (biasV (sliceV gLo (scoresV kv q0 q1 q2 q3)) bLo) (biasV (sliceV gHi (scoresV kv q0 q1 q2 q3)) bHi) a b

/-- A pair of heads of the tile's first or last sub-block, with the row of its edge. -/
def rimV (gLo gHi : Fin 8) : FVec Ideal S128x128 .bf16 :=
  pairV (k1_pay8 kv) (edgeV (biasV (sliceV gLo (scoresV kv q0 q1 q2 q3)) bLo) e)
    (edgeV (biasV (sliceV gHi (scoresV kv q0 q1 q2 q3)) bHi) e) a b

/-- The value both compute, on one row and one lane of pair `p`. -/
def pairAt (E : Fin 384 → EReal) (q : Fin 4 → Vec Ideal S128x128 .bf16) (p : Fin 4) (r l : Fin 128) : EReal :=
  sinkOut (fun k => (∑ d : Fin 64, q p (ix2 r ⟨64 * (l.val / 64) + d.val, by omega⟩) * kv (ix2 k ⟨64 * (l.val / 64) + d.val, by omega⟩)
      + (if l.val < 64 then bLo else bHi) (ix3 0 r k)) + E k) (if l.val < 64 then a else b) (fun k => kv (ix2 k ⟨128 + l.val, by omega⟩))

/-- A head's scores in the stack: the products of its queries and its keys. -/
theorem slice_scores (q : Fin 4 → Vec Ideal S128x128 .bf16) (p : Fin 4) (half : Fin 2) (g : Fin 8) (hg : g.val = 2 * p.val + half.val)
    (r : Fin 128) (k : Fin 384) :
    sliceV g (scoresV kv (q 0) (q 1) (q 2) (q 3)) (ix2 r k)
      = ∑ d : Fin 64, q p (ix2 r ⟨64 * half.val + d.val, by omega⟩) * kv (ix2 k ⟨64 * half.val + d.val, by omega⟩) := by
  rw [← scoresV_apply kv q p half r k]
  pointwise [sliceV]
  refine congrArg (scoresV kv (q 0) (q 1) (q 2) (q 3)) ?_
  refine congrArg₂ ix2 (Fin.ext ?_) (Fin.ext ?_) <;> simp <;> omega

/-- A pair in a sub-block where no key is cut off. -/
theorem midV_apply (q : Fin 4 → Vec Ideal S128x128 .bf16) (p : Fin 4) (gLo gHi : Fin 8) (hLo : gLo.val = 2 * p.val)
    (hHi : gHi.val = 2 * p.val + 1) (r l : Fin 128) :
    midV kv (q 0) (q 1) (q 2) (q 3) bLo bHi a b gLo gHi (ix2 r l) = pairAt kv bLo bHi a b (fun _ => 0) q p r l := by
  unfold midV pairAt
  rw [pairV_apply]
  have e0 : ∀ k, biasV (sliceV gLo (scoresV kv (q 0) (q 1) (q 2) (q 3))) bLo (ix2 r k) = _ := fun k =>
    (show _ = sliceV gLo (scoresV kv (q 0) (q 1) (q 2) (q 3)) (ix2 r k) + bLo (ix3 0 r k) by pointwise [biasV]).trans
      (congrArg (· + bLo (ix3 0 r k)) (slice_scores kv q p 0 gLo hLo r k))
  have e1 : ∀ k, biasV (sliceV gHi (scoresV kv (q 0) (q 1) (q 2) (q 3))) bHi (ix2 r k) = _ := fun k =>
    (show _ = sliceV gHi (scoresV kv (q 0) (q 1) (q 2) (q 3)) (ix2 r k) + bHi (ix3 0 r k) by pointwise [biasV]).trans
      (congrArg (· + bHi (ix3 0 r k)) (slice_scores kv q p 1 gHi hHi r k))
  by_cases h : l.val < 64
  · have h2 : l.val / 64 = 0 := by omega
    simp only [h, if_true, e0, add_zero, h2]
    rfl
  · have h2 : l.val / 64 = 1 := by omega
    simp only [h, if_false, e1, add_zero, h2]
    rfl

/-- A pair in a sub-block where keys may be cut off. -/
theorem rimV_apply (q : Fin 4 → Vec Ideal S128x128 .bf16) (p : Fin 4) (gLo gHi : Fin 8) (hLo : gLo.val = 2 * p.val)
    (hHi : gHi.val = 2 * p.val + 1) (r l : Fin 128) :
    rimV kv (q 0) (q 1) (q 2) (q 3) e bLo bHi a b gLo gHi (ix2 r l) = pairAt kv bLo bHi a b (fun k => e (ix2 0 k)) q p r l := by
  unfold rimV pairAt
  rw [pairV_apply]
  have e0 : ∀ k, edgeV (biasV (sliceV gLo (scoresV kv (q 0) (q 1) (q 2) (q 3))) bLo) e (ix2 r k) = _ := fun k =>
    (show _ = sliceV gLo (scoresV kv (q 0) (q 1) (q 2) (q 3)) (ix2 r k) + bLo (ix3 0 r k) + e (ix2 0 k) by pointwise [edgeV, biasV]).trans
      (congrArg (· + bLo (ix3 0 r k) + e (ix2 0 k)) (slice_scores kv q p 0 gLo hLo r k))
  have e1 : ∀ k, edgeV (biasV (sliceV gHi (scoresV kv (q 0) (q 1) (q 2) (q 3))) bHi) e (ix2 r k) = _ := fun k =>
    (show _ = sliceV gHi (scoresV kv (q 0) (q 1) (q 2) (q 3)) (ix2 r k) + bHi (ix3 0 r k) + e (ix2 0 k) by pointwise [edgeV, biasV]).trans
      (congrArg (· + bHi (ix3 0 r k) + e (ix2 0 k)) (slice_scores kv q p 1 gHi hHi r k))
  by_cases h : l.val < 64
  · have h2 : l.val / 64 = 0 := by omega
    simp only [h, if_true, e0, h2]
    rfl
  · have h2 : l.val / 64 = 1 := by omega
    simp only [h, if_false, e1, h2]
    rfl

end

/-- The word of the tile's place in its sequence, as the body computes it from the grid point. -/
def placeWord (n : Nat) : BitVec 32 :=
  Scalar.select
    (Scalar.andi (Scalar.xori (Scalar.cmpi CmpIPredicate.slt (Scalar.remsi (BitVec.ofNat 32 n) 16#32) 0#32) 0#1)
      (Scalar.cmpi CmpIPredicate.ne (Scalar.remsi (BitVec.ofNat 32 n) 16#32) 0#32))
    (Scalar.addi (Scalar.remsi (BitVec.ofNat 32 n) 16#32) 16#32)
    (Scalar.remsi (BitVec.ofNat 32 n) 16#32)

/-- The body tells whether the tile is the first of its sequence. -/
theorem placeWord_zero : ∀ n : Fin 128, Scalar.cmpi CmpIPredicate.eq (placeWord n.val) 0#32 = if n.val % 16 = 0 then 1#1 else 0#1 := by
  decide +kernel

/-- The body tells whether the tile is the last of its sequence. -/
theorem placeWord_last : ∀ n : Fin 128, Scalar.cmpi CmpIPredicate.eq (placeWord n.val) 15#32 = if n.val % 16 = 15 then 1#1 else 0#1 := by
  decide +kernel

/-- The named mask is minus infinity. -/
theorem mask_eq : Named.named (F := Ideal) κ "mask" (φ := .f32) 0xF149F2CA#32 = ⊥ := by
  simp [Named.named, κ]

/-- A choice by the word of a condition is a choice by the condition. -/
theorem sel_word {α : Type} (p : Prop) [Decidable p] (a b : α) : Scalar.select (if p then 1#1 else 0#1) a b = if p then a else b := by
  by_cases h : p <;> simp [Scalar.select, h]

/-- A lane comparison picks the first value from lane `m` on. -/
theorem sel_lane_ge {α : Type} {n : Nat} (d : Fin n) (hn : n ≤ 4096) (m : Nat) (hm : m ≤ 4096) (a b : α) :
    Scalar.select (IntOp.cmpi CmpIPredicate.sge (BitVec.ofNat 32 d.val) (BitVec.ofNat 32 m)) a b = if m ≤ d.val then a else b := by
  rw [WordCmp.cmpi_sge_ofNat (by omega) (by omega)]
  by_cases h : m ≤ d.val <;> simp [Scalar.select, h]

/-- The row that cuts off the keys before the sequence. -/
theorem pay5_apply (i : grid1.Coords) (k : Fin 384) :
    k1_pay5 (F := Ideal) i (ix2 0 k) = if k.val < 128 ∧ (i 0).val % 16 = 0 then ⊥ else 0 := by
  pointwise [k1_pay5]
  rw [show Scalar.select (Scalar.cmpi CmpIPredicate.eq 16#32 0#32) 1#32 16#32 = 16#32 from rfl]
  refine Eq.trans (congrArg (fun w => Scalar.select _ (Scalar.select w _ 0) 0)
    (placeWord_zero ⟨(i 0).val, (i 0).isLt⟩)) ?_
  rw [sel_lane k (by omega) 128 (by omega), sel_word, mask_eq]
  split_ifs <;> first | rfl | (exfalso; simp_all; done)

/-- The row that cuts off the keys after the sequence. -/
theorem pay6_apply (i : grid1.Coords) (k : Fin 384) :
    k1_pay6 (F := Ideal) (placeWord (i 0).val) (iota .tc S1x384 32 [1] iota_S1x384_d1_w32) (ix2 0 k)
      = if 256 ≤ k.val ∧ (i 0).val % 16 = 15 then ⊥ else 0 := by
  pointwise [k1_pay6]
  rw [placeWord_last ⟨(i 0).val, (i 0).isLt⟩, sel_lane_ge k (by omega) 256 (by omega), sel_word, mask_eq]
  split_ifs <;> first | rfl | (exfalso; simp_all; done)

end Cert.KernelIdeal.WinAttn
-- ==== Proof.WinAttn.lean ====
/- The second call (`win_attn`), one tile of 512 tokens: what the body leaves at a row and a lane is the attention with a
   sink of that row's 64 query features over the 384 keys around its sub-block. -/
module

public import proofs.«01_k».proof.Proof.WinAttnBlock
public import Idealize.ShloMosaic.Lib.Pipeline.ValueKit

@[expose] public section

set_option maxRecDepth 16384

noncomputable section

namespace Cert.KernelIdeal.WinAttn

open Idealize.ShloMosaic Idealize.ShloMosaic.TcCoe Idealize.SL.Sem
open Idealize.ShloMosaic.Pipeline (Dat)
open Cert.KernelIdeal Cert.KernelIdeal.Gen

/-- The tile's 768 key rows: the 128 before it, its own 512 and the 128 after it. -/
def keys (x2 : Vec Ideal S128x256 .bf16) (x3 : Vec Ideal S512x256 .bf16) (x4 : Vec Ideal S128x256 .bf16) (a : Fin 768) (c : Fin 256) :
    EReal :=
  if h : a.val < 128 then x2 (ix2 ⟨a.val, h⟩ c) else if h' : a.val < 640 then x3 (ix2 ⟨a.val - 128, by omega⟩ c)
  else x4 (ix2 ⟨a.val - 640, by omega⟩ c)

/-- The term that cuts off a key outside the sequence. -/
def edge (n : Nat) (j : Fin 4) (k : Fin 384) : EReal :=
  if (j = 0 ∧ k.val < 128 ∧ n % 16 = 0) ∨ (j = 3 ∧ 256 ≤ k.val ∧ n % 16 = 15) then ⊥ else 0

/-- What the tile holds at row `r` of sub-block `j` and lane `l` of pair `p`. -/
def tileAt (n : Nat) (x0 : Vec Ideal S8 .f32) (x1 : Vec Ideal S512x512 .bf16) (K : Fin 768 → Fin 256 → EReal)
    (x5 : Vec Ideal S8x128x384 .f32) (j : Fin 4) (r : Fin 128) (p : Fin 4) (l : Fin 128) : EReal :=
  sinkOut (fun k : Fin 384 => (∑ d : Fin 64, x1 (ix2 ⟨128 * j.val + r.val, by omega⟩ ⟨128 * p.val + (64 * (l.val / 64) + d.val), by omega⟩)
        * K ⟨128 * j.val + k.val, by omega⟩ ⟨64 * (l.val / 64) + d.val, by omega⟩
      + x5 (ix3 ⟨p.val + 4 * (l.val / 64), by omega⟩ r k)) + edge n j k)
    (x0 (ix1 ⟨p.val + 4 * (l.val / 64), by omega⟩)) (fun k => K ⟨128 * j.val + k.val, by omega⟩ ⟨128 + l.val, by omega⟩)

/-- A sub-block's pair of heads is the tile's value, once its loads are read at the tile's own blocks. -/
theorem pairAt_eq (n : Nat) (x0 : Vec Ideal S8 .f32) (x1 : Vec Ideal S512x512 .bf16) (K : Fin 768 → Fin 256 → EReal)
    (x5 : Vec Ideal S8x128x384 .f32) (j : Fin 4) (p : Fin 4) (kv : Vec Ideal S384x256 .bf16) (q : Fin 4 → Vec Ideal S128x128 .bf16)
    (bLo bHi : Vec Ideal S1x128x384 .f32) (a b : Elt Ideal .f32) (E : Fin 384 → EReal)
    (hkv : ∀ k c, kv (ix2 k c) = K ⟨128 * j.val + k.val, by omega⟩ c)
    (hq : ∀ r l, q p (ix2 r l) = x1 (ix2 ⟨128 * j.val + r.val, by omega⟩ ⟨128 * p.val + l.val, by omega⟩))
    (hbLo : ∀ r k, bLo (ix3 0 r k) = x5 (ix3 ⟨p.val, by omega⟩ r k)) (hbHi : ∀ r k, bHi (ix3 0 r k) = x5 (ix3 ⟨p.val + 4, by omega⟩ r k))
    (ha : a = x0 (ix1 ⟨p.val, by omega⟩)) (hb : b = x0 (ix1 ⟨p.val + 4, by omega⟩)) (hE : ∀ k, E k = edge n j k) (r l : Fin 128) :
    pairAt kv bLo bHi a b E q p r l = tileAt n x0 x1 K x5 j r p l := by
  unfold pairAt tileAt
  simp only [hkv, hq, hE]
  by_cases h : l.val < 64
  · have h2 : l.val / 64 = 0 := by omega
    simp only [h, if_true, hbLo, ha, h2]
    rfl
  · have h2 : l.val / 64 = 1 := by omega
    simp only [h, if_false, hbHi, hb, h2]

/-- The scratch window after its three stores. -/
theorem window_apply (x2 : Vec Ideal S128x256 .bf16) (x3 : Vec Ideal S512x256 .bf16) (x4 : Vec Ideal S128x256 .bf16) (a : Fin 768)
    (d : Fin 256) :
    View.canon (Val := Elt Ideal) (s := S768x256) (e := .bf16)
        [⟨Rect.unit ![640, 0] ![128, 256] inb_S768x256_S128x256_640_0, k1_pay4 x4⟩,
          ⟨Rect.unit ![128, 0] ![512, 256] inb_S768x256_S512x256_128_0, k1_pay3 x3⟩,
          ⟨Rect.unit ![0, 0] ![128, 256] inb_S768x256_S128x256_0_0, k1_pay2 x2⟩] (ix2 a d)
      = keys x2 x3 x4 a d := by
  unfold keys
  canon_tiles x h using View.cover_of_tiledBy _ ![128, 256] (by sl_kernel_rfl) _
  all_goals
    have e0 : a.val = _ := h0
    have e1 : d = x 1 := Fin.ext (by have e : d.val = _ := h1; omega)
    obtain ⟨r, l, rfl⟩ : ∃ r l, x = ix2 r l := ⟨x 0, x 1, by idx_ext⟩
    subst e1
    first | rw [dif_pos (by omega)] | rw [dif_neg (by omega), dif_pos (by omega)] | rw [dif_neg (by omega), dif_neg (by omega)]
    pointwise [k1_pay2, k1_pay3, k1_pay4]
    first
      | refine congrArg (fun z => x4 (ix2 z _)) (Fin.ext ?_)
      | refine congrArg (fun z => x3 (ix2 z _)) (Fin.ext ?_)
      | refine congrArg (fun z => x2 (ix2 z _)) (Fin.ext ?_)
    first
      | have e2 : a.val = 640 + r.val := e0; simp only []; omega
      | have e2 : a.val = 128 + r.val := e0; simp only []; omega
      | exact e0.symm

variable {K : Fin 768 → Fin 256 → EReal}

/-- A load of a block of queries reads the queries at its offsets. -/
theorem ld_q (x1 : Vec Ideal S512x512 .bf16) {o1 o2 : Nat} (h) (r l : Fin 128) (h1 : o1 + r.val < 512) (h2 : o2 + l.val < 512) :
    View.ld x1 (Rect.unit (s := S512x512) ![o1, o2] ![128, 128] h) (ix2 r l) = x1 (ix2 ⟨o1 + r.val, h1⟩ ⟨o2 + l.val, h2⟩) := by
  pointwise

/-- A load of a head's bias reads the bias of that head. -/
theorem ld_b (x5 : Vec Ideal S8x128x384 .f32) {o : Nat} (h) (r : Fin 128) (k : Fin 384) (ho : o < 8) :
    View.ld x5 (Rect.unit (s := S8x128x384) ![o, 0, 0] ![1, 128, 384] h) (ix3 0 r k) = x5 (ix3 ⟨o, ho⟩ r k) := by
  pointwise

/-- A load of a head's sink reads the sink of that head. -/
theorem ld_a (x0 : Vec Ideal S8 .f32) {o : Nat} (h) (h') (ho : o < 8) :
    View.ld x0 (Rect.unit (s := S8) ![o] ![1] h) (Shape.Idx.first h') = x0 (ix1 ⟨o, ho⟩) := by
  pointwise

/-- The four blocks of query features of sub-block `j`, as the body loads them. -/
def qs (x1 : Vec Ideal S512x512 .bf16) (j : Fin 4) (p : Fin 4) : Vec Ideal S128x128 .bf16 :=
  View.ld x1 (Rect.unit (s := S512x512) ![128 * j.val, 128 * p.val] ![128, 128] (by intro a; fin_cases a <;> simp <;> omega))

/-- The bias rows of a head, as the body loads them. -/
def bs (x5 : Vec Ideal S8x128x384 .f32) (o : Nat) (ho : o < 8) : Vec Ideal S1x128x384 .f32 :=
  View.ld x5 (Rect.unit (s := S8x128x384) ![o, 0, 0] ![1, 128, 384] (by intro a; fin_cases a <;> simp; omega))

/-- The sink of a head, as the body loads it. -/
def sinks (x0 : Vec Ideal S8 .f32) (o : Nat) (ho : o < 8) : Elt Ideal .f32 :=
  View.ld x0 (Rect.unit (s := S8) ![o] ![1] (by intro a; fin_cases a; simp; omega)) (Shape.Idx.first (show 0 < Shape.numel ⟨1, ![1]⟩ by decide))

section
variable (E : FVec Ideal S1x384 .f32) (u : FVec Ideal S384x128 .bf16) (q0 q1 : FVec Ideal S256x128 .bf16) (q2 : FVec Ideal S128x128 .bf16)
  (z : IVec S128x128 1) (q3 q4 q5 : Vec Ideal S128x128 .bf16) (b : Vec Ideal S1x128x384 .f32) (a : Elt Ideal .f32)

/-- The denominator of the first head, with keys cut off. -/
theorem pay17_eq : k1_pay17 E u q0 q1 q2 z q3 b a = denV (edgeV (biasV (sliceV 0 (k1_pay13 u q0 q1 q2 z q3)) b) E) a := rfl

/-- The exponentials of the first head, with keys cut off, rounded. -/
theorem pay18_eq :
    k1_pay18 E u q0 q1 q2 z q3 b a = truncf .bf16 (expV (edgeV (biasV (sliceV 0 (k1_pay13 u q0 q1 q2 z q3)) b) E) a) bitsLt_bf16_f32 := rfl

/-- The scores of the second head, with keys cut off. -/
theorem pay19_eq : k1_pay19 E u q0 q1 q2 z q3 b = edgeV (biasV (sliceV 1 (k1_pay13 u q0 q1 q2 z q3)) b) E := rfl

/-- The largest score of the first head in the last sub-block. -/
theorem pay129_eq : k1_pay129 E u q0 q3 q4 q5 b a = peakV (edgeV (biasV (sliceV 0 (k1_pay127 u q0 q3 q4 q5)) b) E) a := rfl

/-- The exponentials of the first head in the last sub-block. -/
theorem pay130_eq : k1_pay130 E u q0 q3 q4 q5 b a = expV (edgeV (biasV (sliceV 0 (k1_pay127 u q0 q3 q4 q5)) b) E) a := rfl

/-- The denominator of the first head in a middle sub-block. -/
theorem pay55_eq (y w : FVec Ideal S128x128 .bf16) :
    k1_pay55 u q0 q1 q2 z y w q3 b a = denV (biasV (sliceV 0 (k1_pay51 u q0 q1 q2 z y w q3)) b) a := rfl

/-- The exponentials of the first head in a middle sub-block, rounded. -/
theorem pay56_eq (y w : FVec Ideal S128x128 .bf16) :
    k1_pay56 u q0 q1 q2 z y w q3 b a = truncf .bf16 (expV (biasV (sliceV 0 (k1_pay51 u q0 q1 q2 z y w q3)) b) a) bitsLt_bf16_f32 := rfl

/-- The largest score of the second head in a middle sub-block. -/
theorem pay58_eq (y w : FVec Ideal S128x128 .bf16) :
    k1_pay58 u q0 q1 q2 z y w q3 b a = peakV (biasV (sliceV 1 (k1_pay51 u q0 q1 q2 z y w q3)) b) a := rfl

/-- The exponentials of the second head in a middle sub-block. -/
theorem pay59_eq (y w : FVec Ideal S128x128 .bf16) :
    k1_pay59 u q0 q1 q2 z y w q3 b a = expV (biasV (sliceV 1 (k1_pay51 u q0 q1 q2 z y w q3)) b) a := rfl

/-- The scores of the first head in the next middle sub-block. -/
theorem pay84_eq (q6 : Vec Ideal S128x128 .bf16) : k1_pay84 u q3 q4 q5 q6 = sliceV 0 (k1_pay83 u q3 q4 q5 q6) := rfl

end

/-- One piece of an inner sub-block: `W` the stacked values, `X` the stacked scores. -/
theorem mid_piece (x0 : Vec Ideal S8 .f32) (x1 : Vec Ideal S512x512 .bf16) (x5 : Vec Ideal S8x128x384 .f32) (n : Nat)
    (kv : Vec Ideal S384x256 .bf16) (J P : Fin 4)
    {X} (hX : scoresV kv (qs x1 J 0) (qs x1 J 1) (qs x1 J 2) (qs x1 J 3) = X) {W} (hW : k1_pay8 kv = W)
    (hk : ∀ k c, kv (ix2 k c) = K ⟨128 * J.val + k.val, by omega⟩ c) (h0 : J ≠ 0) (h3 : J ≠ 3) {j p : Fin 4} {r l : Fin 128}
    {x : S128x128.Idx} (e0 : 128 * j.val + r.val = 128 * J.val + (x 0).val) (e1 : 128 * p.val + l.val = 128 * P.val + (x 1).val) :
    pairV W (biasV (sliceV ⟨2 * P.val, by omega⟩ X) (bs x5 P.val (by omega)))
        (biasV (sliceV ⟨2 * P.val + 1, by omega⟩ X) (bs x5 (P.val + 4) (by omega)))
        (sinks x0 P.val (by omega)) (sinks x0 (P.val + 4) (by omega)) x
      = tileAt n x0 x1 K x5 j r p l := by
  have hx0 : (x 0).val < 128 := (x 0).isLt
  have hx1 : (x 1).val < 128 := (x 1).isLt
  obtain rfl : j = J := Fin.ext (by omega)
  obtain rfl : p = P := Fin.ext (by omega)
  obtain rfl : x = ix2 r l := by idx_ext
  subst hX hW
  exact (midV_apply kv _ _ _ _ (qs x1 j) p _ _ rfl rfl r l).trans
    (pairAt_eq n x0 x1 K x5 j p kv (qs x1 j) _ _ _ _ _ hk (fun r l => ld_q _ _ _ _ _ _) (fun r k => ld_b _ _ _ _ _)
      (fun r k => ld_b _ _ _ _ _) (ld_a _ _ _ _) (ld_a _ _ _ _) (fun k => by simp [edge, h0, h3]) r l)

/-- One piece of the first or the last sub-block, with the row `e` of its edge. -/
theorem rim_piece (x0 : Vec Ideal S8 .f32) (x1 : Vec Ideal S512x512 .bf16) (x5 : Vec Ideal S8x128x384 .f32) (n : Nat)
    (kv : Vec Ideal S384x256 .bf16) (J P : Fin 4)
    {X} (hX : scoresV kv (qs x1 J 0) (qs x1 J 1) (qs x1 J 2) (qs x1 J 3) = X) {W} (hW : k1_pay8 kv = W) {e : FVec Ideal S1x384 .f32}
    (hk : ∀ k c, kv (ix2 k c) = K ⟨128 * J.val + k.val, by omega⟩ c) (he : ∀ k, e (ix2 0 k) = edge n J k) {j p : Fin 4} {r l : Fin 128}
    {x : S128x128.Idx} (e0 : 128 * j.val + r.val = 128 * J.val + (x 0).val) (e1 : 128 * p.val + l.val = 128 * P.val + (x 1).val) :
    pairV W (edgeV (biasV (sliceV ⟨2 * P.val, by omega⟩ X) (bs x5 P.val (by omega))) e)
        (edgeV (biasV (sliceV ⟨2 * P.val + 1, by omega⟩ X) (bs x5 (P.val + 4) (by omega))) e)
        (sinks x0 P.val (by omega)) (sinks x0 (P.val + 4) (by omega)) x
      = tileAt n x0 x1 K x5 j r p l := by
  have hx0 : (x 0).val < 128 := (x 0).isLt
  have hx1 : (x 1).val < 128 := (x 1).isLt
  obtain rfl : j = J := Fin.ext (by omega)
  obtain rfl : p = P := Fin.ext (by omega)
  obtain rfl : x = ix2 r l := by idx_ext
  subst hX hW
  exact (rimV_apply kv _ _ _ _ _ (qs x1 j) p _ _ rfl rfl r l).trans
    (pairAt_eq n x0 x1 K x5 j p kv (qs x1 j) _ _ _ _ _ hk (fun r l => ld_q _ _ _ _ _ _) (fun r k => ld_b _ _ _ _ _)
      (fun r k => ld_b _ _ _ _ _) (ld_a _ _ _ _) (ld_a _ _ _ _) he r l)

/-- The cut of the first sub-block. -/
theorem edge_first (i : grid1.Coords) (k : Fin 384) : k1_pay5 (F := Ideal) i (ix2 0 k) = edge (i 0).val 0 k := by
  rw [pay5_apply]; simp [edge]

/-- The cut of the last sub-block. -/
theorem edge_last (i : grid1.Coords) (k : Fin 384) :
    k1_pay6 (F := Ideal) (placeWord (i 0).val) (iota .tc S1x384 32 [1] iota_S1x384_d1_w32) (ix2 0 k) = edge (i 0).val 3 k := by
  rw [pay6_apply]; simp [edge]

variable (V : (c : Dev nD) → (b : Ref sig .tc) → Buf (Elt Ideal) ((c : Thread nD τ).loc b))

set_option maxHeartbeats 2000000 in
/-- The block a step writes is the tile computed from the step's blocks. -/
theorem block_apply (c : Dev nD) (t : Fin cfg1.N) (j : Fin 4) (r : Fin 128) (p : Fin 4) (l : Fin 128) :
    outsAt1 V c t (ix2 ⟨128 * j.val + r.val, by omega⟩ ⟨128 * p.val + l.val, by omega⟩)
      = tileAt (grid1.coords t 0).val (iblk1 V c 0 t) (iblk1 V c 1 t) (keys (iblk1 V c 2 t) (iblk1 V c 3 t) (iblk1 V c 4 t)) (iblk1 V c 5 t)
          j r p l := by
  unfold outsAt1
  frame_out
  have hk : ∀ (o : Nat) (h) (k : Fin 384) (d : Fin 256) (hb : o + k.val < 768),
      View.canon (Val := Elt Ideal) (s := S768x256) (e := .bf16)
        [⟨Rect.unit ![640, 0] ![128, 256] inb_S768x256_S128x256_640_0, k1_pay4 (iblk1 V c 4 t)⟩,
          ⟨Rect.unit ![128, 0] ![512, 256] inb_S768x256_S512x256_128_0, k1_pay3 (iblk1 V c 3 t)⟩,
          ⟨Rect.unit ![0, 0] ![128, 256] inb_S768x256_S128x256_0_0, k1_pay2 (iblk1 V c 2 t)⟩]
        ((Rect.unit (s := S768x256) ![o, 0] ![384, 256] h).toLoadRect.idx (ix2 k d))
      = keys (iblk1 V c 2 t) (iblk1 V c 3 t) (iblk1 V c 4 t) ⟨o + k.val, hb⟩ d := fun o h k d hb =>
    (congrArg (View.canon (Val := Elt Ideal) _) (show _ = (ix2 ⟨o + k.val, hb⟩ d : S768x256.Idx) by idx_ext)).trans
      (window_apply _ _ _ _ _)
  generalize hkv0 : View.readCov (Val := Elt Ideal) (View.whole cc1_scratch0) _ (Rect.unit (s := S768x256) ![0, 0] ![384, 256] _).toLoadRect = kv0
  generalize hkv1 : View.readCov (Val := Elt Ideal) (View.whole cc1_scratch0) _ (Rect.unit (s := S768x256) ![128, 0] ![384, 256] _).toLoadRect = kv1
  generalize hkv2 : View.readCov (Val := Elt Ideal) (View.whole cc1_scratch0) _ (Rect.unit (s := S768x256) ![256, 0] ![384, 256] _).toLoadRect = kv2
  generalize hkv3 : View.readCov (Val := Elt Ideal) (View.whole cc1_scratch0) _ (Rect.unit (s := S768x256) ![384, 0] ![384, 256] _).toLoadRect = kv3
  have hk0 := fun k d => (congrFun (hkv0.symm.trans (View.readCov_eq_canon' _ _ _)) (ix2 k d)).trans (hk (128 * (0 : Fin 4).val) _ k d (by omega))
  have hk1 := fun k d => (congrFun (hkv1.symm.trans (View.readCov_eq_canon' _ _ _)) (ix2 k d)).trans (hk (128 * (1 : Fin 4).val) _ k d (by simp; omega))
  have hk2 := fun k d => (congrFun (hkv2.symm.trans (View.readCov_eq_canon' _ _ _)) (ix2 k d)).trans (hk (128 * (2 : Fin 4).val) _ k d (by simp; omega))
  have hk3 := fun k d => (congrFun (hkv3.symm.trans (View.readCov_eq_canon' _ _ _)) (ix2 k d)).trans (hk (128 * (3 : Fin 4).val) _ k d (by simp; omega))
  clear hkv0 hkv1 hkv2 hkv3 hk
  generalize hX0 : k1_pay13 (F := Ideal) (k1_pay7 kv0) _ _ _ _ _ = X0
  generalize hX1 : k1_pay51 (F := Ideal) (k1_pay43 kv1) _ _ _ _ _ _ _ = X1
  generalize hX2 : k1_pay83 (F := Ideal) (k1_pay79 kv2) _ _ _ _ = X2
  generalize hX3 : k1_pay127 (F := Ideal) (k1_pay124 kv3) _ _ _ _ = X3
  generalize hW1 : k1_pay44 (F := Ideal) kv1 = W1
  generalize hW2 : k1_pay82 (F := Ideal) (k1_pay80 kv2) _ _ = W2
  generalize hW3 : k1_pay125 (F := Ideal) kv3 = W3
  generalize hE0 : k1_pay5 (F := Ideal) (grid1.coords t) = E0
  generalize hE3 : k1_pay6 (F := Ideal) _ _ = E3
  have he0 : ∀ k, E0 (ix2 0 k) = edge (grid1.coords t 0).val 0 k := fun k => hE0 ▸ edge_first _ k
  have he3 : ∀ k, E3 (ix2 0 k) = edge (grid1.coords t 0).val 3 k := fun k => hE3 ▸ edge_last _ k
  clear hE0 hE3
  canon_tiles x h
  all_goals
    have e0 : 128 * j.val + r.val = _ := h0
    have e1 : 128 * p.val + l.val = _ := h1
    clear h0 h1
  case piece0 => exact rim_piece _ (iblk1 V c 1 t) (iblk1 V c 5 t) _ kv3 3 3 hX3 hW3 hk3 he3 e0 e1
  case piece1 => exact rim_piece _ (iblk1 V c 1 t) (iblk1 V c 5 t) _ kv3 3 2 hX3 hW3 hk3 he3 e0 e1
  case piece2 => exact rim_piece _ (iblk1 V c 1 t) (iblk1 V c 5 t) _ kv3 3 1 hX3 hW3 hk3 he3 e0 e1
  case piece3 => rw [pay129_eq, pay130_eq, hX3]; exact rim_piece _ (iblk1 V c 1 t) (iblk1 V c 5 t) _ kv3 3 0 hX3 hW3 hk3 he3 e0 (by simpa using e1)
  case piece4 => exact mid_piece _ (iblk1 V c 1 t) (iblk1 V c 5 t) _ kv2 2 3 hX2 hW2 hk2 (by decide) (by decide) e0 e1
  case piece5 => exact mid_piece _ (iblk1 V c 1 t) (iblk1 V c 5 t) _ kv2 2 2 hX2 hW2 hk2 (by decide) (by decide) e0 e1
  case piece6 => exact mid_piece _ (iblk1 V c 1 t) (iblk1 V c 5 t) _ kv2 2 1 hX2 hW2 hk2 (by decide) (by decide) e0 e1
  case piece7 => rw [pay84_eq, hX2]; exact mid_piece _ (iblk1 V c 1 t) (iblk1 V c 5 t) _ kv2 2 0 hX2 hW2 hk2 (by decide) (by decide) e0 (by simpa using e1)
  case piece8 => exact mid_piece _ (iblk1 V c 1 t) (iblk1 V c 5 t) _ kv1 1 3 hX1 hW1 hk1 (by decide) (by decide) e0 e1
  case piece9 => exact mid_piece _ (iblk1 V c 1 t) (iblk1 V c 5 t) _ kv1 1 2 hX1 hW1 hk1 (by decide) (by decide) e0 e1
  case piece10 => exact mid_piece _ (iblk1 V c 1 t) (iblk1 V c 5 t) _ kv1 1 1 hX1 hW1 hk1 (by decide) (by decide) e0 e1
  case piece11 => rw [pay55_eq, pay56_eq, pay58_eq, pay59_eq, hX1]; exact mid_piece _ (iblk1 V c 1 t) (iblk1 V c 5 t) _ kv1 1 0 hX1 hW1 hk1 (by decide) (by decide) e0 (by simpa using e1)
  case piece12 => exact rim_piece _ (iblk1 V c 1 t) (iblk1 V c 5 t) _ kv0 0 3 hX0 rfl hk0 he0 (by simpa using e0) e1
  case piece13 => exact rim_piece _ (iblk1 V c 1 t) (iblk1 V c 5 t) _ kv0 0 2 hX0 rfl hk0 he0 (by simpa using e0) e1
  case piece14 => exact rim_piece _ (iblk1 V c 1 t) (iblk1 V c 5 t) _ kv0 0 1 hX0 rfl hk0 he0 (by simpa using e0) e1
  case piece15 => rw [pay17_eq, pay18_eq, pay19_eq, hX0]; exact rim_piece _ (iblk1 V c 1 t) (iblk1 V c 5 t) _ kv0 0 0 hX0 rfl hk0 he0 (by simpa using e0) (by simpa using e1)

end Cert.KernelIdeal.WinAttn
-- ==== Proof.WinAttnArray.lean ====
/- The second call (`win_attn`) over whole arrays: every tile's blocks are read at their rows of the projections, and the tiles
   together make the attention's result. -/
module

public import proofs.«01_k».proof.Proof.WinAttn

@[expose] public section

set_option maxRecDepth 16384

noncomputable section

namespace Cert.KernelIdeal.WinAttn

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- Every window's block index at every grid point: the queries, the tile's own keys and the result move with the point; the
    blocks of 128 keys before and after it are held inside the array. -/
theorem idx : ∀ t : Fin cfg1.N, win1_0.index t = ![0] ∧ win1_1.index t = ![t.val, 0] ∧ win1_2.index t = ![4 * t.val - 1, 0]
    ∧ win1_3.index t = ![t.val, 0] ∧ win1_4.index t = ![min (4 * (t.val + 1)) 511, 0] ∧ win1_5.index t = ![0, 0, 0]
    ∧ win1_6.index t = ![t.val, 0] ∧ (grid1.coords t 0).val = t.val :=
  (by decide +kernel : ∀ t : Fin grid1.N, _)

/-- The row of the projection that row `a` of tile `t`'s 768 keys is. -/
def keyRow (t : Fin 128) (a : Fin 768) : Fin 65536 :=
  if h : a.val < 128 then ⟨128 * (4 * t.val - 1) + a.val, by omega⟩
  else if h' : a.val < 640 then ⟨512 * t.val + (a.val - 128), by omega⟩
  else ⟨128 * min (4 * (t.val + 1)) 511 + (a.val - 640), by omega⟩

/-- The result at row `r` of sub-block `j` of tile `t`, at lane `l` of pair `p`. -/
def winAt (SNK : Vec Ideal S8 .f32) (QA : Vec Ideal S65536x512 .bf16) (KV : Vec Ideal S65536x256 .bf16) (B : Vec Ideal S8x128x384 .f32)
    (t : Fin 128) (j : Fin 4) (r : Fin 128) (p : Fin 4) (l : Fin 128) : EReal :=
  sinkOut (fun k : Fin 384 =>
      (∑ d : Fin 64, QA (ix2 ⟨512 * t.val + (128 * j.val + r.val), by omega⟩ ⟨128 * p.val + (64 * (l.val / 64) + d.val), by omega⟩)
          * KV (ix2 (keyRow t ⟨128 * j.val + k.val, by omega⟩) ⟨64 * (l.val / 64) + d.val, by omega⟩)
        + B (ix3 ⟨p.val + 4 * (l.val / 64), by omega⟩ r k)) + edge t.val j k)
    (SNK (ix1 ⟨p.val + 4 * (l.val / 64), by omega⟩))
    (fun k => KV (ix2 (keyRow t ⟨128 * j.val + k.val, by omega⟩) ⟨128 + l.val, by omega⟩))

/-- The same at a row and a lane of the whole result. -/
def winRow (SNK : Vec Ideal S8 .f32) (QA : Vec Ideal S65536x512 .bf16) (KV : Vec Ideal S65536x256 .bf16) (B : Vec Ideal S8x128x384 .f32)
    (i : Fin 65536) (l : Fin 512) : EReal :=
  winAt SNK QA KV B ⟨i.val / 512, by omega⟩ ⟨i.val / 128 % 4, by omega⟩ ⟨i.val % 128, by omega⟩ ⟨l.val / 128, by omega⟩
    ⟨l.val % 128, by omega⟩

/-- The array the call leaves, over the arrays it is handed. -/
def winArr (SNK : Vec Ideal S8 .f32) (QA : Vec Ideal S65536x512 .bf16) (KV : Vec Ideal S65536x256 .bf16) (B : Vec Ideal S8x128x384 .f32) :
    Vec Ideal S65536x512 .bf16 := fun i => winRow SNK QA KV B (i 0) (i 1)

/-- An entry of the array, named by its tile, sub-block, pair and lane. -/
theorem winRow_eq (SNK QA KV B) (t : Fin 128) (j : Fin 4) (r : Fin 128) (p : Fin 4) (l : Fin 128) (i : Fin 65536) (m : Fin 512)
    (hi : i.val = 512 * t.val + (128 * j.val + r.val)) (hm : m.val = 128 * p.val + l.val) :
    winRow SNK QA KV B i m = winAt SNK QA KV B t j r p l := by
  unfold winRow
  congr 1 <;> exact Fin.ext (by simp only []; omega)

/-- Every tile reads all the sinks. -/
theorem blk0 (c : Dev nD) (t : Fin cfg1.N) : iblk1 V c 0 t = V c main_v54 := by
  blk_ext! [iblk1, idx t]

/-- Tile `t` reads its 512 rows of the queries. -/
theorem blk1 (c : Dev nD) (t : Fin cfg1.N) (r : Fin 512) (j : Fin 512) :
    iblk1 V c 1 t (ix2 r j) = V c main_v53_0 (ix2 ⟨512 * t.val + r.val, by have : t.val < 128 := t.isLt; omega⟩ j) := by
  blk_ext [iblk1, idx t]

/-- Tile `t` reads the 128 rows of keys and values before its own. -/
theorem blk2 (c : Dev nD) (t : Fin cfg1.N) (r : Fin 128) (j : Fin 256) :
    iblk1 V c 2 t (ix2 r j) = V c main_v53_1 (ix2 ⟨128 * (4 * t.val - 1) + r.val, by have : t.val < 128 := t.isLt; omega⟩ j) := by
  blk_ext [iblk1, idx t]

/-- Tile `t` reads its own 512 rows of keys and values. -/
theorem blk3 (c : Dev nD) (t : Fin cfg1.N) (r : Fin 512) (j : Fin 256) :
    iblk1 V c 3 t (ix2 r j) = V c main_v53_1 (ix2 ⟨512 * t.val + r.val, by have : t.val < 128 := t.isLt; omega⟩ j) := by
  blk_ext [iblk1, idx t]

/-- Tile `t` reads the 128 rows of keys and values after its own. -/
theorem blk4 (c : Dev nD) (t : Fin cfg1.N) (r : Fin 128) (j : Fin 256) :
    iblk1 V c 4 t (ix2 r j) = V c main_v53_1 (ix2 ⟨128 * min (4 * (t.val + 1)) 511 + r.val, by have : t.val < 128 := t.isLt; omega⟩ j) := by
  blk_ext [iblk1, idx t]

/-- Every tile reads the whole bias table. -/
theorem blk5 (c : Dev nD) (t : Fin cfg1.N) : iblk1 V c 5 t = V c main_v29 := by
  blk_ext! [iblk1, idx t]

/-- Tile `t` writes its 512 rows. -/
theorem blk6 (t : Fin cfg1.N) (r : Fin 512) (j : Fin 512) :
    ((win1_6.blk t).view.emb (ix2 r j) : S65536x512.Idx) = ix2 ⟨512 * t.val + r.val, by have : t.val < 128 := t.isLt; omega⟩ j := by
  blk_ext [idx t]

/-- A tile's keys, read at their rows of the projection. -/
theorem keys_eq (c : Dev nD) (t : Fin cfg1.N) (a : Fin 768) (d : Fin 256) :
    keys (iblk1 V c 2 t) (iblk1 V c 3 t) (iblk1 V c 4 t) a d = V c main_v53_1 (ix2 (keyRow t a) d) := by
  unfold keys keyRow
  split_ifs
  · exact blk2 V c t _ _
  · exact blk3 V c t _ _
  · exact blk4 V c t _ _

/-- The call's result array. -/
theorem final (c : Dev nD) : (dat1 V c).arrAt 6 cfg1.N = winArr (V c main_v54) (V c main_v53_0) (V c main_v53_1) (V c main_v29) := by
  refine (dat1 V c).arrAt_eq_of_covers 6 _ (by decide +kernel) fun t _ y => ?_
  blk_simp
  rw [after1_6]
  obtain ⟨j, r, p, l, rfl⟩ : ∃ (j : Fin 4) (r : Fin 128) (p : Fin 4) (l : Fin 128),
      y = ix2 ⟨128 * j.val + r.val, by omega⟩ ⟨128 * p.val + l.val, by omega⟩ := by
    have h0 : (y 0).val < 512 := (y 0).isLt
    have h1 : (y 1).val < 512 := (y 1).isLt
    exact ⟨⟨(y 0).val / 128, by omega⟩, ⟨(y 0).val % 128, by omega⟩, ⟨(y 1).val / 128, by omega⟩, ⟨(y 1).val % 128, by omega⟩, by idx_ext⟩
  refine (block_apply V c t j r p l).trans ?_
  refine Eq.trans ?_ (congrArg (winArr _ _ _ _) (blk6 t _ _)).symm
  refine Eq.trans ?_ (winRow_eq _ _ _ _ t j r p l _ _ rfl rfl).symm
  unfold tileAt winAt
  simp only [keys_eq, blk0, blk1, blk5, (idx t).2.2.2.2.2.2.2]

end Cert.KernelIdeal.WinAttn
-- ==== Proof.NbrAttnPair.lean ====
/- The third call (`nbr_attn`), one grid row of 64 tokens: the output of one pair of heads (the two heads whose features
   share 128 lanes) from their queries, keys, values and biases, read at one element. -/
module

public import proofs.«01_k».proof.Proof.WinAttnPair

@[expose] public section

set_option maxRecDepth 16384

noncomputable section

namespace Cert.KernelIdeal.NbrAttn

open Idealize.ShloMosaic Idealize.ShloMosaic.TcCoe Idealize.SL.Sem
open Cert.KernelIdeal Cert.KernelIdeal.Gen
open Cert.KernelIdeal.WinAttn (sel_lane sum_lo sum_hi negInf lane)

/-- The largest of a row of scores. -/
def top {n : Nat} (s : Fin n → EReal) : EReal := Finset.univ.fold max ⊥ s

/-- One number of an attention: the values weighted by the exponentials of the scores less their largest, over the sum of
    those exponentials. -/
def softOut {n : Nat} (s : Fin n → EReal) (v : Fin n → EReal) : EReal :=
  Ideal.div (∑ k, Ideal.exp (s k - top s) * v k) (∑ k, Ideal.exp (s k - top s))

/-- The scores of the two heads of a pair, one head's 64 rows over the other's. -/
def bothV (q : Vec Ideal S64x128 .bf16) (k : Vec Ideal S512x128 .bf16) : FVec Ideal S128x512 .f32 := k2_pay2 q k

/-- The first head's scores with its bias. -/
def loV (q : Vec Ideal S64x128 .bf16) (k : Vec Ideal S512x128 .bf16) (b : Vec Ideal S1x1x64x512 .f32) : FVec Ideal S64x512 .f32 :=
  addf (extractStridedSlice S64x512 ![0, 0] (bothV q k) slices_S128x512_o0_0_S64x512) (shapeCast S64x512 b shapeCasts_S1x1x64x512_S64x512)

/-- The second head's scores with its bias. -/
def hiV (q : Vec Ideal S64x128 .bf16) (k : Vec Ideal S512x128 .bf16) (b : Vec Ideal S1x1x64x512 .f32) : FVec Ideal S64x512 .f32 :=
  addf (extractStridedSlice S64x512 ![64, 0] (bothV q k) slices_S128x512_o64_0_S64x512) (shapeCast S64x512 b shapeCasts_S1x1x64x512_S64x512)

/-- The exponentials of the scores less their row's largest. -/
def expV (s : FVec Ideal S64x512 .f32) : FVec Ideal S64x512 .f32 :=
  exp (subf s (broadcastTo S64x512 (shapeCast S64x1 (multiReduction .maximumf [1] S64 s 0xFF800000#32 reduces_S64x512_S64 (.inl rfl) rfl) shapeCasts_S64_S64x1) broadcasts_S64x1_S64x512))

/-- Every row's sum of exponentials. -/
def denV (s : FVec Ideal S64x512 .f32) : FVec Ideal S64x1 .f32 :=
  shapeCast S64x1 (multiReduction .add [1] S64 (expV s) 0x00000000#32 reduces_S64x512_S64 (.inl rfl) rfl) shapeCasts_S64_S64x1

/-- The output of a pair of heads from their values and scores. -/
def pairV (v : Vec Ideal S512x128 .bf16) (sLo sHi : FVec Ideal S64x512 .f32) : FVec Ideal S64x128 .bf16 :=
  k2_pay23 (k2_pay17 v) (truncf .bf16 (expV sLo) bitsLt_bf16_f32) (denV sLo) sHi

/-- The output of a pair of heads from the four rectangles the kernel loads. -/
def headsV (q : Vec Ideal S64x128 .bf16) (k v : Vec Ideal S512x128 .bf16) (bLo bHi : Vec Ideal S1x1x64x512 .f32) :
    FVec Ideal S64x128 .bf16 := pairV v (loV q k bLo) (hiV q k bHi)

variable (q : Vec Ideal S64x128 .bf16) (k v : Vec Ideal S512x128 .bf16) (bLo bHi : Vec Ideal S1x1x64x512 .f32)

variable {q k v bLo bHi}

/-- A pair's lanes: the first head's softmax on the first 64, the second head's on the others. -/
theorem pairV_apply (v : Vec Ideal S512x128 .bf16) (sLo sHi : FVec Ideal S64x512 .f32) (r : Fin 64) (d : Fin 128) :
    pairV v sLo sHi (ix2 r d)
      = if d.val < 64 then softOut (fun k => sLo (ix2 r k)) (fun k => v (ix2 k d)) else softOut (fun k => sHi (ix2 r k)) (fun k => v (ix2 k d)) := by
  unfold softOut top
  pointwise [pairV, k2_pay23, k2_pay17, denV, expV]
  simp only [sel_lane d (by omega) 64 (by omega), negInf]
  by_cases h : d.val < 64 <;> simp only [h, if_true, if_false, Finset.sum_const_zero, add_zero, zero_add, zero_mul, mul_zero]

/-- The first head's scores: the products of the first 64 features, and the bias. -/
theorem loV_apply (r : Fin 64) (j : Fin 512) :
    loV q k bLo (ix2 r j) = (∑ d : Fin 64, q (ix2 r ⟨0 + d.val, by omega⟩) * k (ix2 j ⟨0 + d.val, by omega⟩)) + bLo (ix4 0 0 r j) := by
  refine Eq.trans (b := (∑ x : Fin 128, lane 0 x (q (ix2 r x)) * k (ix2 j x)) + bLo (ix4 0 0 r j)) ?_ ?_
  · pointwise [loV, bothV, k2_pay2]
    refine congrArg (· + bLo (ix4 0 0 r j)) (Finset.sum_congr rfl fun x _ => ?_)
    simp only [sel_lane x (by omega) 64 (by omega), lane, if_true]
    split_ifs <;> simp
  · exact congrArg (· + bLo (ix4 0 0 r j)) (sum_lo (fun x => q (ix2 r x)) fun x => k (ix2 j x))

/-- The second head's scores: the products of the last 64 features, and the bias. -/
theorem hiV_apply (r : Fin 64) (j : Fin 512) :
    hiV q k bHi (ix2 r j) = (∑ d : Fin 64, q (ix2 r ⟨64 + d.val, by omega⟩) * k (ix2 j ⟨64 + d.val, by omega⟩)) + bHi (ix4 0 0 r j) := by
  refine Eq.trans (b := (∑ x : Fin 128, lane 1 x (q (ix2 r x)) * k (ix2 j x)) + bHi (ix4 0 0 r j)) ?_ ?_
  · pointwise [hiV, bothV, k2_pay2]
    refine congrArg (· + bHi (ix4 0 0 r j)) (Finset.sum_congr rfl fun x _ => ?_)
    simp only [sel_lane x (by omega) 64 (by omega), lane, Fin.one_eq_zero_iff, OfNat.ofNat_ne_one, if_false]
    split_ifs <;> simp
  · exact congrArg (· + bHi (ix4 0 0 r j)) (sum_hi (fun x => q (ix2 r x)) fun x => k (ix2 j x))

/-- The output of a pair of heads at one row and lane: the softmax of the lane's head. -/
theorem headsV_apply (r : Fin 64) (l : Fin 128) :
    headsV q k v bLo bHi (ix2 r l)
      = softOut (fun j => (∑ d : Fin 64, q (ix2 r ⟨64 * (l.val / 64) + d.val, by omega⟩) * k (ix2 j ⟨64 * (l.val / 64) + d.val, by omega⟩))
          + if l.val < 64 then bLo (ix4 0 0 r j) else bHi (ix4 0 0 r j)) (fun j => v (ix2 j l)) := by
  unfold headsV
  rw [pairV_apply]
  by_cases h : l.val < 64
  · have e : 64 * (l.val / 64) = 0 := by omega
    simp only [h, if_true, loV_apply, e]
  · have e : 64 * (l.val / 64) = 64 := by omega
    simp only [h, if_false, hiV_apply, e]

end Cert.KernelIdeal.NbrAttn
-- ==== Proof.NbrAttnOff.lean ====
/- The third call (`nbr_attn`): the rectangles one trip of the body's loop loads, in closed form. -/
module

public import proofs.«01_k».proof.Proof.NbrAttnPair
public import Idealize.ShloMosaic.Lib.Pipeline.ValueKit

@[expose] public section

set_option maxRecDepth 16384

noncomputable section

namespace Cert.KernelIdeal.NbrAttn

open Idealize.ShloMosaic Idealize.ShloMosaic.TcCoe Idealize.SL.Sem
open Cert.KernelIdeal Cert.KernelIdeal.Gen

/-- Row `k` of tile `m`: the row of the tile's window its neighbourhood starts at. -/
def wstart (m k : Nat) : Nat := min (8 * m + k - 4) 120 - min (8 * m - 4) 112

/-- Row `k` of tile `m`: which of the eight bias tables it reads. -/
def wcase (m k : Nat) : Nat := min (8 * m + k - 4) 120 + 7 - (8 * m + k)

/-- A neighborhood starts within the first nine rows of the window. -/
theorem wstart_le (m : Fin 16) (k : Fin 8) : wstart m.val k.val ≤ 8 := by unfold wstart; omega

/-- The case is one of the eight tables. -/
theorem wcase_lt (m : Fin 16) (k : Fin 8) : wcase m.val k.val < 8 := by unfold wcase; omega

/-- Where a trip loads the keys of each pair. -/
def keyOff (i : grid2.Coords) (k : Fin k2_t1_loop.trips) : Fin 4 → Fin 2 → Nat := ![k2_off2 i k, k2_off7 i k, k2_off12 i k, k2_off17 i k]

/-- Where a trip loads the values of each pair. -/
def valOff (i : grid2.Coords) (k : Fin k2_t1_loop.trips) : Fin 4 → Fin 2 → Nat := ![k2_off3 i k, k2_off8 i k, k2_off13 i k, k2_off18 i k]

/-- Where a trip loads the bias of the first head of each pair. -/
def loOff (i : grid2.Coords) (k : Fin k2_t1_loop.trips) : Fin 4 → Fin 4 → Nat := ![k2_off4 i k, k2_off9 i k, k2_off14 i k, k2_off19 i k]

/-- Where a trip loads the bias of the second head of each pair. -/
def hiOff (i : grid2.Coords) (k : Fin k2_t1_loop.trips) : Fin 4 → Fin 4 → Nat := ![k2_off5 i k, k2_off10 i k, k2_off15 i k, k2_off20 i k]

/-- The loads of a trip: keys and values from the row its neighborhood starts at, the biases from its case. -/
theorem off_eq : ∀ (i : grid2.Coords) (k : Fin k2_t1_loop.trips) (p : Fin 4),
    keyOff i k p = ![64 * wstart ((i 0).val % 16) k.val, 128 * p.val]
      ∧ valOff i k p = ![64 * wstart ((i 0).val % 16) k.val, 512 + 128 * p.val]
      ∧ loOff i k p = ![wcase ((i 0).val % 16) k.val, 2 * p.val, 0, 0]
      ∧ hiOff i k p = ![wcase ((i 0).val % 16) k.val, 2 * p.val + 1, 0, 0] := by decide +kernel

end Cert.KernelIdeal.NbrAttn
-- ==== Proof.NbrAttn.lean ====
/- The third call (`nbr_attn`), one grid point: eight grid rows of 64 tokens, each row a trip of the body's loop that stores
   the four pairs of heads. Every stored piece is the same function of the point's blocks, so the block is. -/
module

public import proofs.«01_k».proof.Proof.NbrAttnPair
public import proofs.«01_k».proof.Proof.NbrAttnOff
public import Idealize.ShloMosaic.Lib.Pipeline.ValueKit

@[expose] public section

set_option maxRecDepth 16384

noncomputable section

namespace Cert.KernelIdeal.NbrAttn

open Idealize.ShloMosaic Idealize.ShloMosaic.TcCoe Idealize.SL.Sem
open Cert.KernelIdeal Cert.KernelIdeal.Gen

/-- The output of tile `m` at its row `k`, the row's token `r`, the pair `p` and the lane `l`: the softmax over the row's
    512 neighbourhood keys. -/
def tileAt (m : Fin 16) (x0 : Vec Ideal S512x512 .bf16) (x1 : Vec Ideal S1024x1024 .bf16) (x2 : Vec Ideal S8x8x64x512 .f32)
    (k : Fin 8) (p : Fin 4) (r : Fin 64) (l : Fin 128) : EReal :=
  have hs := wstart_le m k
  softOut (fun j : Fin 512 =>
      (∑ d : Fin 64, x0 (ix2 ⟨64 * k.val + r.val, by omega⟩ ⟨128 * p.val + (64 * (l.val / 64) + d.val), by omega⟩)
          * x1 (ix2 ⟨64 * wstart m.val k.val + j.val, by omega⟩ ⟨128 * p.val + (64 * (l.val / 64) + d.val), by omega⟩))
        + x2 (ix4 ⟨wcase m.val k.val, wcase_lt m k⟩ ⟨2 * p.val + l.val / 64, by omega⟩ r j))
    (fun j => x1 (ix2 ⟨64 * wstart m.val k.val + j.val, by omega⟩ ⟨512 + (128 * p.val + l.val), by omega⟩))

/-- The tile's block, as one function of its index. -/
def tile (m : Fin 16) (x0 : Vec Ideal S512x512 .bf16) (x1 : Vec Ideal S1024x1024 .bf16) (x2 : Vec Ideal S8x8x64x512 .f32) :
    Vec Ideal S512x512 .bf16 := fun y =>
  tileAt m x0 x1 x2 ⟨(y 0).val / 64, by have : (y 0).val < 512 := (y 0).isLt; omega⟩ ⟨(y 1).val / 128, by have : (y 1).val < 512 := (y 1).isLt; omega⟩
    ⟨(y 0).val % 64, by omega⟩ ⟨(y 1).val % 128, by omega⟩

/-- The tile holds the value of row `r` of grid row `k` at lane `l` of pair `p`. -/
theorem tile_apply (m : Fin 16) (x0 : Vec Ideal S512x512 .bf16) (x1 : Vec Ideal S1024x1024 .bf16) (x2 : Vec Ideal S8x8x64x512 .f32)
    (k : Fin 8) (p : Fin 4) (r : Fin 64) (l : Fin 128) :
    tile m x0 x1 x2 (ix2 ⟨64 * k.val + r.val, by omega⟩ ⟨128 * p.val + l.val, by omega⟩) = tileAt m x0 x1 x2 k p r l := by
  show tileAt m x0 x1 x2 ⟨(64 * k.val + r.val) / 64, _⟩ ⟨(128 * p.val + l.val) / 128, _⟩ ⟨(64 * k.val + r.val) % 64, _⟩ ⟨(128 * p.val + l.val) % 128, _⟩ = _
  congr 1 <;> exact Fin.ext (by simp only []; omega)

/-- One stored piece is its part of the tile's block. -/
theorem piece (m : Fin 16) (x0 : Vec Ideal S512x512 .bf16) (x1 : Vec Ideal S1024x1024 .bf16) (x2 : Vec Ideal S8x8x64x512 .f32)
    (k : Fin 8) (p : Fin 4) {oq ok ov : Fin 2 → Nat} {ob ob' : Fin 4 → Nat}
    (eq : oq = ![64 * k.val, 128 * p.val]) (ek : ok = ![64 * wstart m.val k.val, 128 * p.val])
    (ev : ov = ![64 * wstart m.val k.val, 512 + 128 * p.val]) (eb : ob = ![wcase m.val k.val, 2 * p.val, 0, 0])
    (eb' : ob' = ![wcase m.val k.val, 2 * p.val + 1, 0, 0]) (hq hk hv hb hb') (x : S64x128.Idx) :
    headsV (View.ld x0 (Rect.unit (s := S512x512) oq ![64, 128] hq)) (View.ld x1 (Rect.unit (s := S1024x1024) ok ![512, 128] hk))
        (View.ld x1 (Rect.unit (s := S1024x1024) ov ![512, 128] hv)) (View.ld x2 (Rect.unit (s := S8x8x64x512) ob ![1, 1, 64, 512] hb))
        (View.ld x2 (Rect.unit (s := S8x8x64x512) ob' ![1, 1, 64, 512] hb')) x
      = tile m x0 x1 x2 ((Rect.unit (s := S512x512) oq ![64, 128] hq).emb x) := by
  subst eq ek ev eb eb'
  obtain ⟨r, l, rfl⟩ : ∃ (r : Fin 64) (l : Fin 128), x = ix2 r l := ⟨x 0, x 1, by idx_ext⟩
  have hs := wstart_le m k
  have hc := wcase_lt m k
  have e : (Rect.unit (s := S512x512) ![64 * k.val, 128 * p.val] ![64, 128] hq).emb (ix2 r l)
      = (ix2 ⟨64 * k.val + r.val, by omega⟩ ⟨128 * p.val + l.val, by omega⟩ : S512x512.Idx) := by idx_ext
  refine Eq.trans ?_ ((congrArg (tile m x0 x1 x2) e).trans (tile_apply m x0 x1 x2 k p r l)).symm
  rw [headsV_apply]
  unfold tileAt
  refine congrArg₂ softOut (funext fun j => congrArg₂ (· + ·) (Finset.sum_congr rfl fun d _ => congrArg₂ (· * ·) ?_ ?_) ?_) (funext fun j => ?_)
  · exact congrArg x0 (by idx_ext)
  · exact congrArg x1 (by idx_ext)
  · split_ifs with h
    · exact congrArg x2 (by idx_ext)
    · exact congrArg x2 (by idx_ext)
  · exact congrArg x1 (by idx_ext)

variable (c : Dev nD) (i : grid2.Coords) (arg1 : Memref sig .tc .vmem S512x512 .bf16) (harg1 : arg1.IsWhole)
  (arg2 : Memref sig .tc .vmem S1024x1024 .bf16) (harg2 : arg2.IsWhole) (arg3 : Memref sig .tc .vmem S8x8x64x512 .f32) (harg3 : arg3.IsWhole)
  (arg4 : Memref sig .tc .vmem S512x512 .bf16) (harg4 : arg4.IsWhole)
  (x0 : Vec Ideal S512x512 .bf16) (x1 : Vec Ideal S1024x1024 .bf16) (x2 : Vec Ideal S8x8x64x512 .f32)

/-- A load through a whole memref holding `x` reads `x` at the load's rectangle. -/
theorem load_eq {s : Shape} {e : EltTy} {m : Memref sig .tc .vmem s e} (h : m.IsWhole) (x : Vec Ideal s e) (R : Rect s) :
    View.readAt (Elt Ideal) m.view R.toLoadRect (h.unread x) = View.ld x R := by
  rw [View.readAt_eq_ld, Memref.IsWhole.read_unread]

/-- A stored piece over the raw contents the body holds. -/
theorem piece_raw (m : Fin 16) (k : Fin 8) (p : Fin 4) {oq ok ov : Fin 2 → Nat} {ob ob' : Fin 4 → Nat}
    (eq : oq = ![64 * k.val, 128 * p.val]) (ek : ok = ![64 * wstart m.val k.val, 128 * p.val])
    (ev : ov = ![64 * wstart m.val k.val, 512 + 128 * p.val]) (eb : ob = ![wcase m.val k.val, 2 * p.val, 0, 0])
    (eb' : ob' = ![wcase m.val k.val, 2 * p.val + 1, 0, 0]) (hq hk hv hb hb') (x : S64x128.Idx) :
    headsV (View.readAt (Elt Ideal) arg1.view (Rect.unit (s := S512x512) oq ![64, 128] hq).toLoadRect (harg1.unread x0))
        (View.readAt (Elt Ideal) arg2.view (Rect.unit (s := S1024x1024) ok ![512, 128] hk).toLoadRect (harg2.unread x1))
        (View.readAt (Elt Ideal) arg2.view (Rect.unit (s := S1024x1024) ov ![512, 128] hv).toLoadRect (harg2.unread x1))
        (View.readAt (Elt Ideal) arg3.view (Rect.unit (s := S8x8x64x512) ob ![1, 1, 64, 512] hb).toLoadRect (harg3.unread x2))
        (View.readAt (Elt Ideal) arg3.view (Rect.unit (s := S8x8x64x512) ob' ![1, 1, 64, 512] hb').toLoadRect (harg3.unread x2)) x
      = tile m x0 x1 x2 ((Rect.unit (s := S512x512) oq ![64, 128] hq).emb x) := by
  simp only [load_eq]
  exact piece m x0 x1 x2 k p eq ek ev eb eb' hq hk hv hb hb' x

variable (X1 : BufTy.Contents (Elt Ideal) arg1.view.ty) (X2 : BufTy.Contents (Elt Ideal) arg2.view.ty)
  (X3 : BufTy.Contents (Elt Ideal) arg3.view.ty) (k : Fin k2_t1_loop.trips)

/-- What a trip stores for the first pair, from its loads. -/
theorem store0 : trip_k2_t1.sl.v87 (F := Ideal) i arg1 arg2 arg3 X1 X2 X3 k
    = headsV (View.readAt (Elt Ideal) arg1.view (Rect.unit (s := S512x512) (k2_off1 k) ![64, 128] (k2_off1_inb k)).toLoadRect X1)
        (View.readAt (Elt Ideal) arg2.view (Rect.unit (s := S1024x1024) (k2_off2 i k) ![512, 128] (k2_off2_inb i k)).toLoadRect X2)
        (View.readAt (Elt Ideal) arg2.view (Rect.unit (s := S1024x1024) (k2_off3 i k) ![512, 128] (k2_off3_inb i k)).toLoadRect X2)
        (View.readAt (Elt Ideal) arg3.view (Rect.unit (s := S8x8x64x512) (k2_off4 i k) ![1, 1, 64, 512] (k2_off4_inb i k)).toLoadRect X3)
        (View.readAt (Elt Ideal) arg3.view (Rect.unit (s := S8x8x64x512) (k2_off5 i k) ![1, 1, 64, 512] (k2_off5_inb i k)).toLoadRect X3) := rfl

/-- What a trip stores for the second pair, from its loads. -/
theorem store1 : trip_k2_t1.sl.v151 (F := Ideal) i arg1 arg2 arg3 X1 X2 X3 k
    = headsV (View.readAt (Elt Ideal) arg1.view (Rect.unit (s := S512x512) (k2_off6 k) ![64, 128] (k2_off6_inb k)).toLoadRect X1)
        (View.readAt (Elt Ideal) arg2.view (Rect.unit (s := S1024x1024) (k2_off7 i k) ![512, 128] (k2_off7_inb i k)).toLoadRect X2)
        (View.readAt (Elt Ideal) arg2.view (Rect.unit (s := S1024x1024) (k2_off8 i k) ![512, 128] (k2_off8_inb i k)).toLoadRect X2)
        (View.readAt (Elt Ideal) arg3.view (Rect.unit (s := S8x8x64x512) (k2_off9 i k) ![1, 1, 64, 512] (k2_off9_inb i k)).toLoadRect X3)
        (View.readAt (Elt Ideal) arg3.view (Rect.unit (s := S8x8x64x512) (k2_off10 i k) ![1, 1, 64, 512] (k2_off10_inb i k)).toLoadRect X3) := rfl

/-- What a trip stores for the third pair, from its loads. -/
theorem store2 : trip_k2_t1.sl.v215 (F := Ideal) i arg1 arg2 arg3 X1 X2 X3 k
    = headsV (View.readAt (Elt Ideal) arg1.view (Rect.unit (s := S512x512) (k2_off11 k) ![64, 128] (k2_off11_inb k)).toLoadRect X1)
        (View.readAt (Elt Ideal) arg2.view (Rect.unit (s := S1024x1024) (k2_off12 i k) ![512, 128] (k2_off12_inb i k)).toLoadRect X2)
        (View.readAt (Elt Ideal) arg2.view (Rect.unit (s := S1024x1024) (k2_off13 i k) ![512, 128] (k2_off13_inb i k)).toLoadRect X2)
        (View.readAt (Elt Ideal) arg3.view (Rect.unit (s := S8x8x64x512) (k2_off14 i k) ![1, 1, 64, 512] (k2_off14_inb i k)).toLoadRect X3)
        (View.readAt (Elt Ideal) arg3.view (Rect.unit (s := S8x8x64x512) (k2_off15 i k) ![1, 1, 64, 512] (k2_off15_inb i k)).toLoadRect X3) := rfl

/-- What a trip stores for the fourth pair, from its loads. -/
theorem store3 : trip_k2_t1.sl.v279 (F := Ideal) i arg1 arg2 arg3 X1 X2 X3 k
    = headsV (View.readAt (Elt Ideal) arg1.view (Rect.unit (s := S512x512) (k2_off16 k) ![64, 128] (k2_off16_inb k)).toLoadRect X1)
        (View.readAt (Elt Ideal) arg2.view (Rect.unit (s := S1024x1024) (k2_off17 i k) ![512, 128] (k2_off17_inb i k)).toLoadRect X2)
        (View.readAt (Elt Ideal) arg2.view (Rect.unit (s := S1024x1024) (k2_off18 i k) ![512, 128] (k2_off18_inb i k)).toLoadRect X2)
        (View.readAt (Elt Ideal) arg3.view (Rect.unit (s := S8x8x64x512) (k2_off19 i k) ![1, 1, 64, 512] (k2_off19_inb i k)).toLoadRect X3)
        (View.readAt (Elt Ideal) arg3.view (Rect.unit (s := S8x8x64x512) (k2_off20 i k) ![1, 1, 64, 512] (k2_off20_inb i k)).toLoadRect X3) := rfl

/-- Every piece a trip stores is its part of the tile's block. -/
theorem trip_pieces (m : Fin 16) (hm : (i 0).val % 16 = m.val) (v10 v13 : BitVec 32)
    (P : View.Piece (Elt Ideal) S512x512 .bf16)
    (hP : P ∈ tripL_k2_t1 (F := Ideal) Variants.none c none i arg1 harg1 arg2 harg2 arg3 harg3 arg4 harg4 v10 v13 (harg1.unread x0)
      (harg2.unread x1) (harg3.unread x2) k) (x : P.1.shape.Idx) : P.2 x = tile m x0 x1 x2 (P.1.emb x) := by
  have hk : k.val < 8 := Nat.lt_of_lt_of_le k.isLt k2_t1_abs.2.1
  have ho := hm ▸ off_eq i k
  simp only [tripL_k2_t1, trip_k2_t1, List.mem_cons, List.not_mem_nil, or_false] at hP
  obtain rfl | rfl | rfl | rfl := hP
  · exact (congrFun (store3 i arg1 arg2 arg3 _ _ _ k) x).trans (piece_raw arg1 harg1 arg2 harg2 arg3 harg3 x0 x1 x2 m ⟨k, hk⟩ 3 (k2_off16_eq k)
      (ho 3).1 (ho 3).2.1 (ho 3).2.2.1 (ho 3).2.2.2 _ _ _ _ _ x)
  · exact (congrFun (store2 i arg1 arg2 arg3 _ _ _ k) x).trans (piece_raw arg1 harg1 arg2 harg2 arg3 harg3 x0 x1 x2 m ⟨k, hk⟩ 2 (k2_off11_eq k)
      (ho 2).1 (ho 2).2.1 (ho 2).2.2.1 (ho 2).2.2.2 _ _ _ _ _ x)
  · exact (congrFun (store1 i arg1 arg2 arg3 _ _ _ k) x).trans (piece_raw arg1 harg1 arg2 harg2 arg3 harg3 x0 x1 x2 m ⟨k, hk⟩ 1 (k2_off6_eq k)
      (ho 1).1 (ho 1).2.1 (ho 1).2.2.1 (ho 1).2.2.2 _ _ _ _ _ x)
  · exact (congrFun (store0 i arg1 arg2 arg3 _ _ _ k) x).trans (piece_raw arg1 harg1 arg2 harg2 arg3 harg3 x0 x1 x2 m ⟨k, hk⟩ 0 (k2_off1_eq k)
      (ho 0).1 (ho 0).2.1 (ho 0).2.2.1 (ho 0).2.2.2 _ _ _ _ _ x)

/-- Every piece of the trips before `n` is its part of the tile's block. -/
theorem loop_pieces (m : Fin 16) (hm : (i 0).val % 16 = m.val) (v10 v13 : BitVec 32) : ∀ n : Nat, n ≤ k2_t1_loop.trips →
    ∀ P ∈ pb_k2_t1 (F := Ideal) Variants.none c none i arg1 harg1 arg2 harg2 arg3 harg3 arg4 harg4 v10 v13 (harg1.unread x0)
      (harg2.unread x1) (harg3.unread x2) n, ∀ x : P.1.shape.Idx, P.2 x = tile m x0 x1 x2 (P.1.emb x)
  | 0, _, P, hP, _ => absurd (show P ∈ [] from hP) List.not_mem_nil
  | n + 1, hn, P, hP, x => by
    have h := pb_k2_t1_succ (F := Ideal) Variants.none c none i arg1 harg1 arg2 harg2 arg3 harg3 arg4 harg4 v10 v13 (harg1.unread x0)
      (harg2.unread x1) (harg3.unread x2) ⟨n, hn⟩
    rw [show n + 1 = (⟨n, hn⟩ : Fin k2_t1_loop.trips).val + 1 from rfl, h] at hP
    rcases List.mem_append.1 hP with h1 | h1
    · exact trip_pieces c i arg1 harg1 arg2 harg2 arg3 harg3 arg4 harg4 x0 x1 x2 _ m hm v10 v13 P h1 x
    · exact loop_pieces m hm v10 v13 n (Nat.le_of_succ_le hn) P h1 x

/-- What one grid point leaves in its output block. -/
theorem out_eq (m : Fin 16) (hm : (i 0).val % 16 = m.val) :
    out2_A_3 c i arg1 harg1 arg2 harg2 arg3 harg3 arg4 harg4 x0 x1 x2 = tile m x0 x1 x2 := by
  unfold out2_A_3
  rw [View.read_writes_junk_eq_canon]
  funext y
  refine View.canon_apply_of_pieces (tile m x0 x1 x2) _ ?_ y (cover2_A_3 c i arg1 harg1 arg2 harg2 arg3 harg3 arg4 harg4 x0 x1 x2 y)
  unfold kernelRun2_A
  exact loop_pieces c i arg1 harg1 arg2 harg2 arg3 harg3 arg4 harg4 x0 x1 x2 m hm _ _ _ (le_refl _)

end Cert.KernelIdeal.NbrAttn
-- ==== Proof.NbrAttnArray.lean ====
/- The third call (`nbr_attn`) over whole arrays: every tile's blocks are read at their rows of the projections, and the tiles
   together make the attention's result. -/
module

public import proofs.«01_k».proof.Proof.NbrAttn

@[expose] public section

set_option maxRecDepth 16384

noncomputable section

namespace Cert.KernelIdeal.NbrAttn

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The first row of the projection in tile `t`'s window of 1024 rows. -/
def wrow (t : Nat) : Nat := 8192 * (t / 16) + 64 * min (8 * (t % 16) - 4) 112

/-- Every window's block index at every grid point: the queries and the result move with the point, the keys by the point's
    window. -/
theorem idx : ∀ t : Fin cfg2.N, win2_0.index t = ![t.val, 0] ∧ win2_1.index t = ![wrow t.val, 0] ∧ win2_2.index t = ![0, 0, 0, 0]
    ∧ win2_3.index t = ![t.val, 0] ∧ (grid2.coords t 0).val = t.val :=
  (by decide +kernel : ∀ t : Fin grid2.N, _)

/-- The result at row `k` of tile `t`, the row's token `r`, at lane `l` of pair `p`. -/
def nbrAt (QB : Vec Ideal S65536x512 .bf16) (KV : Vec Ideal S65536x1024 .bf16) (B : Vec Ideal S8x8x64x512 .f32)
    (t : Fin 128) (k : Fin 8) (p : Fin 4) (r : Fin 64) (l : Fin 128) : EReal :=
  have hs : wstart (t.val % 16) k.val ≤ 8 := wstart_le ⟨t.val % 16, by omega⟩ k
  have hw : wrow t.val ≤ 64512 := by unfold wrow; omega
  softOut (fun j : Fin 512 =>
      (∑ d : Fin 64, QB (ix2 ⟨512 * t.val + (64 * k.val + r.val), by omega⟩ ⟨128 * p.val + (64 * (l.val / 64) + d.val), by omega⟩)
          * KV (ix2 ⟨wrow t.val + (64 * wstart (t.val % 16) k.val + j.val), by omega⟩ ⟨128 * p.val + (64 * (l.val / 64) + d.val), by omega⟩))
        + B (ix4 ⟨wcase (t.val % 16) k.val, wcase_lt ⟨t.val % 16, by omega⟩ k⟩ ⟨2 * p.val + l.val / 64, by omega⟩ r j))
    (fun j => KV (ix2 ⟨wrow t.val + (64 * wstart (t.val % 16) k.val + j.val), by omega⟩ ⟨512 + (128 * p.val + l.val), by omega⟩))

/-- The same at a row and a lane of the whole result. -/
def nbrRow (QB : Vec Ideal S65536x512 .bf16) (KV : Vec Ideal S65536x1024 .bf16) (B : Vec Ideal S8x8x64x512 .f32)
    (i : Fin 65536) (l : Fin 512) : EReal :=
  nbrAt QB KV B ⟨i.val / 512, by omega⟩ ⟨i.val / 64 % 8, by omega⟩ ⟨l.val / 128, by omega⟩ ⟨i.val % 64, by omega⟩ ⟨l.val % 128, by omega⟩

/-- The array the call leaves, over the arrays it is handed. -/
def nbrArr (QB : Vec Ideal S65536x512 .bf16) (KV : Vec Ideal S65536x1024 .bf16) (B : Vec Ideal S8x8x64x512 .f32) :
    Vec Ideal S65536x512 .bf16 := fun i => nbrRow QB KV B (i 0) (i 1)

/-- An entry of the array, named by its tile, grid row, pair and lane. -/
theorem nbrRow_eq (QB KV B) (t : Fin 128) (k : Fin 8) (p : Fin 4) (r : Fin 64) (l : Fin 128) (i : Fin 65536) (m : Fin 512)
    (hi : i.val = 512 * t.val + (64 * k.val + r.val)) (hm : m.val = 128 * p.val + l.val) :
    nbrRow QB KV B i m = nbrAt QB KV B t k p r l := by
  unfold nbrRow
  congr 1 <;> exact Fin.ext (by simp only []; omega)

/-- Tile `t` reads its 512 rows of the queries. -/
theorem blk0 (c : Dev nD) (t : Fin cfg2.N) (r : Fin 512) (j : Fin 512) :
    iblk2 V c 0 t (ix2 r j) = V c main_v53_2 (ix2 ⟨512 * t.val + r.val, by have : t.val < 128 := t.isLt; omega⟩ j) := by
  blk_ext [iblk2, idx t]

/-- Tile `t` reads its window of 1024 rows of the keys and values. -/
theorem blk1 (c : Dev nD) (t : Fin cfg2.N) (r : Fin 1024) (j : Fin 1024) :
    iblk2 V c 1 t (ix2 r j) = V c main_v53_3 (ix2 ⟨wrow t.val + r.val, by have : t.val < 128 := t.isLt; unfold wrow; omega⟩ j) := by
  blk_ext [iblk2]
  · refine (ValueKit.view_emb_slice_whole_unit_val _ _ _ _ _ _).trans ?_
    show win2_1.index t 0 + r.val = _
    rw [(idx t).2.1]; rfl
  · refine (ValueKit.view_emb_slice_whole_unit_val _ _ _ _ _ _).trans ?_
    show win2_1.index t 1 + j.val = _
    rw [(idx t).2.1]; exact Nat.zero_add _

/-- Every tile reads the whole bias table. -/
theorem blk2 (c : Dev nD) (t : Fin cfg2.N) : iblk2 V c 2 t = V c main_v106 := by
  blk_ext! [iblk2, idx t]

/-- Tile `t` writes its 512 rows. -/
theorem blk3 (t : Fin cfg2.N) (r : Fin 512) (j : Fin 512) :
    ((win2_3.blk t).view.emb (ix2 r j) : S65536x512.Idx) = ix2 ⟨512 * t.val + r.val, by have : t.val < 128 := t.isLt; omega⟩ j := by
  blk_ext [idx t]

/-- The call's result array. -/
theorem final (c : Dev nD) : (dat2 V c).arrAt 3 cfg2.N = nbrArr (V c main_v53_2) (V c main_v53_3) (V c main_v106) := by
  refine (dat2 V c).arrAt_eq_of_covers 3 _ (by decide +kernel) fun t _ y => ?_
  blk_simp
  rw [after2_3]
  have ht : t.val < 128 := t.isLt
  obtain ⟨k, r, p, l, rfl⟩ : ∃ (k : Fin 8) (r : Fin 64) (p : Fin 4) (l : Fin 128),
      y = ix2 ⟨64 * k.val + r.val, by omega⟩ ⟨128 * p.val + l.val, by omega⟩ := by
    have h0 : (y 0).val < 512 := (y 0).isLt
    have h1 : (y 1).val < 512 := (y 1).isLt
    exact ⟨⟨(y 0).val / 64, by omega⟩, ⟨(y 0).val % 64, by omega⟩, ⟨(y 1).val / 128, by omega⟩, ⟨(y 1).val % 128, by omega⟩, by idx_ext⟩
  unfold outsAt2
  refine (congrFun (out_eq c (grid2.coords t) _ _ _ _ _ _ _ _ (iblk2 V c 0 t) (iblk2 V c 1 t) (iblk2 V c 2 t) ⟨t.val % 16, by omega⟩
    (congrArg (· % 16) (idx t).2.2.2.2)) _).trans ((tile_apply _ _ _ _ k p r l).trans ?_)
  refine Eq.trans ?_ (congrArg (nbrArr _ _ _) (blk3 t _ _)).symm
  refine Eq.trans ?_ (nbrRow_eq _ _ _ ⟨t.val, ht⟩ k p r l _ _ rfl rfl).symm
  unfold tileAt nbrAt
  simp only [blk0, blk1, blk2]

end Cert.KernelIdeal.NbrAttn
-- ==== Proof.Layer.lean ====
/- The layer's arithmetic in plain words, over the extended reals: rows and matrices as functions of `Fin`
   indices. Nothing here mentions a program; the kernel's arrays and the reference's are both read as these. -/
module

public import Idealize.ShloMosaic.Lib.Pointwise

@[expose] public section

noncomputable section

namespace Cert.Layer

open Idealize.ShloMosaic

/-- One number of the root-mean-square normalisation of the row `v` with the weights `g`. -/
def rms (v g : Fin 1024 → EReal) (j : Fin 1024) : EReal :=
  v j * Ideal.rsqrt (Ideal.div (∑ k, v k * v k) (Ideal.ofBits .f32 0x44800000#32) + Ideal.ofBits .f32 0x358637BD#32) * g j

/-- A row times a matrix. -/
def rowMul {n p : Nat} (v : Fin n → EReal) (w : Fin n → Fin p → EReal) (j : Fin p) : EReal := ∑ k, v k * w k j

/-- The squared rectifier. -/
def sqRelu (u : EReal) : EReal := max u 0 * max u 0

/-- The gated sum of the two mixers' projected rows. -/
def merged (ga gb pa pb : Fin 1024 → EReal) (j : Fin 1024) : EReal := ga j * pa j + gb j * pb j

/-- The residual row after the mixers: the input row plus the gated sum through the output matrix. -/
def afterMix (x ga gb pa pb : Fin 1024 → EReal) (wo : Fin 1024 → Fin 1024 → EReal) (j : Fin 1024) : EReal :=
  x j + rowMul (merged ga gb pa pb) wo j

/-- The residual row after the squared-rectifier network. -/
def afterMlp (x1 nm : Fin 1024 → EReal) (wu : Fin 1024 → Fin 4096 → EReal) (wd : Fin 4096 → Fin 1024 → EReal)
    (j : Fin 1024) : EReal :=
  x1 j + ∑ f, sqRelu (rowMul (rms x1 nm) wu f) * wd f j

/-- The second half of the layer on one token: mix, add, network, add, normalise. -/
def tail (x ga gb pa pb : Fin 1024 → EReal) (wo : Fin 1024 → Fin 1024 → EReal) (nm : Fin 1024 → EReal)
    (wu : Fin 1024 → Fin 4096 → EReal) (wd : Fin 4096 → Fin 1024 → EReal) (nf : Fin 1024 → EReal) (j : Fin 1024) : EReal :=
  rms (afterMlp (afterMix x ga gb pa pb wo) nm wu wd) nf j

end Cert.Layer
-- ==== Proof.Mixers.lean ====
/- The two attention mixers and the gates in plain words, over the projected rows: `z n c` is feature `c` of token `n` of
   one sequence. Nothing here mentions a program; the reference is read as these and the kernel's arrays are proved to
   hold them. -/
module

public import proofs.«01_k».proof.Proof.Layer

@[expose] public section

noncomputable section

namespace Cert.Layer

open Idealize.ShloMosaic

/-- The projected row of a token: the normalised token through the input matrix. -/
def zrow (x nm : Fin 1024 → EReal) (w : Fin 1024 → Fin 4352 → EReal) (c : Fin 4352) : EReal := rowMul (rms x nm) w c

/-- The slope of the distance penalty of head `h`. -/
def penalty (h : Nat) : EReal :=
  Ideal.pow (Ideal.ofBits .f32 0x40000000#32)
    (Ideal.div (Ideal.ofBits .f32 0xC1000000#32 * (Ideal.ofBits .f32 0x3F800000#32 + ((h : ℝ) : EReal)))
      (Ideal.ofBits .f32 0x41000000#32))

/-- The scale of a score, one eighth. -/
def eighth : EReal := Ideal.ofBits .f32 0x3E000000#32

/-- How far apart two positions are. -/
def gap (n m : Nat) : Nat := (n - m) + (m - n)

/-- The largest of a family and of one more entry. -/
def maxWith {A : Type} [Fintype A] (s : A → EReal) (snk : EReal) : EReal := max (Finset.univ.fold max ⊥ s) snk

variable (z : Fin 8192 → Fin 4352 → EReal)

/-- The score of query `n` and key `m` for head `h` of the windowed mixer. -/
def winScore (h : Fin 8) (n m : Fin 8192) : EReal :=
  if gap n m ≤ 128 then
    (∑ d : Fin 64, z m ⟨512 + (64 * (h.val / 4) + d.val), by omega⟩ * z n ⟨64 * h.val + d.val, by omega⟩) * eighth
      - penalty h * ((gap n m : ℝ) : EReal)
  else ⊥

/-- One number of the windowed mixer: the values weighted by the softmax over the keys and the sink. -/
def winOut (snk : EReal) (h : Fin 8) (n : Fin 8192) (d : Fin 64) : EReal :=
  ∑ m : Fin 8192, z m ⟨640 + (64 * (h.val / 4) + d.val), by omega⟩ *
    Ideal.div (Ideal.exp (winScore z h n m - maxWith (winScore z h n) snk))
      ((∑ m, Ideal.exp (winScore z h n m - maxWith (winScore z h n) snk)) +
        Ideal.exp (snk - maxWith (winScore z h n) snk))

/-- The first row of the neighborhood of row `r`. -/
def row0 (r : Nat) : Nat := min (r - 4) 120

/-- The first column of the neighborhood of column `c`. -/
def col0 (c : Nat) : Nat := min (c - 8) 48

/-- Neighbor `j` of token `n`. -/
def tok (n j : Nat) : Nat := (row0 (n / 64) + j / 16) * 64 + (col0 (n % 64) + j % 16)

/-- The row of the relative position of neighbor `j` of token `n`. -/
def relRow (n j : Nat) : Nat := row0 (n / 64) + j / 16 + 7 - n / 64

/-- The column of the relative position of neighbor `j` of token `n`. -/
def relCol (n j : Nat) : Nat := col0 (n % 64) + j % 16 + 15 - n % 64

/-- A neighbor is a token of the sequence. -/
theorem tok_lt (n : Fin 8192) (j : Fin 128) : tok n j < 8192 := by unfold tok row0 col0; omega
/-- The row of a relative position is one of the 15 of the table. -/
theorem relRow_lt (n : Fin 8192) (j : Fin 128) : relRow n j < 15 := by unfold relRow row0; omega
/-- The column of a relative position is one of the 31 of the table. -/
theorem relCol_lt (n : Fin 8192) (j : Fin 128) : relCol n j < 31 := by unfold relCol col0; omega

/-- The score of query `n` and its neighbor `j` for head `h` of the neighborhood mixer. -/
def nbrScore (b : Fin 8 → Fin 15 → Fin 31 → EReal) (h : Fin 8) (n : Fin 8192) (j : Fin 128) : EReal :=
  (∑ d : Fin 64, z n ⟨768 + (64 * h.val + d.val), by omega⟩ *
    z ⟨tok n j, tok_lt n j⟩ ⟨1280 + (64 * h.val + d.val), by omega⟩) * eighth
    + b h ⟨relRow n j, relRow_lt n j⟩ ⟨relCol n j, relCol_lt n j⟩

/-- The largest of a family. -/
def maxOf {A : Type} [Fintype A] (s : A → EReal) : EReal := Finset.univ.fold max ⊥ s

/-- One number of the neighborhood mixer: the values weighted by the softmax over the neighbors. -/
def nbrOut (b : Fin 8 → Fin 15 → Fin 31 → EReal) (h : Fin 8) (n : Fin 8192) (d : Fin 64) : EReal :=
  ∑ j : Fin 128, Ideal.div (Ideal.exp (nbrScore z b h n j - maxOf (nbrScore z b h n)))
      (∑ j, Ideal.exp (nbrScore z b h n j - maxOf (nbrScore z b h n))) *
    z ⟨tok n j, tok_lt n j⟩ ⟨1792 + (64 * h.val + d.val), by omega⟩

end Cert.Layer
-- ==== Proof.Words.lean ====
/- Small 32-bit words as natural numbers: differences, absolute values, comparisons and clips of words that hold small
   naturals. The programs compute their masks and gather indices with these. -/
module

public import Idealize.ShloMosaic.Lib.Pointwise
public import proofs.«01_k».proof.Proof.Mixers

@[expose] public section

namespace Cert.Words

open Idealize.ShloMosaic Cert.Layer

/-- The word of an integer. -/
def word (a : Int) : BitVec 32 := BitVec.ofInt 32 a

/-- The word of a natural number. -/
theorem word_nat (a : Nat) : BitVec.ofNat 32 a = word a := by simp [word]

/-- Words add as integers. -/
theorem word_add (a b : Int) : IntOp.addi (word a) (word b) = word (a + b) := by
  simp only [IntOp.addi, word, BitVec.ofInt_add]

/-- Words subtract as integers. -/
theorem word_sub (a b : Int) : IntOp.subi (word a) (word b) = word (a - b) := by
  rw [show a - b = a + -b by omega]
  simp only [IntOp.subi, word, BitVec.ofInt_add, BitVec.ofInt_neg, BitVec.sub_eq_add_neg]

/-- Words multiply as integers. -/
theorem word_mul (a b : Int) : IntOp.muli (word a) (word b) = word (a * b) := by
  simp only [IntOp.muli, word, BitVec.ofInt_mul]

/-- A word of a small integer reads back as it. -/
theorem toInt_word {a : Int} (h0 : -1000000 ≤ a) (h1 : a ≤ 1000000) : (word a).toInt = a := by
  unfold word
  rw [BitVec.toInt_ofInt]
  exact Int.bmod_eq_of_le (by norm_num; omega) (by norm_num; omega)

/-- Words of small integers compare as integers. -/
theorem word_slt {a b : Int} (ha : -1000000 ≤ a) (ha' : a ≤ 1000000) (hb : -1000000 ≤ b) (hb' : b ≤ 1000000) :
    (word a).slt (word b) = decide (a < b) := by
  rw [BitVec.slt_eq_decide, toInt_word ha ha', toInt_word hb hb']

/-- Words of small integers compare as integers, with equality. -/
theorem word_sle {a b : Int} (ha : -1000000 ≤ a) (ha' : a ≤ 1000000) (hb : -1000000 ≤ b) (hb' : b ≤ 1000000) :
    (word a).sle (word b) = decide (a ≤ b) := by
  rw [BitVec.sle_eq_decide, toInt_word ha ha', toInt_word hb hb']

/-- The larger of two words of small integers. -/
theorem word_max {a b : Int} (ha : -1000000 ≤ a) (ha' : a ≤ 1000000) (hb : -1000000 ≤ b) (hb' : b ≤ 1000000) :
    IntOp.maxsi (word a) (word b) = word (max a b) := by
  unfold IntOp.maxsi
  simp only [word_slt hb hb' ha ha', decide_eq_true_eq]
  split_ifs with h
  · rw [max_eq_left (by omega)]
  · rw [max_eq_right (by omega)]

/-- The smaller of two words of small integers. -/
theorem word_min {a b : Int} (ha : -1000000 ≤ a) (ha' : a ≤ 1000000) (hb : -1000000 ≤ b) (hb' : b ≤ 1000000) :
    IntOp.minsi (word a) (word b) = word (min a b) := by
  unfold IntOp.minsi
  simp only [word_slt ha ha' hb hb', decide_eq_true_eq]
  split_ifs with h
  · rw [min_eq_left (by omega)]
  · rw [min_eq_right (by omega)]

/-- The absolute value of the word of a small integer. -/
theorem word_abs {a : Int} (ha : -1000000 ≤ a) (ha' : a ≤ 1000000) : IntOp.absi (word a) = word (a.natAbs : Int) := by
  have h := toInt_word ha ha'
  unfold IntOp.absi
  have hm : (word a).msb = decide (a < 0) := by rw [BitVec.msb_eq_toInt, h]
  simp only [hm, decide_eq_true_eq]
  split_ifs with hn
  · rw [show ((a.natAbs : Nat) : Int) = -a by omega]
    simp only [word, BitVec.ofInt_neg]
  · rw [show ((a.natAbs : Nat) : Int) = a by omega]

/-- The absolute difference is the distance. -/
theorem natAbs_gap (n m : Nat) : ((n : Int) - (m : Int)).natAbs = gap n m := by unfold gap; omega

/-- A select by a comparison of words. -/
theorem select_sle {A : Type} {a b : Int} (ha : -1000000 ≤ a) (ha' : a ≤ 1000000) (hb : -1000000 ≤ b) (hb' : b ≤ 1000000)
    (x y : A) : Scalar.select (IntOp.cmpi .sle (word a) (word b)) x y = if a ≤ b then x else y := by
  unfold Scalar.select IntOp.cmpi
  simp only [word_sle ha ha' hb hb']
  split_ifs <;> simp_all

/-- A choice by a comparison of words is a choice by the comparison of the integers. -/
theorem select_slt {A : Type} {a b : Int} (ha : -1000000 ≤ a) (ha' : a ≤ 1000000) (hb : -1000000 ≤ b) (hb' : b ≤ 1000000)
    (x y : A) : Scalar.select (IntOp.cmpi .slt (word a) (word b)) x y = if a < b then x else y := by
  unfold Scalar.select IntOp.cmpi
  simp only [word_slt ha ha' hb hb']
  split_ifs <;> simp_all

/-- A select by two comparisons of words. -/
theorem select_and {A : Type} {a b c : Int} (ha : -1000000 ≤ a) (ha' : a ≤ 1000000) (hb : -1000000 ≤ b) (hb' : b ≤ 1000000)
    (hc : -1000000 ≤ c) (hc' : c ≤ 1000000) (x y : A) :
    Scalar.select (IntOp.andi (IntOp.cmpi .sge (word a) (word b)) (IntOp.cmpi .slt (word a) (word c))) x y =
      if b ≤ a ∧ a < c then x else y := by
  unfold Scalar.select IntOp.andi IntOp.cmpi
  simp only [word_slt ha ha' hc hc', word_sle hb hb' ha ha']
  by_cases h1 : b ≤ a <;> by_cases h2 : a < c <;> simp [h1, h2]

/-- The pattern of minus infinity. -/
theorem ofBits_bot : Ideal.ofBits .f32 0xFF800000#32 = (⊥ : EReal) := by simp [Ideal.ofBits, Ideal.ieee]

/-- A small word as a real number. -/
theorem sitofp_word {a : Int} (ha : -1000000 ≤ a) (ha' : a ≤ 1000000) :
    (FloatOps.sitofp (F := Ideal) .f32 (word a) : EReal) = ((a : ℝ) : EReal) := by
  show (((word a).toInt : ℝ) : EReal) = _
  rw [toInt_word ha ha']

/-- A gather reads the operand at an index whose coordinates are the start, batch and offset coordinates. -/
theorem gather_eq {A : Type} {s si t : Shape} {w : Nat} (d : GatherDims s si t) (x : s.Idx → A) (idx : IVec si w) (j : t.Idx)
    (i : s.Idx) (h : ∀ a, d.start j idx a + d.batchCoord j a + d.offCoord j a = (i a).val) : Host.gather d x idx j = x i :=
  congrArg x (funext fun a => Fin.ext (h a))

/-- A word of a small natural, read and clamped, is it. -/
theorem clamp_word {t b : Nat} (h : t ≤ b) (hb : b ≤ 1000000) : min (word (t : Int)).toInt.toNat b = t := by
  rw [toInt_word (by omega) (by omega)]; omega

end Cert.Words
-- ==== Proof.HostArrays.lean ====
/- The arrays the kernel's host code makes of the arguments before and between the calls, as plain functions of the
   arguments: the input matrix with its query columns reordered and scaled, the two bias tables, and the first projection
   matrix with its rows reordered. -/
module

public import proofs.«01_k».proof.Proof.Gen.KernelIdeal.Frame
public import proofs.«01_k».proof.Proof.Words

@[expose] public section

set_option maxRecDepth 16384

noncomputable section

namespace Cert.KernelIdeal.HostArrays

open Idealize.ShloMosaic Idealize.ShloMosaic.TcCoe Idealize.SL.Sem
open Cert.KernelIdeal Cert.KernelIdeal.Gen Cert.Layer Cert.Words

/-- The order of the heads: heads `p` and `p + 4` side by side. -/
def headOrder : S8.Idx → BitVec 32 := fun i => lit0 (S8.rowMajor i)

/-- The head at place `g`. -/
def headAt (g : Fin 8) : Fin 8 := ⟨g.val / 2 + 4 * (g.val % 2), by omega⟩

/-- The order of the heads, as words. -/
theorem headOrder_apply (g : Fin 8) : headOrder (ix1 g) = word ((headAt g).val : Int) := by
  unfold headAt word
  fin_cases g <;> rfl

/-- The head order as a gather's indices. -/
def headIdx : S8x1.Idx → BitVec 32 :=
  broadcastInDim S8x1 ![0] bcast_S8_S8x1_0
    (select (constantI S8 1 0#1) (addi headOrder (broadcastInDim S8 ![] bcast_S_S8 (constantI S_ 32 8#32))) headOrder)

/-- The indices the gathers read are the order of the heads. -/
theorem headIdx_apply (g : Fin 8) : headIdx (ix2 g 0) = word ((headAt g).val : Int) := by
  rw [← headOrder_apply]
  unfold headIdx
  generalize headOrder = y
  pointwise []

/-- The gather of columns puts head `headAt g` at place `g`. -/
theorem gatherCols (x : S1024x8x64.Idx → EReal) (k : Fin 1024) (g : Fin 8) (e : Fin 64) :
    Host.gather gather_S1024x8x64_S8x1_S1024x8x64_02_1_n_n_1_1_1024164 x headIdx (ix3 k g e) = x (ix3 k (headAt g) e) := by
  refine gather_eq _ _ _ _ _ fun a => ?_
  fin_cases a
  · show 0 + 0 + k.val = k.val
    omega
  · show min (headIdx _).toInt.toNat 7 + 0 + 0 = (headAt g).val
    rw [show ∀ i : S8x1.Idx, i = ix2 g 0 → headIdx i = word ((headAt g).val : Int) from fun i hi => by rw [hi, headIdx_apply]]
    · rw [clamp_word (by omega) (by omega)]; rfl
    · funext b; fin_cases b <;> rfl
  · show 0 + 0 + e.val = e.val
    omega

/-- The gather of rows puts head `headAt g` at place `g`. -/
theorem gatherRows (x : S8x64x1024.Idx → EReal) (g : Fin 8) (e : Fin 64) (j : Fin 1024) :
    Host.gather gather_S8x64x1024_S8x1_S8x64x1024_12_0_n_n_0_1_1641024 x headIdx (ix3 g e j) = x (ix3 (headAt g) e j) := by
  refine gather_eq _ _ _ _ _ fun a => ?_
  fin_cases a
  · show min (headIdx _).toInt.toNat 7 + 0 + 0 = (headAt g).val
    rw [show ∀ i : S8x1.Idx, i = ix2 g 0 → headIdx i = word ((headAt g).val : Int) from fun i hi => by rw [hi, headIdx_apply]]
    · rw [clamp_word (by omega) (by omega)]; rfl
    · funext b; fin_cases b <;> rfl
  · show 0 + 0 + e.val = e.val
    omega
  · show 0 + 0 + j.val = j.val
    omega

/-- The window's query columns, reordered. -/
def queryCols (x2 : FVec Ideal S1x1024x4352 .f32) : FVec Ideal S1024x8x64 .f32 :=
  Host.gather gather_S1024x8x64_S8x1_S1024x8x64_02_1_n_n_1_1_1024164
    (shapeCast S1024x8x64 (extractStridedSlice S1024x512 ![0, 0] (shapeCast S1024x4352 x2 shapeCasts_S1x1024x4352_S1024x4352)
      slices_S1024x4352_S1024x512_0_0) shapeCasts_S1024x512_S1024x8x64) headIdx

/-- The columns of the windowed queries, in the order of the heads. -/
theorem queryCols_apply (x2 : FVec Ideal S1x1024x4352 .f32) (k : Fin 1024) (g : Fin 8) (e : Fin 64) :
    queryCols x2 (ix3 k g e) = x2 (ix3 0 k ⟨64 * (headAt g).val + e.val, by omega⟩) := by
  unfold queryCols
  rw [gatherCols]
  have h : ∀ g' : Fin 8, shapeCast S1024x8x64 (extractStridedSlice S1024x512 ![0, 0]
      (shapeCast S1024x4352 x2 shapeCasts_S1x1024x4352_S1024x4352) slices_S1024x4352_S1024x512_0_0)
      shapeCasts_S1024x512_S1024x8x64 (ix3 k g' e) = x2 (ix3 0 k ⟨64 * g'.val + e.val, by omega⟩) := by
    intro g'
    pointwise []
    congr 2
    exact Fin.ext (by simp only [Nat.mul_comm])
  exact h (headAt g)

/-- The input matrix as the first call reads it. -/
def wAll (x2 : FVec Ideal S1x1024x4352 .f32) : FVec Ideal S1024x4352 .bf16 :=
  truncf .bf16 (concatenate S1024x4352 1 [
    ⟨S1024x512, mulf (shapeCast S1024x512 (queryCols x2) shapeCasts_S1024x8x64_S1024x512)
      (broadcastInDim S1024x512 ![] bcast_S_S1024x512 (constant S_ .f32 0x3E000000#32))⟩,
    ⟨S1024x256, extractStridedSlice S1024x256 ![0, 512] (shapeCast S1024x4352 x2 shapeCasts_S1x1024x4352_S1024x4352)
      slices_S1024x4352_S1024x256_0_512⟩,
    ⟨S1024x512, mulf (extractStridedSlice S1024x512 ![0, 768] (shapeCast S1024x4352 x2 shapeCasts_S1x1024x4352_S1024x4352)
      slices_S1024x4352_S1024x512_0_768) (broadcastInDim S1024x512 ![] bcast_S_S1024x512 (constant S_ .f32 0x3E000000#32))⟩,
    ⟨S1024x3072, extractStridedSlice S1024x3072 ![0, 1280] (shapeCast S1024x4352 x2 shapeCasts_S1x1024x4352_S1024x4352)
      slices_S1024x4352_S1024x3072_0_1280⟩]
    concatenates_S1024x512_S1024x256_S1024x512_S1024x3072_S1024x4352_d1) bitsLt_bf16_f32

variable (x2 : FVec Ideal S1x1024x4352 .f32) (k : Fin 1024)

/-- Columns 0 to 511 of the packed weights: the windowed queries, reordered and scaled by 1/8. -/
theorem wAll_query (g : Fin 8) (e : Fin 64) :
    wAll x2 (ix2 k ⟨64 * g.val + e.val, by omega⟩) = x2 (ix3 0 k ⟨64 * (headAt g).val + e.val, by omega⟩) * eighth := by
  rw [← queryCols_apply x2 k g e]
  unfold wAll eighth
  generalize queryCols x2 = y
  pointwise []
  rw [dif_pos (by omega)]

/-- Columns 512 to 767 of the packed weights: the windowed keys and values, unchanged. -/
theorem wAll_keys (j : Fin 256) : wAll x2 (ix2 k ⟨512 + j.val, by omega⟩) = x2 (ix3 0 k ⟨512 + j.val, by omega⟩) := by
  unfold wAll
  generalize queryCols x2 = y
  pointwise []

/-- Columns 768 to 1279 of the packed weights: the neighborhood queries, scaled by 1/8. -/
theorem wAll_nquery (j : Fin 512) :
    wAll x2 (ix2 k ⟨768 + j.val, by omega⟩) = x2 (ix3 0 k ⟨768 + j.val, by omega⟩) * eighth := by
  unfold wAll eighth
  generalize queryCols x2 = y
  pointwise []
  rw [dif_neg (by omega), dif_neg (by omega), dif_pos (by omega)]
  congr 4
  omega

/-- Columns 1280 to 4351 of the packed weights: the neighborhood keys and values and the gates, unchanged. -/
theorem wAll_rest (j : Fin 3072) : wAll x2 (ix2 k ⟨1280 + j.val, by omega⟩) = x2 (ix3 0 k ⟨1280 + j.val, by omega⟩) := by
  unfold wAll
  generalize queryCols x2 = y
  pointwise []
  rw [dif_neg (by omega), dif_neg (by omega), dif_neg (by omega)]
  congr 3
  omega

/-- The distances of the window's table, as words. -/
def winDist : IVec S128x384 32 :=
  absi (subi (broadcastInDim S128x384 ![0, 1] bcast_S128x1_S128x384_0_1
      (broadcastInDim S128x1 ![0] bcast_S128_S128x1_0 (iotaInDim S128 32 0)))
    (broadcastInDim S128x384 ![0, 1] bcast_S1x384_S128x384_0_1
      (subi (broadcastInDim S1x384 ![1] bcast_S384_S1x384_1 (iotaInDim S384 32 0))
        (broadcastInDim S1x384 ![] bcast_S_S1x384 (constantI S_ 32 128#32)))))

/-- The table of distances holds the distance of query `q + 128` and key `k` of the window. -/
theorem winDist_apply (q : Fin 128) (k : Fin 384) : winDist (ix2 q k) = word (gap (q.val + 128) k.val : Nat) := by
  have h : winDist (ix2 q k) = IntOp.absi (IntOp.subi (BitVec.ofNat 32 q.val)
      (IntOp.subi (BitVec.ofNat 32 k.val) (BitVec.ofNat 32 128))) := by
    unfold winDist
    pointwise []
  rw [h, word_nat, word_nat, word_nat, word_sub, word_sub, word_abs (by omega) (by omega)]
  congr 1
  unfold gap
  omega

/-- The penalties of the eight heads. -/
def penalties : FVec Ideal S8 .f32 :=
  Host.powf (broadcastInDim S8 ![] bcast_S_S8 (constant S_ .f32 0x40000000#32))
    (Host.divf (mulf (broadcastInDim S8 ![] bcast_S_S8 (constant S_ .f32 0xC1000000#32))
      (addf (broadcastInDim S8 ![] bcast_S_S8 (constant S_ .f32 0x3F800000#32)) (sitofp .f32 (iotaInDim S8 32 0))))
      (broadcastInDim S8 ![] bcast_S_S8 (constant S_ .f32 0x41000000#32)))

/-- The penalties computed on the host are the penalties of the heads. -/
theorem penalties_apply (h : Fin 8) : penalties (ix1 h) = penalty h := by
  have e : ((h.val : ℝ) : EReal) = FloatOps.sitofp (F := Ideal) .f32 (BitVec.ofNat 32 h.val) := by
    rw [word_nat, sitofp_word (by omega) (by omega)]; simp
  unfold penalty penalties
  rw [e]
  pointwise []

/-- The window's table: minus the penalty times the distance inside the window, minus infinity outside. -/
def winBias : FVec Ideal S8x128x384 .f32 :=
  select (broadcastInDim S8x128x384 ![0, 1, 2] bcast_S1x128x384_S8x128x384_0_1_2
      (broadcastInDim S1x128x384 ![1, 2] bcast_S128x384_S1x128x384_1_2
        (cmpi .sle winDist (broadcastInDim S128x384 ![] bcast_S_S128x384 (constantI S_ 32 128#32)))))
    (mulf (broadcastInDim S8x128x384 ![0, 1, 2] bcast_S8x1x1_S8x128x384_0_1_2
        (Host.negf (broadcastInDim S8x1x1 ![0] bcast_S8_S8x1x1_0 penalties)))
      (broadcastInDim S8x128x384 ![0, 1, 2] bcast_S1x128x384_S8x128x384_0_1_2
        (broadcastInDim S1x128x384 ![1, 2] bcast_S128x384_S1x128x384_1_2 (sitofp .f32 winDist))))
    (broadcastInDim S8x128x384 ![] bcast_S_S8x128x384 (constant S_ .f32 0xFF800000#32))

/-- The bias table: the penalty times the distance within the window, minus infinity beyond it. -/
theorem winBias_apply (h : Fin 8) (q : Fin 128) (k : Fin 384) :
    winBias (ix3 h q k) = if gap (q.val + 128) k.val ≤ 128 then -penalty h * ((gap (q.val + 128) k.val : ℝ) : EReal) else ⊥ := by
  have e : winBias (ix3 h q k) = Scalar.select (IntOp.cmpi .sle (winDist (ix2 q k)) (BitVec.ofNat 32 128))
      (-penalties (ix1 h) * FloatOps.sitofp (F := Ideal) .f32 (winDist (ix2 q k))) (Ideal.ofBits .f32 0xFF800000#32) := by
    unfold winBias
    generalize winDist = y
    generalize penalties = y'
    pointwise []
  have hg : gap (q.val + 128) k.val ≤ 512 := by unfold gap; omega
  rw [e, winDist_apply, penalties_apply, word_nat, select_sle (by omega) (by omega) (by omega) (by omega),
    sitofp_word (by omega) (by omega), ofBits_bot]
  simp only [Int.cast_natCast, Nat.cast_le, Nat.cast_ofNat]
  congr 1
  norm_num

/-- The first column of each query column's neighborhood, as words. -/
def firstCol : IVec S64x1 32 :=
  minsi (broadcastInDim S64x1 ![] bcast_S_S64x1 (constantI S_ 32 48#32))
    (maxsi (broadcastInDim S64x1 ![] bcast_S_S64x1 (constantI S_ 32 0#32))
      (subi (broadcastInDim S64x1 ![0] bcast_S64_S64x1_0 (iotaInDim S64 32 0))
        (broadcastInDim S64x1 ![] bcast_S_S64x1 (constantI S_ 32 8#32))))

/-- The first column of each neighborhood, as a word. -/
theorem firstCol_apply (q : Fin 64) : firstCol (ix2 q 0) = word (col0 q.val : Nat) := by
  have h : firstCol (ix2 q 0) = IntOp.minsi (BitVec.ofNat 32 48) (IntOp.maxsi (BitVec.ofNat 32 0)
      (IntOp.subi (BitVec.ofNat 32 q.val) (BitVec.ofNat 32 8))) := by
    unfold firstCol
    pointwise []
  rw [h, word_nat, word_nat, word_nat, word_nat, word_sub, word_max (by omega) (by omega) (by omega) (by omega),
    word_min (by omega) (by omega) (by omega) (by omega)]
  congr 1
  unfold col0
  omega

/-- The column of the relative position, clipped, as words. -/
def relWord : IVec S64x64 32 :=
  minsi (broadcastInDim S64x64 ![] bcast_S_S64x64 (constantI S_ 32 30#32))
    (maxsi (broadcastInDim S64x64 ![] bcast_S_S64x64 (constantI S_ 32 0#32))
      (addi (subi (broadcastInDim S64x64 ![0, 1] bcast_S1x64_S64x64_0_1
            (broadcastInDim S1x64 ![1] bcast_S64_S1x64_1 (iotaInDim S64 32 0)))
          (broadcastInDim S64x64 ![0, 1] bcast_S64x1_S64x64_0_1 (broadcastInDim S64x1 ![0] bcast_S64_S64x1_0 (iotaInDim S64 32 0))))
        (broadcastInDim S64x64 ![] bcast_S_S64x64 (constantI S_ 32 15#32))))

/-- The clipped column of the relative position of column `kc` from column `q`. -/
def relAt (q kc : Nat) : Nat := min (kc + 15 - q) 30

/-- The clipped relative column, as a word. -/
theorem relWord_apply (q kc : Fin 64) : relWord (ix2 q kc) = word (relAt q.val kc.val : Nat) := by
  have h : relWord (ix2 q kc) = IntOp.minsi (BitVec.ofNat 32 30) (IntOp.maxsi (BitVec.ofNat 32 0)
      (IntOp.addi (IntOp.subi (BitVec.ofNat 32 kc.val) (BitVec.ofNat 32 q.val)) (BitVec.ofNat 32 15))) := by
    unfold relWord
    pointwise []
  rw [h, word_nat, word_nat, word_nat, word_nat, word_nat, word_sub, word_add, word_max (by omega) (by omega) (by omega) (by omega),
    word_min (by omega) (by omega) (by omega) (by omega)]
  congr 1
  unfold relAt
  omega

/-- The relative columns as a gather's indices. -/
def relIdx : IVec S64x64x1 32 :=
  broadcastInDim S64x64x1 ![0, 1] bcast_S64x64_S64x64x1_0_1
    (select (cmpi .slt relWord (broadcastInDim S64x64 ![] bcast_S_S64x64 (constantI S_ 32 0#32)))
      (addi relWord (broadcastInDim S64x64 ![] bcast_S_S64x64 (constantI S_ 32 31#32))) relWord)

/-- The index of the relative column the gather reads. -/
theorem relIdx_apply (q kc : Fin 64) : relIdx (ix3 q kc 0) = word (relAt q.val kc.val : Nat) := by
  have h : relIdx (ix3 q kc 0) = Scalar.select (IntOp.cmpi .slt (relWord (ix2 q kc)) (BitVec.ofNat 32 0))
      (IntOp.addi (relWord (ix2 q kc)) (BitVec.ofNat 32 31)) (relWord (ix2 q kc)) := by
    unfold relIdx
    generalize relWord = y
    pointwise []
  have hr : relAt q.val kc.val ≤ 30 := by unfold relAt; omega
  rw [h, relWord_apply, word_nat, select_slt (by omega) (by omega) (by omega) (by omega), if_neg (by omega)]

/-- The gather picks the bias of the clipped relative column. -/
theorem gatherRel (x : S8x15x31.Idx → EReal) (h : Fin 8) (r : Fin 15) (q kc : Fin 64) :
    Host.gather gather_S8x15x31_S64x64x1_S8x15x64x64_01_2_n_n_2_2_8151 x relIdx (ix4 h r q kc) =
      x (ix3 h r ⟨relAt q.val kc.val, by unfold relAt; omega⟩) := by
  have hr : relAt q.val kc.val ≤ 30 := by unfold relAt; omega
  refine gather_eq _ _ _ _ _ fun a => ?_
  fin_cases a
  · show 0 + 0 + h.val = h.val
    omega
  · show 0 + 0 + r.val = r.val
    omega
  · show min (relIdx _).toInt.toNat 30 + 0 + 0 = relAt q.val kc.val
    rw [show ∀ i : S64x64x1.Idx, i = ix3 q kc 0 → relIdx i = word (relAt q.val kc.val : Nat) from fun i hi => by
      rw [hi, relIdx_apply]]
    · rw [clamp_word (by omega) (by omega)]; rfl
    · funext b; fin_cases b <;> rfl

/-- Which columns lie in a query column's neighborhood. -/
def colMask : IVec S64x64 1 :=
  andi (cmpi .sge (broadcastInDim S64x64 ![0, 1] bcast_S1x64_S64x64_0_1 (broadcastInDim S1x64 ![1] bcast_S64_S1x64_1 (iotaInDim S64 32 0)))
      (broadcastInDim S64x64 ![0, 1] bcast_S64x1_S64x64_0_1 firstCol))
    (cmpi .slt (broadcastInDim S64x64 ![0, 1] bcast_S1x64_S64x64_0_1 (broadcastInDim S1x64 ![1] bcast_S64_S1x64_1 (iotaInDim S64 32 0)))
      (broadcastInDim S64x64 ![0, 1] bcast_S64x1_S64x64_0_1
        (addi firstCol (broadcastInDim S64x1 ![] bcast_S_S64x1 (constantI S_ 32 16#32)))))

/-- The mask of columns picks the first value on the 16 columns of a neighborhood. -/
theorem colMask_select {A : Type} (q kc : Fin 64) (x y : A) :
    Scalar.select (colMask (ix2 q kc)) x y = if col0 q.val ≤ kc.val ∧ kc.val < col0 q.val + 16 then x else y := by
  have h : colMask (ix2 q kc) = IntOp.andi (IntOp.cmpi .sge (BitVec.ofNat 32 kc.val) (firstCol (ix2 q 0)))
      (IntOp.cmpi .slt (BitVec.ofNat 32 kc.val) (IntOp.addi (firstCol (ix2 q 0)) (BitVec.ofNat 32 16))) := by
    unfold colMask
    generalize firstCol = y
    pointwise []
  have hc : col0 q.val ≤ 48 := by unfold col0; omega
  rw [h, firstCol_apply, word_nat, word_nat, word_add, select_and (by omega) (by omega) (by omega) (by omega) (by omega) (by omega)]
  congr 1
  simp only [eq_iff_iff]
  omega

/-- The neighborhood's table before the cases are cut from it. -/
def relTable (x5 : FVec Ideal S1x8x15x31 .f32) : FVec Ideal S8x15x64x64 .f32 :=
  select (broadcastInDim S8x15x64x64 ![0, 1, 2, 3] bcast_S1x1x64x64_S8x15x64x64_0_1_2_3
      (broadcastInDim S1x1x64x64 ![2, 3] bcast_S64x64_S1x1x64x64_2_3 colMask))
    (Host.gather gather_S8x15x31_S64x64x1_S8x15x64x64_01_2_n_n_2_2_8151
      (shapeCast S8x15x31 x5 shapeCasts_S1x8x15x31_S8x15x31) relIdx)
    (broadcastInDim S8x15x64x64 ![] bcast_S_S8x15x64x64 (constant S_ .f32 0xFF800000#32))

/-- The table of biases: the bias of the relative column within the neighborhood, minus infinity outside it. -/
theorem relTable_apply (x5 : FVec Ideal S1x8x15x31 .f32) (h : Fin 8) (r : Fin 15) (q kc : Fin 64) :
    relTable x5 (ix4 h r q kc) = if col0 q.val ≤ kc.val ∧ kc.val < col0 q.val + 16 then
      x5 (ix4 0 h r ⟨relAt q.val kc.val, by unfold relAt; omega⟩) else ⊥ := by
  have e : relTable x5 (ix4 h r q kc) = Scalar.select (colMask (ix2 q kc))
      (Host.gather gather_S8x15x31_S64x64x1_S8x15x64x64_01_2_n_n_2_2_8151
        (shapeCast S8x15x31 x5 shapeCasts_S1x8x15x31_S8x15x31) relIdx (ix4 h r q kc)) (Ideal.ofBits .f32 0xFF800000#32) := by
    unfold relTable
    generalize colMask = y
    generalize Host.gather gather_S8x15x31_S64x64x1_S8x15x64x64_01_2_n_n_2_2_8151
        (shapeCast S8x15x31 x5 shapeCasts_S1x8x15x31_S8x15x31) relIdx = y'
    pointwise []
  rw [e, colMask_select, ofBits_bot, gatherRel]
  congr 1
  pointwise []

/-- The eight cuts of a table, case by case. -/
def cases (y : FVec Ideal S8x15x64x64 .f32) : FVec Ideal S8x8x64x512 .f32 :=
  shapeCast S8x8x64x512 (transpose S8x8x64x8x64 [0, 1, 3, 2, 4] (concatenate S8x8x8x64x64 0 [
    ⟨S1x8x8x64x64, broadcastInDim S1x8x8x64x64 ![1, 2, 3, 4] bcast_S8x8x64x64_S1x8x8x64x64_1_2_3_4
      (extractStridedSlice S8x8x64x64 ![0, 0, 0, 0] y slices_S8x15x64x64_S8x8x64x64_0_0_0_0)⟩,
    ⟨S1x8x8x64x64, broadcastInDim S1x8x8x64x64 ![1, 2, 3, 4] bcast_S8x8x64x64_S1x8x8x64x64_1_2_3_4
      (extractStridedSlice S8x8x64x64 ![0, 1, 0, 0] y slices_S8x15x64x64_S8x8x64x64_0_1_0_0)⟩,
    ⟨S1x8x8x64x64, broadcastInDim S1x8x8x64x64 ![1, 2, 3, 4] bcast_S8x8x64x64_S1x8x8x64x64_1_2_3_4
      (extractStridedSlice S8x8x64x64 ![0, 2, 0, 0] y slices_S8x15x64x64_S8x8x64x64_0_2_0_0)⟩,
    ⟨S1x8x8x64x64, broadcastInDim S1x8x8x64x64 ![1, 2, 3, 4] bcast_S8x8x64x64_S1x8x8x64x64_1_2_3_4
      (extractStridedSlice S8x8x64x64 ![0, 3, 0, 0] y slices_S8x15x64x64_S8x8x64x64_0_3_0_0)⟩,
    ⟨S1x8x8x64x64, broadcastInDim S1x8x8x64x64 ![1, 2, 3, 4] bcast_S8x8x64x64_S1x8x8x64x64_1_2_3_4
      (extractStridedSlice S8x8x64x64 ![0, 4, 0, 0] y slices_S8x15x64x64_S8x8x64x64_0_4_0_0)⟩,
    ⟨S1x8x8x64x64, broadcastInDim S1x8x8x64x64 ![1, 2, 3, 4] bcast_S8x8x64x64_S1x8x8x64x64_1_2_3_4
      (extractStridedSlice S8x8x64x64 ![0, 5, 0, 0] y slices_S8x15x64x64_S8x8x64x64_0_5_0_0)⟩,
    ⟨S1x8x8x64x64, broadcastInDim S1x8x8x64x64 ![1, 2, 3, 4] bcast_S8x8x64x64_S1x8x8x64x64_1_2_3_4
      (extractStridedSlice S8x8x64x64 ![0, 6, 0, 0] y slices_S8x15x64x64_S8x8x64x64_0_6_0_0)⟩,
    ⟨S1x8x8x64x64, broadcastInDim S1x8x8x64x64 ![1, 2, 3, 4] bcast_S8x8x64x64_S1x8x8x64x64_1_2_3_4
      (extractStridedSlice S8x8x64x64 ![0, 7, 0, 0] y slices_S8x15x64x64_S8x8x64x64_0_7_0_0)⟩]
    concatenates_S1x8x8x64x64_S1x8x8x64x64_S1x8x8x64x64_S1x8x8x64x64_S1x8x8x64x64_S1x8x8x64x64_S1x8x8x64x64_S1x8x8x64x64_S8x8x8x64x64_d0)
    transposes_S8x8x8x64x64_S8x8x64x8x64_0_1_3_2_4) shapeCasts_S8x8x64x8x64_S8x8x64x512

/-- Case `cs` of a table holds the eight rows from row `cs` on. -/
theorem cases_apply (y : FVec Ideal S8x15x64x64 .f32) (cs h : Fin 8) (q : Fin 64) (kr : Fin 8) (kc : Fin 64) :
    cases y (ix4 cs h q ⟨64 * kr.val + kc.val, by omega⟩) = y (ix4 h ⟨cs.val + kr.val, by omega⟩ q kc) := by
  unfold cases
  fin_cases cs <;> pointwise []

/-- The first projection matrix as the last call reads it. -/
def wA (x6 : FVec Ideal S1x512x1024 .f32) : FVec Ideal S512x1024 .bf16 :=
  truncf .bf16 (shapeCast S512x1024 (Host.gather gather_S8x64x1024_S8x1_S8x64x1024_12_0_n_n_0_1_1641024
    (shapeCast S8x64x1024 (shapeCast S512x1024 x6 shapeCasts_S1x512x1024_S512x1024) shapeCasts_S512x1024_S8x64x1024) headIdx)
    shapeCasts_S8x64x1024_S512x1024) bitsLt_bf16_f32

/-- The rows of the windowed output weights, in the order of the heads. -/
theorem wA_apply (x6 : FVec Ideal S1x512x1024 .f32) (g : Fin 8) (e : Fin 64) (j : Fin 1024) :
    wA x6 (ix2 ⟨64 * g.val + e.val, by omega⟩ j) = x6 (ix3 0 ⟨64 * (headAt g).val + e.val, by omega⟩ j) := by
  have h : wA x6 (ix2 ⟨64 * g.val + e.val, by omega⟩ j) =
      Host.gather gather_S8x64x1024_S8x1_S8x64x1024_12_0_n_n_0_1_1641024
        (shapeCast S8x64x1024 (shapeCast S512x1024 x6 shapeCasts_S1x512x1024_S512x1024) shapeCasts_S512x1024_S8x64x1024)
        headIdx (ix3 g e j) := by
    unfold wA
    generalize Host.gather gather_S8x64x1024_S8x1_S8x64x1024_12_0_n_n_0_1_1641024
        (shapeCast S8x64x1024 (shapeCast S512x1024 x6 shapeCasts_S1x512x1024_S512x1024) shapeCasts_S512x1024_S8x64x1024)
        headIdx = y
    pointwise []
  rw [h, gatherRows]
  have h : ∀ g' : Fin 8, shapeCast S8x64x1024 (shapeCast S512x1024 x6 shapeCasts_S1x512x1024_S512x1024)
      shapeCasts_S512x1024_S8x64x1024 (ix3 g' e j) = x6 (ix3 0 ⟨64 * g'.val + e.val, by omega⟩ j) := by
    intro g'
    pointwise []
    congr 2
    exact Fin.ext (by simp only [Nat.mul_comm])
  exact h (headAt g)

end Cert.KernelIdeal.HostArrays
-- ==== Proof.Attn.lean ====
/- Softmax sums over two families of scores that agree wherever they are not masked, and what is real in them: the
   arithmetic the two attention calls rest on. -/
module

public import proofs.«01_k».proof.Proof.Mixers

@[expose] public section

noncomputable section

namespace Cert.Layer

open Idealize.ShloMosaic

/-- A real number among the extended ones. -/
def IsReal (x : EReal) : Prop := ∃ r : ℝ, x = (r : EReal)

/-- The sum of two reals is real. -/
theorem IsReal.add {x y : EReal} (hx : IsReal x) (hy : IsReal y) : IsReal (x + y) := by
  obtain ⟨a, rfl⟩ := hx
  obtain ⟨b, rfl⟩ := hy
  exact ⟨a + b, (EReal.coe_add a b).symm⟩

/-- The product of two reals is real. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- The difference of two reals is real. -/
theorem IsReal.sub {x y : EReal} (hx : IsReal x) (hy : IsReal y) : IsReal (x - y) := by
  obtain ⟨a, rfl⟩ := hx
  obtain ⟨b, rfl⟩ := hy
  exact ⟨a - b, (EReal.coe_sub a b).symm⟩

/-- A finite sum of reals is real. -/
theorem IsReal.sum {A : Type} {s : Finset A} {f : A → EReal} (h : ∀ a ∈ s, IsReal (f a)) : IsReal (∑ a ∈ s, f a) :=
  Finset.sum_induction f IsReal (fun _ _ => IsReal.add) ⟨0, rfl⟩ h

/-- What is neither infinity is real. -/
theorem isReal_of_ne {x : EReal} (h : x ≠ ⊥) (h' : x ≠ ⊤) : IsReal x := ⟨x.toReal, (EReal.coe_toReal h' h).symm⟩

/-- A real is not minus infinity. -/
theorem IsReal.ne_bot {x : EReal} (h : IsReal x) : x ≠ ⊥ := by obtain ⟨a, rfl⟩ := h; exact EReal.coe_ne_bot a
/-- A real is not plus infinity. -/
theorem IsReal.ne_top {x : EReal} (h : IsReal x) : x ≠ ⊤ := by obtain ⟨a, rfl⟩ := h; exact EReal.coe_ne_top a

/-- A finite factor that is not negative moves through a sum. -/
theorem sum_mul_const {A : Type} (s : Finset A) (f : A → EReal) {c : EReal} (h0 : 0 ≤ c) (h1 : c ≠ ⊤) :
    (∑ a ∈ s, f a * c) = (∑ a ∈ s, f a) * c := by
  classical
  induction s using Finset.induction_on with
  | empty => simp
  | insert a s ha ih => rw [Finset.sum_insert ha, Finset.sum_insert ha, ih, EReal.right_distrib_of_nonneg_of_ne_top h0 h1]

/-- The exponential is not negative. -/
theorem exp_nonneg (x : EReal) : 0 ≤ Ideal.exp x := by
  induction x with
  | bot => exact le_rfl
  | top => exact le_top (α := EReal)
  | coe r => exact EReal.coe_nonneg.mpr (Real.exp_pos r).le

/-- The exponential of minus infinity less anything is 0. -/
theorem exp_bot_sub (m : EReal) : Ideal.exp (⊥ - m) = 0 := by
  rw [sub_eq_add_neg, EReal.bot_add]; rfl

/-- The exponential is plus infinity nowhere but at plus infinity. -/
theorem exp_ne_top {x : EReal} (h : x ≠ ⊤) : Ideal.exp x ≠ ⊤ := by
  induction x with
  | bot => exact EReal.zero_ne_top
  | top => exact absurd rfl h
  | coe r => exact EReal.coe_ne_top _

/-- The exponential is positive except at minus infinity. -/
theorem exp_pos_of {x : EReal} (h : x ≠ ⊥) : 0 < Ideal.exp x := by
  induction x with
  | bot => exact absurd rfl h
  | top => exact EReal.zero_lt_top
  | coe r => exact EReal.coe_pos.mpr (Real.exp_pos r)

/-- A quotient by a positive finite sum, taken term by term. -/
theorem div_sum {A : Type} [Fintype A] (e v : A → EReal) {l : EReal} (h0 : 0 < l) (h1 : l ≠ ⊤) :
    Ideal.div (∑ a, e a * v a) l = ∑ a, Ideal.div (e a) l * v a := by
  have hb : l ≠ ⊥ := (EReal.bot_lt_zero.trans h0).ne'
  obtain ⟨r, rfl⟩ := isReal_of_ne hb h1
  have hr : 0 < r := EReal.coe_pos.mp h0
  unfold Ideal.div
  simp only [if_neg h0.ne']
  rw [← EReal.coe_inv, ← sum_mul_const _ _ (EReal.coe_nonneg.mpr (inv_nonneg.mpr hr.le)) (EReal.coe_ne_top _)]
  exact Finset.sum_congr rfl fun a _ => by rw [mul_right_comm]

section Agree

variable {A B : Type} [Fintype A] [Fintype B] (s : A → EReal) (s' : B → EReal) (p : A → B)
  (hp : ∀ a, s a ≠ ⊥ → s a = s' (p a))
  (hi : ∀ a a', s a ≠ ⊥ → s a' ≠ ⊥ → p a = p a' → a = a')
  (hs : ∀ b, s' b ≠ ⊥ → ∃ a, s a = s' b ∧ p a = b)

include hp hs in
/-- Families that agree wherever they are not masked have the same largest entry. -/
theorem fold_max_eq : Finset.univ.fold max ⊥ s = Finset.univ.fold max ⊥ s' := by
  apply le_antisymm
  · rw [Finset.fold_max_le]
    refine ⟨bot_le, fun a _ => ?_⟩
    by_cases h : s a = ⊥
    · rw [h]; exact bot_le
    · rw [Finset.le_fold_max]
      exact .inr ⟨p a, Finset.mem_univ _, (hp a h).le⟩
  · rw [Finset.fold_max_le]
    refine ⟨bot_le, fun b _ => ?_⟩
    by_cases h : s' b = ⊥
    · rw [h]; exact bot_le
    · obtain ⟨a, ha, _⟩ := hs b h
      rw [Finset.le_fold_max]
      exact .inr ⟨a, Finset.mem_univ _, ha.ge⟩

include hp hi hs in
/-- And the same sum of weighted exponentials. -/
theorem sum_exp_eq (M : EReal) (v : A → EReal) (v' : B → EReal) (hv : ∀ a, s a ≠ ⊥ → v a = v' (p a)) :
    (∑ a, Ideal.exp (s a - M) * v a) = ∑ b, Ideal.exp (s' b - M) * v' b := by
  have mask : ∀ x y : EReal, Ideal.exp (x - M) * y ≠ 0 → x ≠ ⊥ := by
    intro x y h hx
    rw [hx, exp_bot_sub, zero_mul] at h
    exact h rfl
  refine Finset.sum_bij_ne_zero (fun a _ _ => p a) (fun a _ _ => Finset.mem_univ _)
    (fun a _ h a' _ h' e => hi a a' (mask _ _ h) (mask _ _ h') e) (fun b _ h => ?_)
    (fun a _ h => by rw [← hp a (mask _ _ h), ← hv a (mask _ _ h)])
  obtain ⟨a, ha, hb⟩ := hs b (mask _ _ h)
  refine ⟨a, Finset.mem_univ _, ?_, hb⟩
  rw [hv a (ha ▸ mask _ _ h), hb, ha]
  exact h

include hp hi hs in
/-- And the same sum of exponentials. -/
theorem sum_exp_eq' (M : EReal) : (∑ a, Ideal.exp (s a - M)) = ∑ b, Ideal.exp (s' b - M) := by
  have h := sum_exp_eq s s' p hp hi hs M (fun _ => 1) (fun _ => 1) (fun _ _ => rfl)
  simpa only [mul_one] using h

end Agree

/-- A finite sum without plus infinity is not plus infinity. -/
theorem sum_ne_top {A : Type} (s : Finset A) {f : A → EReal} (h : ∀ a ∈ s, f a ≠ ⊤) : (∑ a ∈ s, f a) ≠ ⊤ :=
  Finset.sum_induction f (· ≠ ⊤) (fun _ _ h h' => EReal.add_ne_top h h') EReal.zero_ne_top h

/-- A difference is not plus infinity if the first is not and the second is not minus infinity. -/
theorem sub_ne_top {x m : EReal} (hx : x ≠ ⊤) (hm : m ≠ ⊥) : x - m ≠ ⊤ := by
  rw [sub_eq_add_neg]
  exact EReal.add_ne_top hx (by simpa using hm)

/-- The sum of exponentials of a family with a real entry and no infinite one is positive and finite. -/
theorem sum_exp_pos {A : Type} [Fintype A] (s : A → EReal) {M : EReal} (a : A) (ha : s a ≠ ⊥) (hM : M ≠ ⊤) :
    0 < ∑ a, Ideal.exp (s a - M) := by
  have h : Ideal.exp (s a - M) ≤ ∑ a, Ideal.exp (s a - M) :=
    Finset.single_le_sum (f := fun a => Ideal.exp (s a - M)) (fun _ _ => exp_nonneg _) (Finset.mem_univ a)
  refine lt_of_lt_of_le (exp_pos_of ?_) h
  rw [sub_eq_add_neg]
  exact fun h => (EReal.add_eq_bot_iff.mp h).elim ha (by simpa using hM)

/-- The denominator of a softmax is not plus infinity if no score is. -/
theorem sum_exp_ne_top {A : Type} [Fintype A] (s : A → EReal) {M : EReal} (hs : ∀ a, s a ≠ ⊤) (hM : M ≠ ⊥) :
    (∑ a, Ideal.exp (s a - M)) ≠ ⊤ :=
  sum_ne_top _ fun a _ => exp_ne_top (sub_ne_top (hs a) hM)

/-- The largest score is not plus infinity if no score is. -/
theorem fold_max_ne_top {A : Type} [Fintype A] (s : A → EReal) (hs : ∀ a, s a ≠ ⊤) : Finset.univ.fold max ⊥ s ≠ ⊤ := by
  apply ne_of_lt
  rw [Finset.fold_max_lt]
  exact ⟨bot_lt_top, fun a _ => lt_top_iff_ne_top.mpr (hs a)⟩

/-- The largest score is not minus infinity if one score is not. -/
theorem fold_max_ne_bot {A : Type} [Fintype A] (s : A → EReal) (a : A) (ha : s a ≠ ⊥) : Finset.univ.fold max ⊥ s ≠ ⊥ := by
  apply ne_of_gt
  rw [Finset.lt_fold_max]
  exact .inr ⟨a, Finset.mem_univ _, bot_lt_iff_ne_bot.mpr ha⟩

/-- A softmax with a sink, over either family, divided after the sum or before. -/
theorem sink_eq {A B : Type} [Fintype A] [Fintype B] (s : A → EReal) (s' : B → EReal) (p : A → B)
    (hp : ∀ a, s a ≠ ⊥ → s a = s' (p a)) (hi : ∀ a a', s a ≠ ⊥ → s a' ≠ ⊥ → p a = p a' → a = a')
    (hs : ∀ b, s' b ≠ ⊥ → ∃ a, s a = s' b ∧ p a = b) (v : A → EReal) (v' : B → EReal)
    (hv : ∀ a, s a ≠ ⊥ → v a = v' (p a)) (snk : EReal) (hk : snk ≠ ⊤) (ht : ∀ b, s' b ≠ ⊤) (b : B) (hb : s' b ≠ ⊥) :
    Ideal.div (∑ a, Ideal.exp (s a - maxWith s snk) * v a)
      ((∑ a, Ideal.exp (s a - maxWith s snk)) + Ideal.exp (snk - maxWith s snk)) =
    ∑ b, v' b * Ideal.div (Ideal.exp (s' b - maxWith s' snk))
      ((∑ b, Ideal.exp (s' b - maxWith s' snk)) + Ideal.exp (snk - maxWith s' snk)) := by
  have hm : maxWith s snk = maxWith s' snk := by unfold maxWith; rw [fold_max_eq s s' p hp hs]
  rw [hm, sum_exp_eq s s' p hp hi hs _ v v' hv, sum_exp_eq' s s' p hp hi hs]
  have m1 : maxWith s' snk ≠ ⊤ := by
    unfold maxWith
    exact (max_lt (lt_top_iff_ne_top.mpr (fold_max_ne_top s' ht)) (lt_top_iff_ne_top.mpr hk)).ne
  have m0 : maxWith s' snk ≠ ⊥ := by
    unfold maxWith
    exact (lt_of_lt_of_le (bot_lt_iff_ne_bot.mpr (fold_max_ne_bot s' b hb)) (le_max_left _ _)).ne'
  generalize maxWith s' snk = M at *
  rw [div_sum _ _ (lt_of_lt_of_le (sum_exp_pos s' b hb m1) (le_add_of_nonneg_right (exp_nonneg _)))
    (EReal.add_ne_top (sum_exp_ne_top s' ht m0) (exp_ne_top (sub_ne_top hk m0)))]
  exact Finset.sum_congr rfl fun _ _ => mul_comm _ _

/-- The same without a sink. -/
theorem soft_eq {A B : Type} [Fintype A] [Fintype B] (s : A → EReal) (s' : B → EReal) (p : A → B)
    (hp : ∀ a, s a ≠ ⊥ → s a = s' (p a)) (hi : ∀ a a', s a ≠ ⊥ → s a' ≠ ⊥ → p a = p a' → a = a')
    (hs : ∀ b, s' b ≠ ⊥ → ∃ a, s a = s' b ∧ p a = b) (v : A → EReal) (v' : B → EReal)
    (hv : ∀ a, s a ≠ ⊥ → v a = v' (p a)) (ht : ∀ b, s' b ≠ ⊤) (b : B) (hb : s' b ≠ ⊥) :
    Ideal.div (∑ a, Ideal.exp (s a - maxOf s) * v a) (∑ a, Ideal.exp (s a - maxOf s)) =
    ∑ b, Ideal.div (Ideal.exp (s' b - maxOf s')) (∑ b, Ideal.exp (s' b - maxOf s')) * v' b := by
  have hm : maxOf s = maxOf s' := fold_max_eq s s' p hp hs
  rw [hm, sum_exp_eq s s' p hp hi hs _ v v' hv, sum_exp_eq' s s' p hp hi hs]
  have m1 : maxOf s' ≠ ⊤ := fold_max_ne_top s' ht
  have m0 : maxOf s' ≠ ⊥ := fold_max_ne_bot s' b hb
  generalize maxOf s' = M at *
  exact div_sum _ _ (sum_exp_pos s' b hb m1) (sum_exp_ne_top s' ht m0)

/-- A normalised token is real whatever the token, when the weights are. -/
theorem rms_real (v g : Fin 1024 → EReal) (hg : ∀ j, IsReal (g j)) (j : Fin 1024) : IsReal (rms v g j) := by
  unfold rms
  refine IsReal.mul ?_ (hg j)
  have sq : ∀ k, 0 ≤ v k * v k := fun k => by
    induction v k with
    | bot => simp
    | top => simp
    | coe r => rw [← EReal.coe_mul]; exact EReal.coe_nonneg.mpr (mul_self_nonneg r)
  have e1 : Ideal.ofBits .f32 0x44800000#32 = ((1024 : ℝ) : EReal) := by
    simp [Ideal.ofBits, Ideal.ieee]; rw [← EReal.coe_mul]; norm_num
  obtain ⟨eps, he, hpos⟩ : ∃ e : ℝ, Ideal.ofBits .f32 0x358637BD#32 = (e : EReal) ∧ 0 < e := by
    refine ⟨8796093 * (2 ^ 43)⁻¹, ?_, by positivity⟩
    simp [Ideal.ofBits, Ideal.ieee]
  rw [e1, he]
  have hd : ∀ x : EReal, Ideal.div x ((1024 : ℝ) : EReal) = x * (((1024 : ℝ)⁻¹ : ℝ) : EReal) := fun x => by
    unfold Ideal.div
    rw [if_neg (by norm_num), EReal.coe_inv]
  rw [hd]
  by_cases h : ∃ k, v k = ⊤ ∨ v k = ⊥
  · obtain ⟨k, hk⟩ := h
    have ht : v k * v k = ⊤ := by rcases hk with hk | hk <;> rw [hk] <;> rfl
    have hsum : (∑ k, v k * v k) = ⊤ := top_le_iff.mp <| ht ▸
      Finset.single_le_sum (f := fun k => v k * v k) (fun k _ => sq k) (Finset.mem_univ k)
    rw [hsum, EReal.top_mul_coe_of_pos (by norm_num), EReal.top_add_coe]
    exact ⟨0, mul_zero _⟩
  · push Not at h
    have hr : ∀ k, IsReal (v k) := fun k => isReal_of_ne (h k).2 (h k).1
    obtain ⟨q, hq⟩ : IsReal (∑ k, v k * v k) := IsReal.sum fun k _ => (hr k).mul (hr k)
    have hq0 : 0 ≤ q := by
      have : (0 : EReal) ≤ ∑ k, v k * v k := Finset.sum_nonneg fun k _ => sq k
      rw [hq] at this
      exact EReal.coe_nonneg.mp this
    rw [hq]
    refine (hr j).mul ?_
    rw [← EReal.coe_mul, ← EReal.coe_add]
    have hy : 0 < q * (1024 : ℝ)⁻¹ + eps := by positivity
    refine ⟨(Real.sqrt (q * (1024 : ℝ)⁻¹ + eps))⁻¹, ?_⟩
    show (if _ then _ else if _ then _ else _) = _
    rw [if_neg (not_lt.mpr hy.le), if_neg hy.ne']

/-- The columns of the queries and keys of the two mixers, of which the attention's logits are made. -/
def LogitCol (c : Nat) : Prop := c < 640 ∨ 768 ≤ c ∧ c < 1792

/-- A projected column is real whatever the token, when the weights are. -/
theorem zrow_real (x nm : Fin 1024 → EReal) (w : Fin 1024 → Fin 4352 → EReal) (hn : ∀ j, IsReal (nm j)) (c : Fin 4352)
    (hw : ∀ k, IsReal (w k c)) : IsReal (zrow x nm w c) := by
  unfold zrow rowMul
  exact IsReal.sum fun k _ => (rms_real x nm hn k).mul (hw k)

/-- The scale of the scores is the real 1/8. -/
theorem eighth_eq : eighth = ((1 / 8 : ℝ) : EReal) := by
  unfold eighth
  simp [Ideal.ofBits, Ideal.ieee]; rw [← EReal.coe_mul]; norm_num

/-- The distance penalty of a head is real. -/
theorem penalty_real (h : Nat) : IsReal (penalty h) := by
  have e2 : Ideal.ofBits .f32 0x40000000#32 = ((2 : ℝ) : EReal) := by simp [Ideal.ofBits, Ideal.ieee]; rw [← EReal.coe_mul]; norm_num
  have e8 : Ideal.ofBits .f32 0xC1000000#32 = ((-8 : ℝ) : EReal) := by simp [Ideal.ofBits, Ideal.ieee]; rw [← EReal.coe_mul]; norm_num
  have e1 : Ideal.ofBits .f32 0x3F800000#32 = ((1 : ℝ) : EReal) := by simp [Ideal.ofBits, Ideal.ieee]; rw [← EReal.coe_mul]; norm_num
  have e8' : Ideal.ofBits .f32 0x41000000#32 = ((8 : ℝ) : EReal) := by simp [Ideal.ofBits, Ideal.ieee]; rw [← EReal.coe_mul]; norm_num
  unfold penalty
  rw [e2, e8, e1, e8', ← EReal.coe_add, ← EReal.coe_mul]
  unfold Ideal.div
  rw [if_neg (by norm_num), ← EReal.coe_inv, ← EReal.coe_mul]
  exact ⟨_, rfl⟩

end Cert.Layer
-- ==== Proof.KernelMix.lean ====
/- The two attention calls' arrays over a sequence's projected rows are the plain mixers: the 384 keys a query's window
   holds against all 8192, the 512 tokens of a query's strip of rows against its 128 neighbors. -/
module

public import proofs.«01_k».proof.Proof.WinAttnArray
public import proofs.«01_k».proof.Proof.NbrAttnArray
public import proofs.«01_k».proof.Proof.HostArrays
public import proofs.«01_k».proof.Proof.Attn

@[expose] public section

set_option maxRecDepth 16384
set_option backward.proofsInPublic true

noncomputable section

namespace Cert.KernelIdeal.Mix

open Idealize.ShloMosaic Idealize.ShloMosaic.TcCoe Idealize.SL.Sem
open Cert.KernelIdeal Cert.KernelIdeal.Gen Cert.Layer

/-- The row of the flattened arrays that token `n` of sequence `b` is. -/
def row (b : Fin 8) (n : Fin 8192) : Fin 65536 := ⟨8192 * b.val + n.val, by omega⟩

section Win

open Cert.KernelIdeal.WinAttn

variable (SNK : Vec Ideal S8 .f32) (QA : Vec Ideal S65536x512 .bf16) (KV : Vec Ideal S65536x256 .bf16) (B : Vec Ideal S8x128x384 .f32)

/-- A score of the windowed call, before its softmax. -/
def winS (t : Fin 128) (j : Fin 4) (r : Fin 128) (p : Fin 4) (half : Fin 2) (k : Fin 384) : EReal :=
  (∑ d : Fin 64, QA (ix2 ⟨512 * t.val + (128 * j.val + r.val), by omega⟩ ⟨128 * p.val + (64 * half.val + d.val), by omega⟩)
      * KV (ix2 (keyRow t ⟨128 * j.val + k.val, by omega⟩) ⟨64 * half.val + d.val, by omega⟩)
    + B (ix3 ⟨p.val + 4 * half.val, by omega⟩ r k)) + edge t.val j k

/-- A value of the windowed call is a softmax with a sink over its 384 keys. -/
theorem winAt_eq (t : Fin 128) (j : Fin 4) (r : Fin 128) (p : Fin 4) (half : Fin 2) (e : Fin 64) :
    winAt SNK QA KV B t j r p ⟨64 * half.val + e.val, by omega⟩ =
      sinkOut (winS QA KV B t j r p half) (SNK (ix1 ⟨p.val + 4 * half.val, by omega⟩))
        fun k => KV (ix2 (keyRow t ⟨128 * j.val + k.val, by omega⟩) ⟨128 + (64 * half.val + e.val), by omega⟩) := by
  have hl : (64 * half.val + e.val) / 64 = half.val := by omega
  unfold winAt winS
  simp only [hl]

variable (z : Fin 8192 → Fin 4352 → EReal) (b : Fin 8)
  (hq : ∀ (n : Fin 8192) (p : Fin 4) (half : Fin 2) (d : Fin 64),
    QA (ix2 (row b n) ⟨128 * p.val + (64 * half.val + d.val), by omega⟩) = z n ⟨64 * (p.val + 4 * half.val) + d.val, by omega⟩ * eighth)
  (hkv : ∀ (n : Fin 8192) (j : Fin 256), KV (ix2 (row b n) j) = z n ⟨512 + j.val, by omega⟩)
  (hB : ∀ (h : Fin 8) (q : Fin 128) (k : Fin 384), B (ix3 h q k) =
    if gap (q.val + 128) k.val ≤ 128 then -penalty h * ((gap (q.val + 128) k.val : ℝ) : EReal) else ⊥)
  (t : Fin 16) (j : Fin 4) (r : Fin 128) (p : Fin 4) (half : Fin 2)

/-- The token at row `r` of sub-block `j` of tile `t`. -/
def winTok : Fin 8192 := ⟨512 * t.val + (128 * j.val + r.val), by omega⟩

/-- The head in half `half` of pair `p`. -/
def winHead : Fin 8 := ⟨p.val + 4 * half.val, by omega⟩

/-- The tile of the flattened arrays. -/
def tileOf (b : Fin 8) (t : Fin 16) : Fin 128 := ⟨16 * b.val + t.val, by omega⟩

/-- A key slot that holds token `m` holds its row. -/
theorem keyRow_eq (k : Fin 384) (m : Fin 8192) (hm : m.val + (r.val + 128) = (winTok t j r).val + k.val) :
    keyRow (tileOf b t) ⟨128 * j.val + k.val, by omega⟩ = row b m := by
  unfold winTok at hm
  dsimp only at hm
  unfold keyRow tileOf row
  dsimp only
  split_ifs <;> refine Fin.ext ?_ <;> dsimp only <;> omega

include hq hkv hB in
/-- Its score is the plain one. -/
theorem winS_eq (k : Fin 384) (m : Fin 8192) (hm : m.val + (r.val + 128) = (winTok t j r).val + k.val) :
    winS QA KV B (tileOf b t) j r p half k = winScore z (winHead p half) (winTok t j r) m := by
  have hr : (⟨512 * (tileOf b t).val + (128 * j.val + r.val), by have := (tileOf b t).isLt; omega⟩ : Fin 65536) = row b (winTok t j r) := by
    unfold tileOf row winTok
    refine Fin.ext ?_
    dsimp only
    omega
  have hg : gap (r.val + 128) k.val = gap (winTok t j r).val m.val := by unfold gap; omega
  have he : edge (tileOf b t).val j k = 0 := by
    unfold winTok at hm
    dsimp only at hm
    have := m.isLt
    unfold edge tileOf
    dsimp only
    rw [if_neg]
    omega
  have hh : (winHead p half).val / 4 = half.val := by unfold winHead; dsimp only; omega
  unfold winS winScore
  rw [he, add_zero, hB, hg, hr, keyRow_eq b t j r k m hm]
  split_ifs with h
  · rw [sub_eq_add_neg, ← EReal.neg_mul]
    congr 1
    rw [← sum_mul_const _ _ (by rw [eighth_eq]; exact EReal.coe_nonneg.mpr (by norm_num)) (by rw [eighth_eq]; exact EReal.coe_ne_top _)]
    refine Finset.sum_congr rfl fun d _ => ?_
    rw [hq, hkv, mul_right_comm, mul_comm (z _ _)]
    simp only [hh]
    rfl
  · exact EReal.add_bot _

/-- A key slot that holds no token is masked. -/
theorem winS_bot (k : Fin 384) (h : ¬((r.val + 128) ≤ (winTok t j r).val + k.val ∧ (winTok t j r).val + k.val - (r.val + 128) < 8192)) :
    winS QA KV B (tileOf b t) j r p half k = ⊥ := by
  have he : edge (tileOf b t).val j k = ⊥ := by
    unfold winTok at h
    dsimp only at h
    unfold edge tileOf
    dsimp only
    rw [if_pos]
    omega
  unfold winS
  rw [he, EReal.add_bot]

include hq hkv hB in
/-- The windowed call's number is the plain mixer's. -/
theorem win_eq (hz : ∀ n (c : Fin 4352), LogitCol c.val → IsReal (z n c)) (hk : SNK (ix1 (winHead p half)) ≠ ⊤) (e : Fin 64) :
    winAt SNK QA KV B (tileOf b t) j r p ⟨64 * half.val + e.val, by omega⟩ =
      winOut z (SNK (ix1 (winHead p half))) (winHead p half) (winTok t j r) e := by
  have hh : (winHead p half).val / 4 = half.val := by unfold winHead; dsimp only; omega
  have real : ∀ m : Fin 8192, gap (winTok t j r).val m.val ≤ 128 → IsReal (winScore z (winHead p half) (winTok t j r) m) := fun m h => by
    unfold winScore
    rw [if_pos h]
    exact ((IsReal.sum fun d _ => (hz _ _ (by unfold LogitCol; dsimp only; omega)).mul (hz _ _ (by unfold LogitCol; dsimp only; omega))).mul ⟨_, eighth_eq⟩).sub ((penalty_real _).mul ⟨_, rfl⟩)
  have key : ∀ k, winS QA KV B (tileOf b t) j r p half k ≠ ⊥ →
      (r.val + 128) ≤ (winTok t j r).val + k.val ∧ (winTok t j r).val + k.val - (r.val + 128) < 8192 := fun k h => by
    by_contra h'
    exact h (winS_bot QA KV B b t j r p half k h')
  rw [winAt_eq]
  unfold sinkOut winOut
  refine sink_eq _ (winScore z (winHead p half) (winTok t j r))
    (fun k => ⟨min ((winTok t j r).val + k.val - (r.val + 128)) 8191, by omega⟩) (fun k h => ?_) (fun k k' h h' e => ?_) (fun m h => ?_) _ _
    (fun k h => ?_) _ hk (fun m => ?_) (winTok t j r) (real _ (by unfold gap; omega)).ne_bot
  · have := key k h
    exact winS_eq QA KV B z b hq hkv hB t j r p half k _ (by dsimp only; omega)
  · have := key k h
    have := key k' h'
    have e' := congrArg Fin.val e
    dsimp only at e'
    exact Fin.ext (by omega)
  · have hg : gap (winTok t j r).val m.val ≤ 128 := by
      by_contra hg
      exact h (by unfold winScore; rw [if_neg hg])
    have hr := r.isLt
    unfold gap at hg
    refine ⟨⟨m.val + (r.val + 128) - (winTok t j r).val, by omega⟩, ?_, Fin.ext (by dsimp only; omega)⟩
    exact winS_eq QA KV B z b hq hkv hB t j r p half _ _ (by dsimp only; omega)
  · have := key k h
    rw [keyRow_eq b t j r k ⟨min ((winTok t j r).val + k.val - (r.val + 128)) 8191, by omega⟩ (by dsimp only; omega), hkv]
    congr 1
    refine Fin.ext ?_
    dsimp only
    omega
  · by_cases hg : gap (winTok t j r).val m.val ≤ 128
    · exact (real m hg).ne_top
    · unfold winScore
      rw [if_neg hg]
      exact bot_ne_top

end Win

section Nbr

/-- The clipped column of a relative position, as a table's column. -/
def relCell (q kc : Fin 64) : Fin 31 := ⟨HostArrays.relAt q.val kc.val, by unfold HostArrays.relAt; omega⟩

/-- The row of a case's table that a strip's row reads. -/
def caseRow (cs kr : Fin 8) : Fin 15 := ⟨cs.val + kr.val, by omega⟩

open Cert.KernelIdeal.NbrAttn

/-- The queries are a sequence's projected rows, scaled. -/
def NbrQ (QB : Vec Ideal S65536x512 .bf16) (z : Fin 8192 → Fin 4352 → EReal) (b : Fin 8) : Prop :=
  ∀ (n : Fin 8192) (c : Fin 512), QB (ix2 (row b n) c) = z n ⟨768 + c.val, by omega⟩ * eighth

/-- The keys and values are a sequence's projected rows. -/
def NbrKV (KV : Vec Ideal S65536x1024 .bf16) (z : Fin 8192 → Fin 4352 → EReal) (b : Fin 8) : Prop :=
  ∀ (n : Fin 8192) (c : Fin 1024), KV (ix2 (row b n) c) = z n ⟨1280 + c.val, by omega⟩

/-- The cases' tables hold a head's biases inside a query's 16 columns, minus infinity outside. -/
def NbrB (B : Vec Ideal S8x8x64x512 .f32) (x : Fin 8 → Fin 15 → Fin 31 → EReal) : Prop :=
  ∀ (cs h : Fin 8) (q : Fin 64) (kr : Fin 8) (kc : Fin 64), B (ix4 cs h q ⟨64 * kr.val + kc.val, by omega⟩) =
    if col0 q.val ≤ kc.val ∧ kc.val < col0 q.val + 16 then x h (caseRow cs kr) (relCell q kc) else ⊥

variable (QB : Vec Ideal S65536x512 .bf16) (KV : Vec Ideal S65536x1024 .bf16) (B : Vec Ideal S8x8x64x512 .f32)

/-- The row of the flattened arrays that token `j` of the strip of query row `k` of tile `t` is. -/
def stripRow (t : Fin 128) (k : Fin 8) (j : Fin 512) : Fin 65536 :=
  ⟨wrow t.val + (64 * wstart (t.val % 16) k.val + j.val), by
    have hs : wstart (t.val % 16) k.val ≤ 8 := wstart_le ⟨t.val % 16, by omega⟩ k
    have hw : wrow t.val ≤ 64512 := by unfold wrow; omega
    omega⟩

/-- A score of the neighborhood call, before its softmax. -/
def nbrS (t : Fin 128) (k : Fin 8) (p : Fin 4) (r : Fin 64) (half : Fin 2) (j : Fin 512) : EReal :=
  (∑ d : Fin 64, QB (ix2 ⟨512 * t.val + (64 * k.val + r.val), by omega⟩ ⟨128 * p.val + (64 * half.val + d.val), by omega⟩)
      * KV (ix2 (stripRow t k j) ⟨128 * p.val + (64 * half.val + d.val), by omega⟩))
    + B (ix4 ⟨wcase (t.val % 16) k.val, wcase_lt ⟨t.val % 16, by omega⟩ k⟩ ⟨2 * p.val + half.val, by omega⟩ r j)

/-- A value of the neighborhood call is a softmax over the 512 tokens of its strip. -/
theorem nbrAt_eq (t : Fin 128) (k : Fin 8) (p : Fin 4) (r : Fin 64) (half : Fin 2) (e : Fin 64) :
    nbrAt QB KV B t k p r ⟨64 * half.val + e.val, by omega⟩ =
      softOut (nbrS QB KV B t k p r half)
        fun j => KV (ix2 (stripRow t k j) ⟨512 + (128 * p.val + (64 * half.val + e.val)), by omega⟩) := by
  have hl : (64 * half.val + e.val) / 64 = half.val := by omega
  unfold nbrAt nbrS stripRow
  simp only [hl]

variable (z : Fin 8192 → Fin 4352 → EReal) (x : Fin 8 → Fin 15 → Fin 31 → EReal) (b : Fin 8)
  (hq : NbrQ QB z b) (hkv : NbrKV KV z b) (hB : NbrB B x)
  (t : Fin 16) (k : Fin 8) (p : Fin 4) (r : Fin 64) (half : Fin 2)

/-- The token at column `r` of row `k` of tile `t`. -/
def nbrTok : Fin 8192 := ⟨512 * t.val + (64 * k.val + r.val), by omega⟩

/-- The head in half `half` of pair `p`. -/
def nbrHead : Fin 8 := ⟨2 * p.val + half.val, by omega⟩

/-- A strip's token that is neighbor `n` is in its row. -/
theorem stripRow_eq (j : Fin 512) (n : Fin 128) (h1 : n.val / 16 = j.val / 64) (h2 : col0 r.val + n.val % 16 = j.val % 64) :
    stripRow (tileOf b t) k j = row b ⟨tok (nbrTok t k r) n, tok_lt _ n⟩ := by
  have hd : (nbrTok t k r).val / 64 = 8 * t.val + k.val := by unfold nbrTok; dsimp only; omega
  have hm : (nbrTok t k r).val % 64 = r.val := by unfold nbrTok; dsimp only; omega
  have ht : (16 * b.val + t.val) % 16 = t.val := by omega
  have ht' : (16 * b.val + t.val) / 16 = b.val := by omega
  unfold stripRow row tok
  refine Fin.ext ?_
  dsimp only
  rw [hd, hm, h1, h2]
  unfold tileOf wrow wstart row0
  dsimp only
  rw [ht, ht']
  omega

include hq hkv hB in
/-- Its score is the plain one. -/
theorem nbrS_eq (j : Fin 512) (n : Fin 128) (h1 : n.val / 16 = j.val / 64) (h2 : col0 r.val + n.val % 16 = j.val % 64) :
    nbrS QB KV B (tileOf b t) k p r half j = nbrScore z x (nbrHead p half) (nbrTok t k r) n := by
  have hd : (nbrTok t k r).val / 64 = 8 * t.val + k.val := by unfold nbrTok; dsimp only; omega
  have hm : (nbrTok t k r).val % 64 = r.val := by unfold nbrTok; dsimp only; omega
  have hr : (⟨512 * (tileOf b t).val + (64 * k.val + r.val), by have := (tileOf b t).isLt; omega⟩ : Fin 65536) = row b (nbrTok t k r) := by
    unfold tileOf row nbrTok
    refine Fin.ext ?_
    dsimp only
    omega
  have hj : j = ⟨64 * (⟨j.val / 64, by omega⟩ : Fin 8).val + (⟨j.val % 64, by omega⟩ : Fin 64).val, by dsimp only; omega⟩ :=
    Fin.ext (by dsimp only; omega)
  have ht : (16 * b.val + t.val) % 16 = t.val := by omega
  unfold nbrS nbrScore
  congr 1
  · rw [← sum_mul_const _ _ (by rw [eighth_eq]; exact EReal.coe_nonneg.mpr (by norm_num)) (by rw [eighth_eq]; exact EReal.coe_ne_top _)]
    refine Finset.sum_congr rfl fun d _ => ?_
    rw [hr, stripRow_eq b t k r j n h1 h2, hq _ _, hkv _ _, mul_right_comm]
    congr 3 <;> refine Fin.ext ?_ <;> unfold nbrHead <;> dsimp only <;> omega
  · rw [hj, hB _ _ _ _ _, if_pos (by dsimp only; omega)]
    congr 1 <;> refine Fin.ext ?_
    · show wcase ((tileOf b t).val % 16) k.val + j.val / 64 = relRow (nbrTok t k r).val n.val
      unfold relRow
      rw [hd]
      unfold tileOf wcase row0
      dsimp only
      rw [ht, ← h1]
      omega
    · show HostArrays.relAt r.val (j.val % 64) = relCol (nbrTok t k r).val n.val
      unfold relCol HostArrays.relAt
      rw [hm]
      have := r.isLt
      unfold col0 at h2 ⊢
      omega

include hB in
/-- A strip's token outside the neighborhood's columns is masked. -/
theorem nbrS_bot (j : Fin 512) (h : ¬(col0 r.val ≤ j.val % 64 ∧ j.val % 64 < col0 r.val + 16)) :
    nbrS QB KV B (tileOf b t) k p r half j = ⊥ := by
  have hj : j = ⟨64 * (⟨j.val / 64, by omega⟩ : Fin 8).val + (⟨j.val % 64, by omega⟩ : Fin 64).val, by dsimp only; omega⟩ :=
    Fin.ext (by dsimp only; omega)
  unfold nbrS
  rw [hj, hB _ _ _ _ _, if_neg h, EReal.add_bot]

include hq hkv hB in
/-- The neighborhood call's number is the plain mixer's. -/
theorem nbr_eq (hz : ∀ n (c : Fin 4352), LogitCol c.val → IsReal (z n c)) (hx : ∀ h r q, IsReal (x h r q)) (e : Fin 64) :
    nbrAt QB KV B (tileOf b t) k p r ⟨64 * half.val + e.val, by omega⟩ = nbrOut z x (nbrHead p half) (nbrTok t k r) e := by
  have real : ∀ n, IsReal (nbrScore z x (nbrHead p half) (nbrTok t k r) n) := fun n =>
    ((IsReal.sum fun d _ => (hz _ _ (by unfold LogitCol; dsimp only; omega)).mul (hz _ _ (by unfold LogitCol; dsimp only; omega))).mul ⟨_, eighth_eq⟩).add (hx _ _ _)
  have key : ∀ j, nbrS QB KV B (tileOf b t) k p r half j ≠ ⊥ → col0 r.val ≤ j.val % 64 ∧ j.val % 64 < col0 r.val + 16 := fun j h => by
    by_contra h'
    exact h (nbrS_bot QB KV B x b hB t k p r half j h')
  have hc : col0 r.val ≤ 48 := by unfold col0; omega
  rw [nbrAt_eq]
  unfold softOut nbrOut
  refine soft_eq _ (nbrScore z x (nbrHead p half) (nbrTok t k r))
    (fun j => ⟨16 * (j.val / 64) + min (j.val % 64 - col0 r.val) 15, by omega⟩) (fun j h => ?_) (fun j j' h h' e => ?_) (fun n h => ?_) _ _
    (fun j h => ?_) (fun n => (real n).ne_top) 0 (real 0).ne_bot
  · have := key j h
    exact nbrS_eq QB KV B z x b hq hkv hB t k p r half j _ (by dsimp only; omega) (by dsimp only; omega)
  · have := key j h
    have := key j' h'
    have e' := congrArg Fin.val e
    dsimp only at e'
    exact Fin.ext (by omega)
  · refine ⟨⟨64 * (n.val / 16) + (col0 r.val + n.val % 16), by omega⟩, ?_, Fin.ext (by dsimp only; omega)⟩
    exact nbrS_eq QB KV B z x b hq hkv hB t k p r half _ _ (by dsimp only; omega) (by dsimp only; omega)
  · have := key j h
    rw [stripRow_eq b t k r j ⟨16 * (j.val / 64) + min (j.val % 64 - col0 r.val) 15, by omega⟩ (by dsimp only; omega) (by dsimp only; omega), hkv _ _]
    congr 1
    refine Fin.ext ?_
    unfold nbrHead
    dsimp only
    omega

end Nbr

end Cert.KernelIdeal.Mix
-- ==== Proof.InProj.lean ====
/- The first call (`in_proj`), one block of 512 tokens: each row is normalised and taken through the columns of the input
   weight, the last 2048 columns of which pass a biased logistic. -/
module

public import proofs.«01_k».proof.Proof.Gen.KernelIdeal.Frame
public import Idealize.ShloMosaic.Lib.Pointwise
public import Idealize.ShloMosaic.Lib.Pipeline.ValueKit
public import proofs.«01_k».proof.Proof.Layer

@[expose] public section

set_option maxRecDepth 16384

noncomputable section

namespace Cert.KernelIdeal.InProj

open Idealize.ShloMosaic Idealize.ShloMosaic.TcCoe Idealize.SL.Sem
open Idealize.ShloMosaic.Pipeline (Dat)
open Cert.KernelIdeal Cert.KernelIdeal.Gen Cert.Layer

/-- The offset of a whole block is zero on each axis. -/
theorem hz2 : (![0, 0] : Fin 2 → Nat) = fun _ => 0 := funext fun a => by fin_cases a <;> rfl

variable (x0 : Vec Ideal S512x1024 .f32) (x1 : Vec Ideal S1x1024 .f32) (x2 : Vec Ideal S1024x4352 .bf16)
  (x3 : Vec Ideal S1x2048 .f32) (r : Fin 512)

/-- Token `r` of the block, normalised. -/
def row : Fin 1024 → EReal := rms (fun k => x0 (ix2 r k)) fun k => x1 (ix2 0 k)

/-- Columns `o` on of the product of token `r`, normalised, and the weights. -/
def part (o : Nat) {n : Nat} (h : o + n ≤ 4352) : Fin n → EReal :=
  rowMul (row x0 x1 r) fun k (j : Fin n) => x2 (ix2 k ⟨o + j.val, by omega⟩)

/-- The four blocks of products: the windowed queries, the windowed keys and values, the neighborhood queries, the neighborhood
keys and values. -/
theorem parts_apply : (∀ j : Fin 512, out0_4 x0 x1 x2 x3 (ix2 r j) = part x0 x1 x2 r 0 (by omega) j)
    ∧ (∀ j : Fin 256, out0_5 x0 x1 x2 x3 (ix2 r j) = part x0 x1 x2 r 512 (by omega) j)
    ∧ (∀ j : Fin 512, out0_6 x0 x1 x2 x3 (ix2 r j) = part x0 x1 x2 r 768 (by omega) j)
    ∧ ∀ j : Fin 1024, out0_7 x0 x1 x2 x3 (ix2 r j) = part x0 x1 x2 r 1280 (by omega) j := by
  refine ⟨fun j => ?_, fun j => ?_, fun j => ?_, fun j => ?_⟩ <;>
    first | unfold out0_4 | unfold out0_5 | unfold out0_6 | unfold out0_7
  all_goals
    rw [View.canon_unit_zero hz2]
    unfold part rowMul row rms
    pointwise [k0_pay3, k0_pay4, k0_pay5, k0_pay6, k0_pay10, k0_pay2]

/-- The gate of feature `j` of token `r`. -/
def gate (j : Fin 2048) : EReal :=
  Ideal.logistic (part x0 x1 x2 r 2304 (by omega) j + x3 (ix2 0 j))

/-- The block of gates: the logistic of columns 2304 to 4351 plus the bias. -/
theorem out8_apply (j : Fin 2048) : out0_8 x0 x1 x2 x3 (ix2 r j) = gate x0 x1 x2 x3 r j := by
  unfold out0_8
  canon_tiles x h
  all_goals
    unfold gate part rowMul row rms
    open_payloads
    pointwise
    have e0 : x 0 = r := Fin.ext h0.symm
    have e1 : (j : ℕ) = _ := h1
    rw [e0]
    refine congrArg Ideal.logistic (congrArg₂ (· + ·) (Finset.sum_congr rfl fun k _ => congrArg (_ * x2 ·) ?_) (congrArg x3 ?_)) <;>
      refine congrArg (ix2 _) (Fin.ext ?_) <;> simp only [] <;> omega

end Cert.KernelIdeal.InProj
-- ==== Proof.InProjArray.lean ====
/- The first call (`in_proj`): the five arrays its 128 grid points leave, each read at a token and a column. -/
module

public import proofs.«01_k».proof.Proof.InProj

@[expose] public section

set_option maxRecDepth 16384

noncomputable section

namespace Cert.KernelIdeal.InProj

open Idealize.ShloMosaic Idealize.ShloMosaic.TcCoe Idealize.SL.Sem
open Idealize.ShloMosaic.Pipeline (Dat)
open Cert.KernelIdeal Cert.KernelIdeal.Gen Cert.Layer

variable (V : (c : Dev nD) → (b : Ref sig .tc) → Buf (Elt Ideal) ((c : Thread nD τ).loc b))

/-- Every window's block index at every grid point: the token windows move with the point, the weights stay. -/
theorem idx : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0] ∧ win0_6.index t = ![t.val, 0]
    ∧ win0_7.index t = ![t.val, 0] ∧ win0_8.index t = ![t.val, 0] :=
  (by decide +kernel : ∀ t : Fin grid0.N, _)

/-- Token `r` of the array, normalised. -/
def xrow (X : Vec Ideal S65536x1024 .f32) (NM : Vec Ideal S1x1024 .f32) (r : Fin 65536) : Fin 1024 → EReal :=
  rms (fun k => X (ix2 r k)) fun k => NM (ix2 0 k)

/-- Column `j` of the product of normalised token `r` and the input weight. -/
def proj (X : Vec Ideal S65536x1024 .f32) (NM : Vec Ideal S1x1024 .f32) (W : Vec Ideal S1024x4352 .bf16) (r : Fin 65536)
    (j : Fin 4352) : EReal :=
  rowMul (xrow X NM r) (fun k (j : Fin 4352) => W (ix2 k j)) j

/-- The row of the arrays that row `r` of block `t` is. -/
abbrev rowAt (t : Fin cfg0.N) (r : Fin 512) : Fin 65536 := ⟨t.val * 512 + r.val, by have : t.val < 128 := t.isLt; omega⟩

/-- Step `t` reads its 512 tokens, and all the weights and biases. -/
theorem reads (c : Dev nD) (t : Fin cfg0.N) :
    (∀ (r : Fin 512) (j : Fin 1024), iblk0 V c 0 t (ix2 r j) = V c main_v30 (ix2 (rowAt t r) j))
      ∧ iblk0 V c 1 t = V c main_v49 ∧ iblk0 V c 2 t = V c main_v50 ∧ iblk0 V c 3 t = V c main_v52 := by
  refine ⟨fun r j => ?_, ?_⟩
  · blk_ext [iblk0, idx t]
  · refine ⟨?_, ?_, ?_⟩ <;> blk_ext! [iblk0, idx t]

/-- The columns from `o` on of the products, as an array `n` columns wide. -/
def cols (o n : Nat) (h : o + n ≤ 4352) (X : Vec Ideal S65536x1024 .f32) (NM : Vec Ideal S1x1024 .f32) (W : Vec Ideal S1024x4352 .bf16) :
    Vec Ideal ⟨2, ![65536, n]⟩ .bf16 := fun i =>
  proj X NM W (i 0) ⟨o + (i 1).val, by have : (i 1).val < n := (i 1).isLt; omega⟩

/-- The windowed queries. -/
def arr4 : Vec Ideal S65536x1024 .f32 → Vec Ideal S1x1024 .f32 → Vec Ideal S1024x4352 .bf16 → Vec Ideal S65536x512 .bf16 :=
  cols 0 512 (by omega)

/-- The windowed keys and values. -/
def arr5 : Vec Ideal S65536x1024 .f32 → Vec Ideal S1x1024 .f32 → Vec Ideal S1024x4352 .bf16 → Vec Ideal S65536x256 .bf16 :=
  cols 512 256 (by omega)

/-- The neighborhood queries. -/
def arr6 : Vec Ideal S65536x1024 .f32 → Vec Ideal S1x1024 .f32 → Vec Ideal S1024x4352 .bf16 → Vec Ideal S65536x512 .bf16 :=
  cols 768 512 (by omega)

/-- The neighborhood keys and values. -/
def arr7 : Vec Ideal S65536x1024 .f32 → Vec Ideal S1x1024 .f32 → Vec Ideal S1024x4352 .bf16 → Vec Ideal S65536x1024 .bf16 :=
  cols 1280 1024 (by omega)

/-- The gates: the last 2048 columns, each with its bias through the logistic. -/
def arr8 (X : Vec Ideal S65536x1024 .f32) (NM : Vec Ideal S1x1024 .f32) (W : Vec Ideal S1024x4352 .bf16) (B : Vec Ideal S1x2048 .f32) :
    Vec Ideal S65536x2048 .bf16 := fun i => Ideal.logistic (cols 2304 2048 (by omega) X NM W i + B (ix2 0 (i 1)))

/-- A row of a step's products is its row of the array's products. -/
theorem cols_block (c : Dev nD) (t : Fin cfg0.N) (r : Fin 512) (o n : Nat) (h : o + n ≤ 4352) (j : Fin n) :
    part (iblk0 V c 0 t) (iblk0 V c 1 t) (iblk0 V c 2 t) r o h j
      = cols o n h (V c main_v30) (V c main_v49) (V c main_v50) (ix2 (rowAt t r) j) := by
  unfold part row
  simp only [reads V c t]
  rfl

/-- A block that holds, row by row, an array's rows of step `t` holds the array where it is written. -/
theorem written {n : Nat} (t : Fin cfg0.N) {f : (⟨2, ![512, n]⟩ : Shape).Idx → EReal} {g : (⟨2, ![65536, n]⟩ : Shape).Idx → EReal}
    {e : (⟨2, ![512, n]⟩ : Shape).Idx → (⟨2, ![65536, n]⟩ : Shape).Idx} (he : ∀ r j, e (ix2 r j) = ix2 (rowAt t r) j)
    (hf : ∀ r j, f (ix2 r j) = g (ix2 (rowAt t r) j)) (y : (⟨2, ![512, n]⟩ : Shape).Idx) : f y = g (e y) := by
  obtain ⟨r, j, rfl⟩ : ∃ (r : Fin 512) (j : Fin n), y = ix2 r j := ⟨y 0, y 1, by idx_ext⟩
  rw [he, hf]

/-- The call leaves the windowed queries of all tokens. -/
theorem final4 (c : Dev nD) : (dat0 V c).arrAt 4 cfg0.N = arr4 (V c main_v30) (V c main_v49) (V c main_v50) := by
  refine (dat0 V c).arrAt_eq_of_covers 4 _ (by decide +kernel) fun t _ y => ?_
  blk_simp
  rw [after0_4]
  exact written t (fun r j => by blk_ext [idx t]) (fun r j => ((parts_apply _ _ _ _ r).1 j).trans (cols_block V c t r _ _ _ j)) y

/-- The call leaves the windowed keys and values of all tokens. -/
theorem final5 (c : Dev nD) : (dat0 V c).arrAt 5 cfg0.N = arr5 (V c main_v30) (V c main_v49) (V c main_v50) := by
  refine (dat0 V c).arrAt_eq_of_covers 5 _ (by decide +kernel) fun t _ y => ?_
  blk_simp
  rw [after0_5]
  exact written t (fun r j => by blk_ext [idx t]) (fun r j => ((parts_apply _ _ _ _ r).2.1 j).trans (cols_block V c t r _ _ _ j)) y

/-- The call leaves the neighborhood queries of all tokens. -/
theorem final6 (c : Dev nD) : (dat0 V c).arrAt 6 cfg0.N = arr6 (V c main_v30) (V c main_v49) (V c main_v50) := by
  refine (dat0 V c).arrAt_eq_of_covers 6 _ (by decide +kernel) fun t _ y => ?_
  blk_simp
  rw [after0_6]
  exact written t (fun r j => by blk_ext [idx t]) (fun r j => ((parts_apply _ _ _ _ r).2.2.1 j).trans (cols_block V c t r _ _ _ j)) y

/-- The call leaves the neighborhood keys and values of all tokens. -/
theorem final7 (c : Dev nD) : (dat0 V c).arrAt 7 cfg0.N = arr7 (V c main_v30) (V c main_v49) (V c main_v50) := by
  refine (dat0 V c).arrAt_eq_of_covers 7 _ (by decide +kernel) fun t _ y => ?_
  blk_simp
  rw [after0_7]
  exact written t (fun r j => by blk_ext [idx t]) (fun r j => ((parts_apply _ _ _ _ r).2.2.2 j).trans (cols_block V c t r _ _ _ j)) y

/-- The call leaves the gates of all tokens. -/
theorem final8 (c : Dev nD) : (dat0 V c).arrAt 8 cfg0.N = arr8 (V c main_v30) (V c main_v49) (V c main_v50) (V c main_v52) := by
  refine (dat0 V c).arrAt_eq_of_covers 8 _ (by decide +kernel) fun t _ y => ?_
  blk_simp
  rw [after0_8]
  refine written t (fun r j => by blk_ext [idx t]) (fun r j => (out8_apply _ _ _ _ r j).trans ?_) y
  exact congrArg Ideal.logistic (congrArg₂ (· + ·) (cols_block V c t r _ _ _ j) (congrFun (reads V c t).2.2.2 _))

end Cert.KernelIdeal.InProj
-- ==== Proof.HostValues.lean ====
/- What the kernel's calls find in their buffers: each buffer the host code fills is the plain function of the arguments
   that `HostArrays` states. -/
module

public import proofs.«01_k».proof.Proof.HostArrays

@[expose] public section

set_option maxRecDepth 16384

noncomputable section

namespace Cert.KernelIdeal.HostValues

open Idealize.ShloMosaic Idealize.ShloMosaic.TcCoe Idealize.SL.Sem
open Cert.KernelIdeal Cert.KernelIdeal.Gen Cert.KernelIdeal.HostArrays

/-- Argument 7 as the last call reads it. -/
def wB (x : FVec Ideal S1x512x1024 .f32) : FVec Ideal S512x1024 .bf16 :=
  truncf .bf16 (shapeCast S512x1024 x shapeCasts_S1x512x1024_S512x1024) bitsLt_bf16_f32

/-- Argument 8 as the last call reads it. -/
def wO (x : FVec Ideal S1x1024x1024 .f32) : FVec Ideal S1024x1024 .bf16 :=
  truncf .bf16 (shapeCast S1024x1024 x shapeCasts_S1x1024x1024_S1024x1024) bitsLt_bf16_f32

/-- Argument 10 as the last call reads it. -/
def wUp (x : FVec Ideal S1x1024x4096 .f32) : FVec Ideal S1024x4096 .bf16 :=
  truncf .bf16 (shapeCast S1024x4096 x shapeCasts_S1x1024x4096_S1024x4096) bitsLt_bf16_f32

/-- Argument 11 as the last call reads it. -/
def wDown (x : FVec Ideal S1x4096x1024 .f32) : FVec Ideal S4096x1024 .bf16 :=
  truncf .bf16 (shapeCast S4096x1024 x shapeCasts_S1x4096x1024_S4096x1024) bitsLt_bf16_f32

variable (m : (ℓ : Loc nD τ sig) → Buf (Elt Ideal) ℓ) (ρ : Dev nD → PrngReg) (c : Dev nD)

/-- The packed weights the first call reads. -/
theorem v50 : V3 m ρ c main_v50 = wAll (m ((c : Thread nD τ).loc main_arg2)) := by
  unfold V3 W3
  after_results
  rfl

/-- The bias table the windowed call reads. -/
theorem v29 : V3 m ρ c main_v29 = winBias := by
  show W3 m ρ c main_v29 = _
  rw [W3_of m ρ c main_v29 (by decide)]
  unfold W2
  after_results
  rfl

/-- The tokens as one list, which the first call reads. -/
theorem v30 : V3 m ρ c main_v30 = shapeCast S65536x1024 (m ((c : Thread nD τ).loc main_arg0)) shapeCasts_S8x8192x1024_S65536x1024 := by
  unfold V3 W3
  after_results
  rfl

/-- The weights of the first normalisation, as a row. -/
theorem v49 : V3 m ρ c main_v49 = broadcastInDim S1x1024 ![1] bcast_S1024_S1x1024_1
    (shapeCast S1024 (m ((c : Thread nD τ).loc main_arg1)) shapeCasts_S1x1024_S1024) := by
  unfold V3 W3
  after_results
  rfl

/-- The biases of the gates, as a row. -/
theorem v52 : V3 m ρ c main_v52 = broadcastInDim S1x2048 ![1] bcast_S2048_S1x2048_1
    (shapeCast S2048 (m ((c : Thread nD τ).loc main_arg3)) shapeCasts_S1x2048_S2048) := by
  unfold V3 W3
  after_results
  rfl

/-- The sinks, as a list. -/
theorem v54 : V5 m ρ c main_v54 = shapeCast S8 (m ((c : Thread nD τ).loc main_arg4)) shapeCasts_S1x8_S8 := by
  unfold V5 W5
  after_results
  rw [W4_args m ρ c main_arg4 (by decide)]
  rfl

set_option maxHeartbeats 1600000 in
/-- The table of the relative positions. -/
theorem v87 : W12 m ρ c main_v87 = relTable (m ((c : Thread nD τ).loc main_arg5)) := by
  rw [← W6_args m ρ c main_arg5 (by decide)]
  unfold W12
  after_results
  rfl

set_option maxHeartbeats 1600000 in
/-- The table the neighborhood call reads. -/
theorem v106 : V13 m ρ c main_v106 = cases (relTable (m ((c : Thread nD τ).loc main_arg5))) := by
  rw [← v87 m ρ c]
  unfold V13 W13
  generalize W12 m ρ c = w
  after_results
  rfl

/-- The head order's constant, as the last host list finds it. -/
theorem w14_c : W14 m ρ c main_c = headOrder := by
  rw [W14_of m ρ c main_c (by decide), W13_of m ρ c main_c (by decide), W12_of m ρ c main_c (by decide),
    W11_of m ρ c main_c (by decide), W10_of m ρ c main_c (by decide), W9_of m ρ c main_c (by decide),
    W8_of m ρ c main_c (by decide), W7_of m ρ c main_c (by decide), W6_of m ρ c main_c (by decide),
    W5_of m ρ c main_c (by decide), W4_of m ρ c main_c (by decide), W3_of m ρ c main_c (by decide),
    W2_of m ρ c main_c (by decide)]
  unfold W1
  after_results
  rfl

/-- The windowed output weights, in the order of the heads. -/
theorem v116 : V15 m ρ c main_v116 = wA (m ((c : Thread nD τ).loc main_arg6)) := by
  rw [← W14_args m ρ c main_arg6 (by decide)]
  have h := w14_c m ρ c
  unfold V15 W15
  after_results
  rw [h]
  rfl

/-- The neighborhood output weights. -/
theorem v118 : V15 m ρ c main_v118 =
    wB (m ((c : Thread nD τ).loc main_arg7)) := by
  rw [← W14_args m ρ c main_arg7 (by decide)]
  unfold V15 W15
  after_results
  rfl

/-- The weights of the merge. -/
theorem v120 : V15 m ρ c main_v120 =
    wO (m ((c : Thread nD τ).loc main_arg8)) := by
  rw [← W14_args m ρ c main_arg8 (by decide)]
  unfold V15 W15
  after_results
  rfl

/-- The weights of the second normalisation, as a row. -/
theorem v122 : V15 m ρ c main_v122 = broadcastInDim S1x1024 ![1] bcast_S1024_S1x1024_1
    (shapeCast S1024 (m ((c : Thread nD τ).loc main_arg9)) shapeCasts_S1x1024_S1024) := by
  rw [← W14_args m ρ c main_arg9 (by decide)]
  unfold V15 W15
  after_results
  rfl

/-- The first matrix of the network. -/
theorem v124 : V15 m ρ c main_v124 =
    wUp (m ((c : Thread nD τ).loc main_arg10)) := by
  rw [← W14_args m ρ c main_arg10 (by decide)]
  unfold V15 W15
  after_results
  rfl

/-- The second matrix of the network. -/
theorem v126 : V15 m ρ c main_v126 =
    wDown (m ((c : Thread nD τ).loc main_arg11)) := by
  rw [← W14_args m ρ c main_arg11 (by decide)]
  unfold V15 W15
  after_results
  rfl

/-- The weights of the last normalisation, as a row. -/
theorem v127 : V15 m ρ c main_v127 = broadcastInDim S1x1024 ![1] bcast_S1024_S1x1024_1
    (m ((c : Thread nD τ).loc main_arg12)) := by
  rw [← W14_args m ρ c main_arg12 (by decide)]
  unfold V15 W15
  after_results

end Cert.KernelIdeal.HostValues
-- ==== Proof.KernelArrays.lean ====
/- The kernel's buffers after each call, over the arguments: the projections' columns, the mixers' rows, and the last call's
   inputs, in the plain words of `Layer` and `Mixers`. -/
module

public import proofs.«01_k».proof.Proof.KernelMix
public import proofs.«01_k».proof.Proof.InProjArray
public import proofs.«01_k».proof.Proof.HostValues

@[expose] public section

set_option maxRecDepth 16384

noncomputable section

namespace Cert.KernelIdeal.Mix

open Idealize.ShloMosaic Idealize.ShloMosaic.TcCoe Idealize.SL.Sem
open Cert.KernelIdeal Cert.KernelIdeal.Gen Cert.Layer Cert.KernelIdeal.HostArrays Cert.KernelIdeal.HostValues

variable (x0 : FVec Ideal S8x8192x1024 .f32) (x1 : FVec Ideal S1x1024 .f32) (x2 : FVec Ideal S1x1024x4352 .f32)
  (x3 : FVec Ideal S1x2048 .f32) (x4 : FVec Ideal S1x8 .f32) (x5 : FVec Ideal S1x8x15x31 .f32)

/-- The projected rows of sequence `b`. -/
def zOf (b : Fin 8) (n : Fin 8192) (c : Fin 4352) : EReal :=
  zrow (fun k => x0 (ix3 b n k)) (fun k => x1 (ix2 0 k)) (fun k c => x2 (ix3 0 k c)) c

/-- The tokens, flattened. -/
def flat : FVec Ideal S65536x1024 .f32 := shapeCast S65536x1024 x0 shapeCasts_S8x8192x1024_S65536x1024

/-- A row of weights as a call reads it. -/
def weightRow : FVec Ideal S1x1024 .f32 :=
  broadcastInDim S1x1024 ![1] bcast_S1024_S1x1024_1 (shapeCast S1024 x1 shapeCasts_S1x1024_S1024)

/-- The gates' biases as a call reads them. -/
def gateRow : FVec Ideal S1x2048 .f32 :=
  broadcastInDim S1x2048 ![1] bcast_S2048_S1x2048_1 (shapeCast S2048 x3 shapeCasts_S1x2048_S2048)

/-- Row `row b n` of the list is token `n` of sequence `b`. -/
theorem flat_apply (b : Fin 8) (n : Fin 8192) (k : Fin 1024) : flat x0 (ix2 (row b n) k) = x0 (ix3 b n k) := by
  unfold flat row
  pointwise []

/-- The row of weights holds the weights. -/
theorem weightRow_apply (k : Fin 1024) : weightRow x1 (ix2 0 k) = x1 (ix2 0 k) := by
  unfold weightRow
  pointwise []

/-- The row of biases holds the biases. -/
theorem gateRow_apply (k : Fin 2048) : gateRow x3 (ix2 0 k) = x3 (ix2 0 k) := by
  unfold gateRow
  pointwise []

/-- The normalised token. -/
def hOf (b : Fin 8) (n : Fin 8192) : Fin 1024 → EReal := rms (fun k => x0 (ix3 b n k)) (fun k => x1 (ix2 0 k))

/-- A row of the list, normalised, is the normalised token. -/
theorem xrow_eq (b : Fin 8) (n : Fin 8192) : InProj.xrow (flat x0) (weightRow x1) (row b n) = hOf x0 x1 b n := by
  unfold InProj.xrow hOf
  simp only [flat_apply, weightRow_apply]

/-- A product with the kernel's weights, read off the reference's. -/
theorem proj_eq (b : Fin 8) (n : Fin 8192) (j c : Fin 4352) (h : ∀ k, wAll x2 (ix2 k j) = x2 (ix3 0 k c)) :
    InProj.proj (flat x0) (weightRow x1) (wAll x2) (row b n) j = zOf x0 x1 x2 b n c := by
  unfold InProj.proj zOf zrow
  rw [xrow_eq]
  unfold rowMul hOf
  exact Finset.sum_congr rfl fun k _ => congrArg (_ * ·) (h k)

/-- The same where the kernel's weights carry the score's scale. -/
theorem proj_eighth (b : Fin 8) (n : Fin 8192) (j c : Fin 4352) (h : ∀ k, wAll x2 (ix2 k j) = x2 (ix3 0 k c) * eighth) :
    InProj.proj (flat x0) (weightRow x1) (wAll x2) (row b n) j = zOf x0 x1 x2 b n c * eighth := by
  unfold InProj.proj zOf zrow
  rw [xrow_eq]
  unfold rowMul hOf
  rw [← sum_mul_const _ _ (by rw [eighth_eq]; exact EReal.coe_nonneg.mpr (by norm_num)) (by rw [eighth_eq]; exact EReal.coe_ne_top _)]
  exact Finset.sum_congr rfl fun k _ => (congrArg (_ * ·) (h k)).trans (mul_assoc _ _ _).symm

/-- The windowed queries are the projection of head `p + 4 * half`, scaled by 1/8. -/
theorem arr4_apply (b : Fin 8) (n : Fin 8192) (p : Fin 4) (half : Fin 2) (d : Fin 64) :
    InProj.arr4 (flat x0) (weightRow x1) (wAll x2) (ix2 (row b n) ⟨128 * p.val + (64 * half.val + d.val), by omega⟩) =
      zOf x0 x1 x2 b n ⟨64 * (p.val + 4 * half.val) + d.val, by omega⟩ * eighth := by
  refine proj_eighth x0 x1 x2 b n ⟨0 + (128 * p.val + (64 * half.val + d.val)), by omega⟩ ⟨64 * (p.val + 4 * half.val) + d.val, by omega⟩
    fun k => ?_
  have h := wAll_query x2 k ⟨2 * p.val + half.val, by omega⟩ d
  refine Eq.trans ?_ (h.trans ?_)
  · congr 2
    refine Fin.ext ?_
    dsimp only
    omega
  · congr 3
    refine Fin.ext ?_
    unfold headAt
    dsimp only
    omega

/-- The windowed keys and values are the projection. -/
theorem arr5_apply (b : Fin 8) (n : Fin 8192) (j : Fin 256) :
    InProj.arr5 (flat x0) (weightRow x1) (wAll x2) (ix2 (row b n) j) = zOf x0 x1 x2 b n ⟨512 + j.val, by omega⟩ :=
  proj_eq x0 x1 x2 b n _ _ fun k => wAll_keys x2 k j

/-- The neighborhood queries are the projection, scaled by 1/8. -/
theorem arr6_apply (b : Fin 8) (n : Fin 8192) (j : Fin 512) :
    InProj.arr6 (flat x0) (weightRow x1) (wAll x2) (ix2 (row b n) j) = zOf x0 x1 x2 b n ⟨768 + j.val, by omega⟩ * eighth :=
  proj_eighth x0 x1 x2 b n _ _ fun k => wAll_nquery x2 k j

/-- The neighborhood keys and values are the projection. -/
theorem arr7_apply (b : Fin 8) (n : Fin 8192) (j : Fin 1024) :
    InProj.arr7 (flat x0) (weightRow x1) (wAll x2) (ix2 (row b n) j) = zOf x0 x1 x2 b n ⟨1280 + j.val, by omega⟩ :=
  proj_eq x0 x1 x2 b n _ _ fun k => wAll_rest x2 k ⟨j.val, by omega⟩

/-- The gates are the logistic of the projection plus the bias. -/
theorem arr8_apply (b : Fin 8) (n : Fin 8192) (j : Fin 2048) :
    InProj.arr8 (flat x0) (weightRow x1) (wAll x2) (gateRow x3) (ix2 (row b n) j) =
      Ideal.logistic (zOf x0 x1 x2 b n ⟨2304 + j.val, by omega⟩ + x3 (ix2 0 j)) := by
  have h : InProj.proj (flat x0) (weightRow x1) (wAll x2) (row b n) ⟨2304 + j.val, by omega⟩ = zOf x0 x1 x2 b n ⟨2304 + j.val, by omega⟩ :=
    proj_eq x0 x1 x2 b n _ _ fun k => by
      have h := wAll_rest x2 k ⟨1024 + j.val, by omega⟩
      rw [show (⟨2304 + j.val, by omega⟩ : Fin 4352) = ⟨1280 + (⟨1024 + j.val, by omega⟩ : Fin 3072).val, by dsimp only; omega⟩ from
        Fin.ext (by dsimp only; omega)]
      exact h
  show Ideal.logistic (InProj.proj (flat x0) (weightRow x1) (wAll x2) (row b n) ⟨2304 + j.val, by omega⟩ + gateRow x3 (ix2 0 j)) = _
  rw [h, gateRow_apply]

/-- The sinks as the windowed call reads them. -/
def sinks : FVec Ideal S8 .f32 := shapeCast S8 x4 shapeCasts_S1x8_S8

/-- The list of sinks holds the sinks. -/
theorem sinks_apply (h : Fin 8) : sinks x4 (ix1 h) = x4 (ix2 0 h) := by
  unfold sinks
  pointwise []

variable (h1 : ∀ k, IsReal (x1 (ix2 0 k))) (h2 : ∀ k (c : Fin 4352), LogitCol c.val → IsReal (x2 (ix3 0 k c)))

include h1 h2 in
/-- The windowed call's array. -/
theorem win_apply (h4 : ∀ h, x4 (ix2 0 h) ≠ ⊤) (b : Fin 8) (n : Fin 8192) (g : Fin 8) (e : Fin 64) :
    WinAttn.winArr (sinks x4) (InProj.arr4 (flat x0) (weightRow x1) (wAll x2)) (InProj.arr5 (flat x0) (weightRow x1) (wAll x2)) winBias
        (ix2 (row b n) ⟨64 * g.val + e.val, by omega⟩) =
      winOut (zOf x0 x1 x2 b) (x4 (ix2 0 (headAt g))) (headAt g) n e := by
  have hn : winTok ⟨n.val / 512, by omega⟩ ⟨n.val / 128 % 4, by omega⟩ ⟨n.val % 128, by omega⟩ = n := by
    unfold winTok
    exact Fin.ext (by dsimp only; omega)
  refine (WinAttn.winRow_eq _ _ _ _ (tileOf b ⟨n.val / 512, by omega⟩) ⟨n.val / 128 % 4, by omega⟩ ⟨n.val % 128, by omega⟩
    ⟨g.val / 2, by omega⟩ ⟨64 * (g.val % 2) + e.val, by omega⟩ _ _ ?_ ?_).trans ?_
  · unfold tileOf row
    show 8192 * b.val + n.val = 512 * (16 * b.val + n.val / 512) + (128 * (n.val / 128 % 4) + n.val % 128)
    omega
  · show 64 * g.val + e.val = 128 * (g.val / 2) + (64 * (g.val % 2) + e.val)
    omega
  · have h := win_eq (sinks x4) (InProj.arr4 (flat x0) (weightRow x1) (wAll x2)) (InProj.arr5 (flat x0) (weightRow x1) (wAll x2)) winBias
      (zOf x0 x1 x2 b) b (arr4_apply x0 x1 x2 b) (arr5_apply x0 x1 x2 b) winBias_apply
      ⟨n.val / 512, by omega⟩ ⟨n.val / 128 % 4, by omega⟩ ⟨n.val % 128, by omega⟩ ⟨g.val / 2, by omega⟩ ⟨g.val % 2, by omega⟩
      (fun n c hc => zrow_real _ _ _ h1 c fun k => h2 k c hc) (by rw [sinks_apply]; exact h4 _) e
    rw [sinks_apply, hn] at h
    exact h

include h1 h2 in
/-- The neighborhood call's array. -/
theorem nbr_apply (h5 : ∀ h r q, IsReal (x5 (ix4 0 h r q))) (b : Fin 8) (n : Fin 8192) (h : Fin 8) (e : Fin 64) :
    NbrAttn.nbrArr (InProj.arr6 (flat x0) (weightRow x1) (wAll x2)) (InProj.arr7 (flat x0) (weightRow x1) (wAll x2)) (cases (relTable x5))
        (ix2 (row b n) ⟨64 * h.val + e.val, by omega⟩) =
      nbrOut (zOf x0 x1 x2 b) (fun h r q => x5 (ix4 0 h r q)) h n e := by
  have hn : nbrTok ⟨n.val / 512, by omega⟩ ⟨n.val / 64 % 8, by omega⟩ ⟨n.val % 64, by omega⟩ = n := by
    unfold nbrTok
    exact Fin.ext (by dsimp only; omega)
  have hh : nbrHead ⟨h.val / 2, by omega⟩ ⟨h.val % 2, by omega⟩ = h := by
    unfold nbrHead
    exact Fin.ext (by dsimp only; omega)
  refine (NbrAttn.nbrRow_eq _ _ _ (tileOf b ⟨n.val / 512, by omega⟩) ⟨n.val / 64 % 8, by omega⟩ ⟨h.val / 2, by omega⟩
    ⟨n.val % 64, by omega⟩ ⟨64 * (h.val % 2) + e.val, by omega⟩ _ _ ?_ ?_).trans ?_
  · unfold tileOf row
    show 8192 * b.val + n.val = 512 * (16 * b.val + n.val / 512) + (64 * (n.val / 64 % 8) + n.val % 64)
    omega
  · show 64 * h.val + e.val = 128 * (h.val / 2) + (64 * (h.val % 2) + e.val)
    omega
  · have h := nbr_eq (InProj.arr6 (flat x0) (weightRow x1) (wAll x2)) (InProj.arr7 (flat x0) (weightRow x1) (wAll x2)) (cases (relTable x5))
      (zOf x0 x1 x2 b) (fun h r q => x5 (ix4 0 h r q)) b (arr6_apply x0 x1 x2 b) (arr7_apply x0 x1 x2 b)
      (fun cs h q kr kc => by rw [cases_apply, relTable_apply]; rfl)
      ⟨n.val / 512, by omega⟩ ⟨n.val / 64 % 8, by omega⟩ ⟨h.val / 2, by omega⟩ ⟨n.val % 64, by omega⟩ ⟨h.val % 2, by omega⟩
      (fun n c hc => zrow_real _ _ _ h1 c fun k => h2 k c hc) h5 e
    rw [hn, hh] at h
    exact h

end Cert.KernelIdeal.Mix
-- ==== Proof.OutMlpRow.lean ====
/- The fourth call (`out_mlp`), one block of 512 tokens: each payload of the body read at a token and a feature, in the plain
   words of `Layer`. -/
module

public import proofs.«01_k».proof.Proof.Gen.KernelIdeal.Skeleton
public import proofs.«01_k».proof.Proof.Layer

@[expose] public section

set_option maxRecDepth 16384

noncomputable section

namespace Cert.KernelIdeal.OutMlp

open Idealize.ShloMosaic Idealize.ShloMosaic.TcCoe Idealize.SL.Sem
open Cert.KernelIdeal Cert.KernelIdeal.Gen Cert.Layer

/-- The part of the network one chunk of 512 hidden columns adds. -/
def chunk (h : Fin 1024 → EReal) (wu : Fin 1024 → Fin 512 → EReal) (wd : Fin 512 → Fin 1024 → EReal) (j : Fin 1024) : EReal :=
  ∑ f, sqRelu (rowMul h wu f) * wd f j

/-- The residual row after the mixers. -/
theorem pay2_apply (a : Vec Ideal S512x512 .bf16) (wa : Vec Ideal S512x1024 .bf16) (b : Vec Ideal S512x512 .bf16)
    (wb : Vec Ideal S512x1024 .bf16) (ga gb : Vec Ideal S512x1024 .bf16) (x : Vec Ideal S512x1024 .f32)
    (wo : Vec Ideal S1024x1024 .bf16) (r : Fin 512) (j : Fin 1024) :
    k3_pay2 (F := Ideal) a wa b wb ga gb x wo (ix2 r j)
      = afterMix (fun j => x (ix2 r j)) (fun j => ga (ix2 r j)) (fun j => gb (ix2 r j))
          (rowMul (fun k => a (ix2 r k)) fun k j => wa (ix2 k j)) (rowMul (fun k => b (ix2 r k)) fun k j => wb (ix2 k j))
          (fun k j => wo (ix2 k j)) j := by
  unfold afterMix rowMul merged
  pointwise [k3_pay2]

/-- Its mean square. -/
theorem pay4_apply (a : Vec Ideal S512x512 .bf16) (wa : Vec Ideal S512x1024 .bf16) (b : Vec Ideal S512x512 .bf16)
    (wb : Vec Ideal S512x1024 .bf16) (ga gb : Vec Ideal S512x1024 .bf16) (x : Vec Ideal S512x1024 .f32)
    (wo : Vec Ideal S1024x1024 .bf16) (r : Fin 512) :
    k3_pay4 (F := Ideal) a wa b wb ga gb x wo (ix2 r 0)
      = Ideal.div (∑ k : Fin 1024, k3_pay2 (F := Ideal) a wa b wb ga gb x wo (ix2 r k) * k3_pay2 (F := Ideal) a wa b wb ga gb x wo (ix2 r k))
          (Ideal.ofBits .f32 0x44800000#32) + Ideal.ofBits .f32 0x358637BD#32 := by
  pointwise [k3_pay4]

/-- The normalised row. -/
theorem pay5_apply (x1 : FVec Ideal S512x1024 .f32) (g : FVec Ideal S1x1024 .f32) (v : FVec Ideal S512x1 .f32) (r : Fin 512) (j : Fin 1024) :
    k3_pay5 (F := Ideal) x1 g v (ix2 r j)
      = x1 (ix2 r j) * Ideal.rsqrt (v (ix2 r 0)) * g (ix2 0 j) := by
  pointwise [k3_pay5]

/-- The first three chunks, on top of the residual. -/
theorem pay6_apply (x1 : FVec Ideal S512x1024 .f32) (g : FVec Ideal S1x1024 .f32) (v : FVec Ideal S512x1 .f32)
    (u0 : Vec Ideal S1024x512 .bf16) (d0 : Vec Ideal S512x1024 .bf16) (u1 : Vec Ideal S1024x512 .bf16) (d1 : Vec Ideal S512x1024 .bf16)
    (u2 : Vec Ideal S1024x512 .bf16) (d2 : Vec Ideal S512x1024 .bf16) (r : Fin 512) (j : Fin 1024) :
    k3_pay6 (F := Ideal) x1 g v u0 d0 u1 d1 u2 d2 (ix2 r j)
      = x1 (ix2 r j) + chunk (fun k => k3_pay5 (F := Ideal) x1 g v (ix2 r k)) (fun k f => u0 (ix2 k f)) (fun f j => d0 (ix2 f j)) j
          + chunk (fun k => k3_pay5 (F := Ideal) x1 g v (ix2 r k)) (fun k f => u1 (ix2 k f)) (fun f j => d1 (ix2 f j)) j
          + chunk (fun k => k3_pay5 (F := Ideal) x1 g v (ix2 r k)) (fun k f => u2 (ix2 k f)) (fun f j => d2 (ix2 f j)) j := by
  unfold chunk sqRelu rowMul
  pointwise [k3_pay6]

/-- The next three chunks. -/
theorem pay7_apply (h : FVec Ideal S512x1024 .bf16) (acc : FVec Ideal S512x1024 .f32)
    (u0 : Vec Ideal S1024x512 .bf16) (d0 : Vec Ideal S512x1024 .bf16) (u1 : Vec Ideal S1024x512 .bf16) (d1 : Vec Ideal S512x1024 .bf16)
    (u2 : Vec Ideal S1024x512 .bf16) (d2 : Vec Ideal S512x1024 .bf16) (r : Fin 512) (j : Fin 1024) :
    k3_pay7 (F := Ideal) h acc u0 d0 u1 d1 u2 d2 (ix2 r j)
      = acc (ix2 r j) + chunk (fun k => h (ix2 r k)) (fun k f => u0 (ix2 k f)) (fun f j => d0 (ix2 f j)) j
          + chunk (fun k => h (ix2 r k)) (fun k f => u1 (ix2 k f)) (fun f j => d1 (ix2 f j)) j
          + chunk (fun k => h (ix2 r k)) (fun k f => u2 (ix2 k f)) (fun f j => d2 (ix2 f j)) j := by
  unfold chunk sqRelu rowMul
  pointwise [k3_pay7]

/-- The hidden row of the seventh chunk. -/
theorem pay8_apply (h : FVec Ideal S512x1024 .bf16) (u : Vec Ideal S1024x512 .bf16) (r : Fin 512) (f : Fin 512) :
    k3_pay8 (F := Ideal) h u (ix2 r f) = rowMul (fun k => h (ix2 r k)) (fun k f => u (ix2 k f)) f := by
  unfold rowMul
  pointwise [k3_pay8]

/-- The last two chunks and the final normalisation. -/
theorem pay1_apply (h : FVec Ideal S512x1024 .bf16) (acc : FVec Ideal S512x1024 .f32) (u6 : FVec Ideal S512x512 .f32)
    (d6 : Vec Ideal S512x1024 .bf16) (u7 : Vec Ideal S1024x512 .bf16) (d7 : Vec Ideal S512x1024 .bf16) (gf : Vec Ideal S1x1024 .f32)
    (r : Fin 512) (j : Fin 1024) :
    k3_pay1 (F := Ideal) h acc u6 d6 u7 d7 gf (ix2 r j)
      = rms (fun j => acc (ix2 r j) + ∑ f, sqRelu (u6 (ix2 r f)) * d6 (ix2 f j)
          + chunk (fun k => h (ix2 r k)) (fun k f => u7 (ix2 k f)) (fun f j => d7 (ix2 f j)) j) (fun j => gf (ix2 0 j)) j := by
  unfold rms chunk sqRelu rowMul
  pointwise [k3_pay1]

end Cert.KernelIdeal.OutMlp
-- ==== Proof.OutMlp.lean ====
/- The fourth call (`out_mlp`), one grid point: the chunks of 512 hidden columns add up to the whole network, and what the
   body leaves in its output block is the second half of the layer. -/
module

public import proofs.«01_k».proof.Proof.Gen.KernelIdeal.Frame
public import Idealize.ShloMosaic.Lib.Pipeline.ValueKit
public import proofs.«01_k».proof.Proof.OutMlpRow

@[expose] public section

set_option maxRecDepth 16384

noncomputable section

namespace Cert.KernelIdeal.OutMlp

open Idealize.ShloMosaic Idealize.ShloMosaic.TcCoe Idealize.SL.Sem
open Idealize.ShloMosaic.Pipeline (Dat)
open Cert.KernelIdeal Cert.KernelIdeal.Gen Cert.Layer

/-- The offset of a whole block is zero on each axis. -/
theorem hz2 : (![0, 0] : Fin 2 → Nat) = fun _ => 0 := funext fun a => by fin_cases a <;> rfl

section Block
variable (x0 : Vec Ideal S512x1024 .f32) (x1 x2 : Vec Ideal S512x512 .bf16) (x3 : Vec Ideal S512x2048 .bf16)
  (x4 x5 : Vec Ideal S512x1024 .bf16) (x6 : Vec Ideal S1024x1024 .bf16) (x7 : Vec Ideal S1x1024 .f32)
  (x8 : Vec Ideal S1024x4096 .bf16) (x9 : Vec Ideal S4096x1024 .bf16) (x10 : Vec Ideal S1x1024 .f32) (r : Fin 512)

/-- The residual row of token `r` of the block, after the mixers. -/
def mixRow : Fin 1024 → EReal :=
  afterMix (fun j => x0 (ix2 r j)) (fun j => x3 (ix2 r ⟨j.val, by omega⟩)) (fun j => x3 (ix2 r ⟨1024 + j.val, by omega⟩))
    (rowMul (fun k => x1 (ix2 r k)) fun k j => x4 (ix2 k j)) (rowMul (fun k => x2 (ix2 r k)) fun k j => x5 (ix2 k j))
    (fun k j => x6 (ix2 k j))

/-- The stored value is the token after the mixers. -/
theorem pay9_apply (j : Fin 1024) :
    k3_pay9 x0 x1 x2 x3 x4 x5 x6 x7 x8 x9 x10 (ix2 r j) = mixRow x0 x1 x2 x3 x4 x5 x6 r j := by
  unfold k3_pay9 mixRow
  rw [pay2_apply]
  unfold afterMix rowMul merged
  pointwise

/-- The stored value, normalised a second time. -/
theorem pay12_apply (j : Fin 1024) :
    k3_pay12 x0 x1 x2 x3 x4 x5 x6 x7 x8 x9 x10 (ix2 r j)
      = rms (mixRow x0 x1 x2 x3 x4 x5 x6 r) (fun j => x7 (ix2 0 j)) j := by
  have h := pay9_apply x0 x1 x2 x3 x4 x5 x6 x7 x8 x9 x10 r
  unfold k3_pay9 at h
  unfold k3_pay12 k3_pay11 k3_pay10 k3_pay9
  rw [pay5_apply, pay4_apply]
  simp only [h]
  unfold rms
  pointwise [k3_pay3]

/-- The sum over 4096 hidden columns is the sum of its eight chunks of 512. -/
theorem chunkSum (h : Fin 1024 → EReal) (wu : Fin 1024 → Fin 4096 → EReal) (wd : Fin 4096 → Fin 1024 → EReal) (j : Fin 1024) :
    ∑ f, sqRelu (rowMul h wu f) * wd f j
      = ∑ c : Fin 8, chunk h (fun k f => wu k ⟨c.val * 512 + f.val, by omega⟩) (fun f j => wd ⟨c.val * 512 + f.val, by omega⟩ j) j :=
  Fin.sum_univ_tiles 8 512 rfl fun f => sqRelu (rowMul h wu f) * wd f j

/-- One number of the block the body leaves: the second half of the layer on token `r`. -/
theorem out_apply (j : Fin 1024) :
    out3_11 x0 x1 x2 x3 x4 x5 x6 x7 x8 x9 x10 (ix2 r j)
      = tail (fun j => x0 (ix2 r j)) (fun j => x3 (ix2 r ⟨j.val, by omega⟩)) (fun j => x3 (ix2 r ⟨1024 + j.val, by omega⟩))
          (rowMul (fun k => x1 (ix2 r k)) fun k j => x4 (ix2 k j)) (rowMul (fun k => x2 (ix2 r k)) fun k j => x5 (ix2 k j))
          (fun k j => x6 (ix2 k j)) (fun j => x7 (ix2 0 j)) (fun k f => x8 (ix2 k f)) (fun f j => x9 (ix2 f j))
          (fun j => x10 (ix2 0 j)) j := by
  have e9 := pay9_apply x0 x1 x2 x3 x4 x5 x6 x7 x8 x9 x10 r
  have e12 := pay12_apply x0 x1 x2 x3 x4 x5 x6 x7 x8 x9 x10 r
  have e5 : k3_pay5 (k3_pay9 x0 x1 x2 x3 x4 x5 x6 x7 x8 x9 x10) (k3_pay10 x0 x1 x2 x3 x4 x5 x6 x7 x8 x9 x10) (k3_pay11 x0 x1 x2 x3 x4 x5 x6 x7 x8 x9 x10)
      = k3_pay12 x0 x1 x2 x3 x4 x5 x6 x7 x8 x9 x10 := rfl
  unfold out3_11
  rw [View.canon_unit_zero hz2, pay1_apply]
  simp only [pay7_apply, pay8_apply, pay6_apply, e5, e9, e12]
  show _ = rms (afterMlp (mixRow x0 x1 x2 x3 x4 x5 x6 r) (fun j => x7 (ix2 0 j)) (fun k f => x8 (ix2 k f)) (fun f j => x9 (ix2 f j)))
    (fun j => x10 (ix2 0 j)) j
  unfold afterMlp
  generalize mixRow x0 x1 x2 x3 x4 x5 x6 r = M
  generalize rms M (fun j => x7 (ix2 0 j)) = H
  refine congrFun (congrArg₂ rms (funext fun j => ?_) (funext fun j => ?_)) j
  · rw [chunkSum H (fun k f => x8 (ix2 k f)) (fun f j => x9 (ix2 f j)) j, Fin.sum_univ_eight]
    simp only [add_assoc]
    refine congrArg (M j + ·) ?_
    unfold chunk rowMul
    pointwise
  · pointwise

end Block

end Cert.KernelIdeal.OutMlp
-- ==== Proof.OutMlpArray.lean ====
/- The fourth call (`out_mlp`): the array its 128 grid points leave, read at a token and a feature, is the second half
   of the layer on that token's rows of the arrays the call is handed. -/
module

public import proofs.«01_k».proof.Proof.OutMlp

@[expose] public section

set_option maxRecDepth 16384

noncomputable section

namespace Cert.KernelIdeal.OutMlp

open Idealize.ShloMosaic Idealize.ShloMosaic.TcCoe Idealize.SL.Sem
open Idealize.ShloMosaic.Pipeline (Dat)
open Cert.KernelIdeal Cert.KernelIdeal.Gen Cert.Layer

variable (V : (c : Dev nD) → (b : Ref sig .tc) → Buf (Elt Ideal) ((c : Thread nD τ).loc b))

/-- Every window's block index at every grid point: the token windows move with the point, the weights stay. -/
theorem idx : ∀ t : Fin cfg3.N, win3_0.index t = ![t.val, 0] ∧ win3_1.index t = ![t.val, 0] ∧ win3_2.index t = ![t.val, 0]
    ∧ win3_3.index t = ![t.val, 0] ∧ win3_4.index t = ![0, 0] ∧ win3_5.index t = ![0, 0] ∧ win3_6.index t = ![0, 0]
    ∧ win3_7.index t = ![0, 0] ∧ win3_8.index t = ![0, 0] ∧ win3_9.index t = ![0, 0] ∧ win3_10.index t = ![0, 0]
    ∧ win3_11.index t = ![t.val, 0] :=
  (by decide +kernel : ∀ t : Fin grid3.N, _)

/-- The array the call leaves, over the arrays it is handed. -/
def outArr (X : Vec Ideal S65536x1024 .f32) (YA YB : Vec Ideal S65536x512 .bf16) (G : Vec Ideal S65536x2048 .bf16)
    (WA WB : Vec Ideal S512x1024 .bf16) (WO : Vec Ideal S1024x1024 .bf16) (NM : Vec Ideal S1x1024 .f32)
    (WU : Vec Ideal S1024x4096 .bf16) (WD : Vec Ideal S4096x1024 .bf16) (NF : Vec Ideal S1x1024 .f32) :
    Vec Ideal S65536x1024 .f32 := fun i =>
  tail (fun j => X (ix2 (i 0) j)) (fun j => G (ix2 (i 0) ⟨j.val, by omega⟩)) (fun j => G (ix2 (i 0) ⟨1024 + j.val, by omega⟩))
    (rowMul (fun k : Fin 512 => YA (ix2 (i 0) k)) fun k j => WA (ix2 k j)) (rowMul (fun k : Fin 512 => YB (ix2 (i 0) k)) fun k j => WB (ix2 k j))
    (fun k j => WO (ix2 k j)) (fun j => NM (ix2 0 j)) (fun k f => WU (ix2 k f)) (fun f j => WD (ix2 f j))
    (fun j => NF (ix2 0 j)) (i 1)

/-- The row of the arrays that row `r` of block `t` is. -/
abbrev rowAt (t : Fin cfg3.N) (r : Fin 512) : Fin 65536 := ⟨t.val * 512 + r.val, by have : t.val < 128 := t.isLt; omega⟩

/-- Step `t` reads its 512 rows of the tokens, of the two mixers and of the gates. -/
theorem reads (c : Dev nD) (t : Fin cfg3.N) (r : Fin 512) :
    (∀ j : Fin 1024, iblk3 V c 0 t (ix2 r j) = V c main_v30 (ix2 (rowAt t r) j))
      ∧ (∀ j : Fin 512, iblk3 V c 1 t (ix2 r j) = V c main_v55 (ix2 (rowAt t r) j))
      ∧ (∀ j : Fin 512, iblk3 V c 2 t (ix2 r j) = V c main_v107 (ix2 (rowAt t r) j))
      ∧ ∀ j : Fin 2048, iblk3 V c 3 t (ix2 r j) = V c main_v53_4 (ix2 (rowAt t r) j) := by
  refine ⟨fun j => ?_, fun j => ?_, fun j => ?_, fun j => ?_⟩ <;> blk_ext [iblk3, idx t]

/-- Every step reads all the weights. -/
theorem weights (c : Dev nD) (t : Fin cfg3.N) :
    iblk3 V c 4 t = V c main_v116 ∧ iblk3 V c 5 t = V c main_v118 ∧ iblk3 V c 6 t = V c main_v120 ∧ iblk3 V c 7 t = V c main_v122
      ∧ iblk3 V c 8 t = V c main_v124 ∧ iblk3 V c 9 t = V c main_v126 ∧ iblk3 V c 10 t = V c main_v127 := by
  refine ⟨?_, ?_, ?_, ?_, ?_, ?_, ?_⟩ <;> blk_ext! [iblk3, idx t]

/-- Step `t` writes its 512 tokens. -/
theorem emb (t : Fin cfg3.N) (r : Fin 512) (j : Fin 1024) :
    ((win3_11.blk t).view.emb (ix2 r j) : S65536x1024.Idx) = ix2 (rowAt t r) j := by
  blk_ext [idx t]

/-- The call's result array. -/
theorem final (c : Dev nD) : (dat3 V c).arrAt 11 cfg3.N
    = outArr (V c main_v30) (V c main_v55) (V c main_v107) (V c main_v53_4) (V c main_v116) (V c main_v118) (V c main_v120)
        (V c main_v122) (V c main_v124) (V c main_v126) (V c main_v127) := by
  refine (dat3 V c).arrAt_eq_of_covers 11 _ (by decide +kernel) fun t _ y => ?_
  blk_simp
  rw [after3_11]
  obtain ⟨r, j, rfl⟩ : ∃ (r : Fin 512) (j : Fin 1024), y = ix2 r j := ⟨y 0, y 1, by idx_ext⟩
  refine (out_apply _ _ _ _ _ _ _ _ _ _ _ r j).trans ?_
  refine Eq.trans ?_ (congrArg (outArr _ _ _ _ _ _ _ _ _ _ _) (emb t r j)).symm
  simp only [reads V c t r, weights V c t]
  rfl

end Cert.KernelIdeal.OutMlp
-- ==== Proof.LayerWhole.lean ====
/- The layer at one token, in plain words: what both programs are shown to compute. -/
module

public import proofs.«01_k».proof.Proof.Mixers

@[expose] public section

noncomputable section

namespace Cert.Layer

open Idealize.ShloMosaic

/-- The heads' outputs through a mixer's output matrix. -/
def heads (o : Fin 8 → Fin 64 → EReal) (w : Fin 512 → Fin 1024 → EReal) (j : Fin 1024) : EReal :=
  ∑ h : Fin 8, ∑ d : Fin 64, o h d * w ⟨64 * h.val + d.val, by omega⟩ j

/-- A token's gate: the logistic function of its projected column plus the bias. -/
def gateOf (z : Fin 4352 → EReal) (gb : Fin 2048 → EReal) (j : Fin 2048) : EReal :=
  Ideal.logistic (z ⟨2304 + j.val, by omega⟩ + gb j)

/-- Token `n` of the layer, from the projected rows `z` of its sequence and its own row `x`. -/
def layer (z : Fin 8192 → Fin 4352 → EReal) (x : Fin 1024 → EReal) (gb : Fin 2048 → EReal) (sink : Fin 8 → EReal)
    (bias : Fin 8 → Fin 15 → Fin 31 → EReal) (wa wb : Fin 512 → Fin 1024 → EReal) (wo : Fin 1024 → Fin 1024 → EReal)
    (nm : Fin 1024 → EReal) (wu : Fin 1024 → Fin 4096 → EReal) (wd : Fin 4096 → Fin 1024 → EReal) (nf : Fin 1024 → EReal)
    (n : Fin 8192) (j : Fin 1024) : EReal :=
  tail x (fun j => gateOf (z n) gb ⟨j.val, by omega⟩) (fun j => gateOf (z n) gb ⟨1024 + j.val, by omega⟩)
    (heads (fun h d => winOut z (sink h) h n d) wa) (heads (fun h d => nbrOut z bias h n d) wb) wo nm wu wd nf j

/-- A sum over 512 columns, head by head. -/
theorem sum_heads (f : Fin 512 → EReal) : ∑ k, f k = ∑ h : Fin 8, ∑ d : Fin 64, f ⟨64 * h.val + d.val, by omega⟩ := by
  rw [← Fintype.sum_prod_type', ← (finProdFinEquiv (m := 8) (n := 64)).sum_comp]
  refine Finset.sum_congr rfl fun p _ => congrArg f (Fin.ext ?_)
  simp only [finProdFinEquiv_apply_val]
  omega

/-- A product of a row of 512 columns with a matrix is the heads' product, when the columns are the heads' outputs. -/
theorem rowMul_heads (v : Fin 512 → EReal) (u w : Fin 512 → Fin 1024 → EReal) (o : Fin 8 → Fin 64 → EReal) (e : Fin 8 ≃ Fin 8) (j : Fin 1024)
    (hv : ∀ (g : Fin 8) (d : Fin 64), v ⟨64 * g.val + d.val, by omega⟩ = o (e g) d)
    (hu : ∀ (g : Fin 8) (d : Fin 64), u ⟨64 * g.val + d.val, by omega⟩ j = w ⟨64 * (e g).val + d.val, by omega⟩ j) :
    rowMul v u j = heads o w j := by
  unfold rowMul heads
  rw [sum_heads]
  refine Eq.trans ?_ (e.sum_comp _)
  exact Finset.sum_congr rfl fun g _ => Finset.sum_congr rfl fun d _ => congrArg₂ (· * ·) (hv g d) (hu g d)

end Cert.Layer
-- ==== Proof.KernelValue.lean ====
/- The kernel's result buffer over its arguments: each call's arrays passed on to the next, and the last one read as the
   plain layer. -/
module

public import proofs.«01_k».proof.Proof.KernelArrays
public import proofs.«01_k».proof.Proof.OutMlpArray
public import proofs.«01_k».proof.Proof.LayerWhole

@[expose] public section

set_option maxRecDepth 16384

noncomputable section

namespace Cert.KernelIdeal.Mix

open Idealize.ShloMosaic Idealize.ShloMosaic.TcCoe Idealize.SL.Sem
open Cert.KernelIdeal Cert.KernelIdeal.Gen Cert.Layer Cert.KernelIdeal.HostArrays Cert.KernelIdeal.HostValues

/-- The neighborhood output weights, without their leading axis. -/
theorem wB_apply (x : FVec Ideal S1x512x1024 .f32) (k : Fin 512) (j : Fin 1024) : wB x (ix2 k j) = x (ix3 0 k j) := by
  unfold wB
  pointwise []

/-- The weights of the merge, without their leading axis. -/
theorem wO_apply (x : FVec Ideal S1x1024x1024 .f32) (k j : Fin 1024) : wO x (ix2 k j) = x (ix3 0 k j) := by
  unfold wO
  pointwise []

/-- The first matrix of the network, without its leading axis. -/
theorem wUp_apply (x : FVec Ideal S1x1024x4096 .f32) (k : Fin 1024) (f : Fin 4096) : wUp x (ix2 k f) = x (ix3 0 k f) := by
  unfold wUp
  pointwise []

/-- The second matrix of the network, without its leading axis. -/
theorem wDown_apply (x : FVec Ideal S1x4096x1024 .f32) (f : Fin 4096) (j : Fin 1024) : wDown x (ix2 f j) = x (ix3 0 f j) := by
  unfold wDown
  pointwise []

/-- The last norm's weights as the last call reads them. -/
def lastRow (x : FVec Ideal S1024 .f32) : FVec Ideal S1x1024 .f32 := broadcastInDim S1x1024 ![1] bcast_S1024_S1x1024_1 x

/-- The row of the last weights holds the weights. -/
theorem lastRow_apply (x : FVec Ideal S1024 .f32) (k : Fin 1024) : lastRow x (ix2 0 k) = x (ix1 k) := by
  unfold lastRow
  pointwise []

/-- The result as the program returns it. -/
def unflat (y : FVec Ideal S65536x1024 .f32) : FVec Ideal S8x8192x1024 .f32 :=
  shapeCast S8x8192x1024 y shapeCasts_S65536x1024_S8x8192x1024

/-- Token `n` of sequence `b` is row `row b n` of the list. -/
theorem unflat_apply (y : FVec Ideal S65536x1024 .f32) (b : Fin 8) (n : Fin 8192) (j : Fin 1024) :
    unflat y (ix3 b n j) = y (ix2 (row b n) j) := by
  unfold unflat row
  pointwise []
  exact congrArg (fun i => y (ix2 i j)) (Fin.ext (by dsimp only; omega))

variable (m : (ℓ : Loc nD τ sig) → Buf (Elt Ideal) ℓ) (ρ : Dev nD → PrngReg) (c : Dev nD)

/-- A buffer the host lists between the second and the third call leave alone. -/
theorem W13_pass (r : Ref sig .tc) (h : r ∉ hostOps2_W ∧ r ∉ hostOps2_1_W ∧ r ∉ hostOps2_2_W ∧ r ∉ hostOps2_3_W ∧
    r ∉ hostOps2_4_W ∧ r ∉ hostOps2_5_W ∧ r ∉ hostOps2_6_W) :
    W13 m ρ c (Proc.devRef .tc r) = W6 m ρ c (Proc.devRef .tc r) := by
  obtain ⟨h1, h2, h3, h4, h5, h6, h7⟩ := h
  rw [W13_of m ρ c r h7, W12_of m ρ c r h6, W11_of m ρ c r h5, W10_of m ρ c r h4, W9_of m ρ c r h3, W8_of m ρ c r h2,
    W7_of m ρ c r h1]

/-- The windowed queries reach the windowed call. -/
theorem v53_0 : V5 m ρ c main_v53_0 = InProj.arr4 (flat (m ((c : Thread nD τ).loc main_arg0)))
    (weightRow (m ((c : Thread nD τ).loc main_arg1))) (wAll (m ((c : Thread nD τ).loc main_arg2))) := by
  refine (W5_of m ρ c main_v53_0 (by decide)).trans ((W4_arr m ρ c 4).trans ((InProj.final4 (V3 m ρ) c).trans ?_))
  rw [v30, v49, v50]
  rfl

/-- The windowed keys and values reach the windowed call. -/
theorem v53_1 : V5 m ρ c main_v53_1 = InProj.arr5 (flat (m ((c : Thread nD τ).loc main_arg0)))
    (weightRow (m ((c : Thread nD τ).loc main_arg1))) (wAll (m ((c : Thread nD τ).loc main_arg2))) := by
  refine (W5_of m ρ c main_v53_1 (by decide)).trans ((W4_arr m ρ c 5).trans ((InProj.final5 (V3 m ρ) c).trans ?_))
  rw [v30, v49, v50]
  rfl

/-- The bias table reaches the windowed call. -/
theorem v29' : V5 m ρ c main_v29 = winBias :=
  (W5_of m ρ c main_v29 (by decide)).trans ((W4_of m ρ c main_v29 (by decide)).trans (v29 m ρ c))

/-- The neighborhood queries reach the neighborhood call. -/
theorem v53_2 : V13 m ρ c main_v53_2 = InProj.arr6 (flat (m ((c : Thread nD τ).loc main_arg0)))
    (weightRow (m ((c : Thread nD τ).loc main_arg1))) (wAll (m ((c : Thread nD τ).loc main_arg2))) := by
  refine (W13_pass m ρ c main_v53_2 (by decide)).trans ((W6_of m ρ c main_v53_2 (by decide)).trans
    ((W5_of m ρ c main_v53_2 (by decide)).trans ((W4_arr m ρ c 6).trans ((InProj.final6 (V3 m ρ) c).trans ?_))))
  rw [v30, v49, v50]
  rfl

/-- The neighborhood keys and values reach the neighborhood call. -/
theorem v53_3 : V13 m ρ c main_v53_3 = InProj.arr7 (flat (m ((c : Thread nD τ).loc main_arg0)))
    (weightRow (m ((c : Thread nD τ).loc main_arg1))) (wAll (m ((c : Thread nD τ).loc main_arg2))) := by
  refine (W13_pass m ρ c main_v53_3 (by decide)).trans ((W6_of m ρ c main_v53_3 (by decide)).trans
    ((W5_of m ρ c main_v53_3 (by decide)).trans ((W4_arr m ρ c 7).trans ((InProj.final7 (V3 m ρ) c).trans ?_))))
  rw [v30, v49, v50]
  rfl

/-- The gates reach the last call. -/
theorem v53_4 : V15 m ρ c main_v53_4 = InProj.arr8 (flat (m ((c : Thread nD τ).loc main_arg0)))
    (weightRow (m ((c : Thread nD τ).loc main_arg1))) (wAll (m ((c : Thread nD τ).loc main_arg2)))
    (gateRow (m ((c : Thread nD τ).loc main_arg3))) := by
  refine (W15_of m ρ c main_v53_4 (by decide)).trans ((W14_of m ρ c main_v53_4 (by decide)).trans
    ((W13_pass m ρ c main_v53_4 (by decide)).trans ((W6_of m ρ c main_v53_4 (by decide)).trans
    ((W5_of m ρ c main_v53_4 (by decide)).trans ((W4_arr m ρ c 8).trans ((InProj.final8 (V3 m ρ) c).trans ?_))))))
  rw [v30, v49, v50, v52]
  rfl

/-- The tokens reach the last call. -/
theorem v30' : V15 m ρ c main_v30 = flat (m ((c : Thread nD τ).loc main_arg0)) :=
  (W15_of m ρ c main_v30 (by decide)).trans ((W14_of m ρ c main_v30 (by decide)).trans
    ((W13_pass m ρ c main_v30 (by decide)).trans ((W6_of m ρ c main_v30 (by decide)).trans
    ((W5_of m ρ c main_v30 (by decide)).trans ((W4_of m ρ c main_v30 (by decide)).trans (v30 m ρ c))))))

/-- The windowed mixer's rows. -/
theorem v55 : V15 m ρ c main_v55 = WinAttn.winArr (sinks (m ((c : Thread nD τ).loc main_arg4)))
    (InProj.arr4 (flat (m ((c : Thread nD τ).loc main_arg0))) (weightRow (m ((c : Thread nD τ).loc main_arg1)))
      (wAll (m ((c : Thread nD τ).loc main_arg2))))
    (InProj.arr5 (flat (m ((c : Thread nD τ).loc main_arg0))) (weightRow (m ((c : Thread nD τ).loc main_arg1)))
      (wAll (m ((c : Thread nD τ).loc main_arg2)))) winBias := by
  refine (W15_of m ρ c main_v55 (by decide)).trans ((W14_of m ρ c main_v55 (by decide)).trans
    ((W13_pass m ρ c main_v55 (by decide)).trans ((W6_arr m ρ c 6).trans ((WinAttn.final (V5 m ρ) c).trans ?_))))
  rw [v54, v53_0, v53_1, v29']
  rfl

/-- The neighborhood mixer's rows. -/
theorem v107 : V15 m ρ c main_v107 = NbrAttn.nbrArr
    (InProj.arr6 (flat (m ((c : Thread nD τ).loc main_arg0))) (weightRow (m ((c : Thread nD τ).loc main_arg1)))
      (wAll (m ((c : Thread nD τ).loc main_arg2))))
    (InProj.arr7 (flat (m ((c : Thread nD τ).loc main_arg0))) (weightRow (m ((c : Thread nD τ).loc main_arg1)))
      (wAll (m ((c : Thread nD τ).loc main_arg2)))) (cases (relTable (m ((c : Thread nD τ).loc main_arg5)))) := by
  refine (W15_of m ρ c main_v107 (by decide)).trans ((W14_arr m ρ c 3).trans ((NbrAttn.final (V13 m ρ) c).trans ?_))
  rw [v53_2, v53_3, v106]

/-- The result buffer is the last call's array. -/
theorem v129 : W17 m ρ c main_v129 = unflat (W16 m ρ c main_v128) := by
  unfold W17
  after_results
  rfl

/-- The last call's array. -/
theorem v128 : W16 m ρ c main_v128 = OutMlp.outArr (V15 m ρ c main_v30) (V15 m ρ c main_v55) (V15 m ρ c main_v107)
    (V15 m ρ c main_v53_4) (wA (m ((c : Thread nD τ).loc main_arg6))) (wB (m ((c : Thread nD τ).loc main_arg7)))
    (wO (m ((c : Thread nD τ).loc main_arg8))) (weightRow (m ((c : Thread nD τ).loc main_arg9)))
    (wUp (m ((c : Thread nD τ).loc main_arg10))) (wDown (m ((c : Thread nD τ).loc main_arg11)))
    (lastRow (m ((c : Thread nD τ).loc main_arg12))) := by
  refine (W16_arr m ρ c 11).trans ((OutMlp.final (V15 m ρ) c).trans ?_)
  rw [v116, v118, v120, v122, v124, v126, v127]
  rfl

variable (x0 : FVec Ideal S8x8192x1024 .f32) (x1 : FVec Ideal S1x1024 .f32) (x2 : FVec Ideal S1x1024x4352 .f32)
  (x3 : FVec Ideal S1x2048 .f32) (x4 : FVec Ideal S1x8 .f32) (x5 : FVec Ideal S1x8x15x31 .f32)
  (x6 x7 : FVec Ideal S1x512x1024 .f32) (x8 : FVec Ideal S1x1024x1024 .f32) (x9 : FVec Ideal S1x1024 .f32)
  (x10 : FVec Ideal S1x1024x4096 .f32) (x11 : FVec Ideal S1x4096x1024 .f32) (x12 : FVec Ideal S1024 .f32)

/-- The layer at token `n` of sequence `b`, over the kernel's arguments. -/
def layerOf (b : Fin 8) (n : Fin 8192) (j : Fin 1024) : EReal :=
  layer (zOf x0 x1 x2 b) (fun j => x0 (ix3 b n j)) (fun j => x3 (ix2 0 j)) (fun h => x4 (ix2 0 h)) (fun h r q => x5 (ix4 0 h r q))
    (fun k j => x6 (ix3 0 k j)) (fun k j => x7 (ix3 0 k j)) (fun k j => x8 (ix3 0 k j)) (fun k => x9 (ix2 0 k))
    (fun k f => x10 (ix3 0 k f)) (fun f j => x11 (ix3 0 f j)) (fun k => x12 (ix1 k)) n j

/-- The order the kernel keeps the windowed mixer's heads in is one to one. -/
def headPerm : Fin 8 ≃ Fin 8 := Equiv.ofBijective headAt (by decide)

variable (h1 : ∀ k, IsReal (x1 (ix2 0 k))) (h2 : ∀ k (c : Fin 4352), LogitCol c.val → IsReal (x2 (ix3 0 k c))) (h4 : ∀ h, x4 (ix2 0 h) ≠ ⊤)
  (h5 : ∀ h r q, IsReal (x5 (ix4 0 h r q)))

include h1 h2 h4 in
/-- The windowed mixer through its matrix. -/
theorem winMul (b : Fin 8) (n : Fin 8192) (j : Fin 1024) :
    rowMul (fun k : Fin 512 => WinAttn.winArr (sinks x4) (InProj.arr4 (flat x0) (weightRow x1) (wAll x2))
        (InProj.arr5 (flat x0) (weightRow x1) (wAll x2)) winBias (ix2 (row b n) k)) (fun k j => wA x6 (ix2 k j)) j =
      heads (fun h d => winOut (zOf x0 x1 x2 b) (x4 (ix2 0 h)) h n d) (fun k j => x6 (ix3 0 k j)) j :=
  rowMul_heads _ _ _ _ headPerm j (fun g d => win_apply x0 x1 x2 x4 h1 h2 h4 b n g d) (fun g d => wA_apply x6 g d j)

include h1 h2 h5 in
/-- The neighborhood mixer through its matrix. -/
theorem nbrMul (b : Fin 8) (n : Fin 8192) (j : Fin 1024) :
    rowMul (fun k : Fin 512 => NbrAttn.nbrArr (InProj.arr6 (flat x0) (weightRow x1) (wAll x2))
        (InProj.arr7 (flat x0) (weightRow x1) (wAll x2)) (cases (relTable x5)) (ix2 (row b n) k)) (fun k j => wB x7 (ix2 k j)) j =
      heads (fun h d => nbrOut (zOf x0 x1 x2 b) (fun h r q => x5 (ix4 0 h r q)) h n d) (fun k j => x7 (ix3 0 k j)) j :=
  rowMul_heads _ _ _ _ (Equiv.refl _) j (fun g d => nbr_apply x0 x1 x2 x5 h1 h2 h5 b n g d) (fun g d => wB_apply x7 _ j)

include h1 h2 h4 h5 in
/-- The last call's array over the arguments is the layer. -/
theorem out_layer (b : Fin 8) (n : Fin 8192) (j : Fin 1024) :
    OutMlp.outArr (flat x0)
        (WinAttn.winArr (sinks x4) (InProj.arr4 (flat x0) (weightRow x1) (wAll x2))
          (InProj.arr5 (flat x0) (weightRow x1) (wAll x2)) winBias)
        (NbrAttn.nbrArr (InProj.arr6 (flat x0) (weightRow x1) (wAll x2))
          (InProj.arr7 (flat x0) (weightRow x1) (wAll x2)) (cases (relTable x5)))
        (InProj.arr8 (flat x0) (weightRow x1) (wAll x2) (gateRow x3))
        (wA x6) (wB x7) (wO x8) (weightRow x9) (wUp x10) (wDown x11) (lastRow x12) (ix2 (row b n) j) =
      layerOf x0 x1 x2 x3 x4 x5 x6 x7 x8 x9 x10 x11 x12 b n j := by
  have hg : ∀ j, gateOf (zOf x0 x1 x2 b n) (fun j => x3 (ix2 0 j)) j =
      InProj.arr8 (flat x0) (weightRow x1) (wAll x2) (gateRow x3) (ix2 (row b n) j) := fun j => (arr8_apply x0 x1 x2 x3 b n j).symm
  unfold OutMlp.outArr layerOf layer
  rw [← funext (winMul x0 x1 x2 x4 x6 h1 h2 h4 b n), ← funext (nbrMul x0 x1 x2 x5 x7 h1 h2 h5 b n)]
  simp only [← flat_apply x0, hg, ← wO_apply x8, ← weightRow_apply x9, ← wUp_apply x10, ← wDown_apply x11, ← lastRow_apply x12]
  rfl

end Cert.KernelIdeal.Mix
-- ==== Proof.RefProj.lean ====
/- The reference's projected rows, read as the plain ones. -/
module

public import proofs.«01_k».proof.Proof.Gen.ReferenceIdeal.Read
public import Idealize.ShloMosaic.Lib.Pointwise
public import proofs.«01_k».proof.Proof.Mixers

@[expose] public section

set_option maxRecDepth 16384

noncomputable section

namespace Cert.ReferenceIdeal.Plain

open Idealize.ShloMosaic Idealize.ShloMosaic.TcCoe
open Cert.ReferenceIdeal Cert.ReferenceIdeal.Gen Cert.ReferenceIdeal.Read Cert.Layer

variable (x0 : (⟨S8x8192x1024, .f32⟩ : BufTy).Contents (Elt Ideal)) (x1 : (⟨S1x1024, .f32⟩ : BufTy).Contents (Elt Ideal))
  (x2 : (⟨S1x1024x4352, .f32⟩ : BufTy).Contents (Elt Ideal))

/-- The projected rows of sequence `b`. -/
def proj (b : Fin 8) (n : Fin 8192) (c : Fin 4352) : EReal :=
  zrow (fun k => x0 (ix3 b n k)) (fun k => x1 (ix2 0 k)) (fun k c => x2 (ix3 0 k c)) c

/-- A token of the reference, normalised. -/
theorem v13_apply (b : Fin 8) (n : Fin 8192) (j : Fin 1024) :
    val_main_v13 x0 x1 (ix3 b n j) = rms (fun k => x0 (ix3 b n k)) (fun k => x1 (ix2 0 k)) j := by
  unfold rms
  pointwise [val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]

/-- A token of the reference, projected. -/
theorem v15_apply (b : Fin 8) (n : Fin 8192) (c : Fin 4352) : val_main_v15 x0 x1 x2 (ix3 b n c) = proj x0 x1 x2 b n c := by
  unfold proj zrow rowMul
  rw [val_main_v15_apply]
  refine Finset.sum_congr rfl fun k _ => ?_
  congr 1
  · rw [← v13_apply]; congr 1; idx_ext
  · rw [val_main_v14_apply]; congr 1; idx_ext

end Cert.ReferenceIdeal.Plain
-- ==== Proof.RefWin.lean ====
/- The reference's windowed mixer, read as the plain one. -/
module

public import proofs.«01_k».proof.Proof.RefProj
public import proofs.«01_k».proof.Proof.Words

@[expose] public section

set_option maxRecDepth 16384

noncomputable section

namespace Cert.ReferenceIdeal.Plain

open Idealize.ShloMosaic Idealize.ShloMosaic.TcCoe
open Cert.ReferenceIdeal Cert.ReferenceIdeal.Gen Cert.ReferenceIdeal.Read Cert.Layer Cert.Words

variable (x0 : (⟨S8x8192x1024, .f32⟩ : BufTy).Contents (Elt Ideal)) (x1 : (⟨S1x1024, .f32⟩ : BufTy).Contents (Elt Ideal))
  (x2 : (⟨S1x1024x4352, .f32⟩ : BufTy).Contents (Elt Ideal)) (x4 : (⟨S1x8, .f32⟩ : BufTy).Contents (Elt Ideal))

/-- A maximum over one more entry. -/
theorem fold_max_last {n N : Nat} (hN : N = n + 1) (f : Fin N → EReal) :
    Finset.univ.fold max ⊥ f = max (Finset.univ.fold max ⊥ fun i : Fin n => f ⟨i.val, by omega⟩) (f ⟨n, by omega⟩) := by
  subst hN
  rw [Fin.univ_castSuccEmb, Finset.fold_cons, Finset.fold_map, max_comm]
  rfl

/-- A maximum whose last entry is the sink's. -/
theorem fold_max_sink {n N : Nat} (hN : N = n + 1) (f : Fin N → EReal) (s : Fin n → EReal) (snk : EReal)
    (hs : ∀ i : Fin n, f ⟨i.val, by omega⟩ = s i) (hl : f ⟨n, by omega⟩ = snk) :
    Finset.univ.fold max ⊥ f = maxWith s snk := by
  rw [fold_max_last hN, hl]
  unfold maxWith
  rw [show (fun i : Fin n => f ⟨i.val, by omega⟩) = s from funext hs]

/-- A sum over one more entry. -/
theorem sum_last {n N : Nat} (hN : N = n + 1) (f : Fin N → EReal) :
    ∑ k, f k = (∑ i : Fin n, f ⟨i.val, by omega⟩) + f ⟨n, by omega⟩ := by
  subst hN
  rw [Fin.sum_univ_castSucc]
  rfl

/-- Head `4 kv + g` of the eight. -/
def head (kv : Fin 2) (g : Fin 4) : Fin 8 := ⟨kv.val * 4 + g.val, by omega⟩

/-- The queries of the windowed mixer. -/
theorem v24_apply (b : Fin 8) (n : Fin 8192) (kv : Fin 2) (g : Fin 4) (d : Fin 64) :
    val_main_v24 x0 x1 x2 (ix5 b n kv g d) = proj x0 x1 x2 b n ⟨64 * (head kv g).val + d.val, by omega⟩ := by
  rw [val_main_v24_apply, val_main_v16_apply, ← v15_apply]
  congr 1; unfold head; idx_ext

/-- The keys of the windowed mixer. -/
theorem v25_apply (b : Fin 8) (n : Fin 8192) (kv : Fin 2) (d : Fin 64) :
    val_main_v25 x0 x1 x2 (ix4 b n kv d) = proj x0 x1 x2 b n ⟨512 + (64 * kv.val + d.val), by omega⟩ := by
  rw [val_main_v25_apply, val_main_v17_apply, ← v15_apply]
  congr 1; idx_ext

/-- The values of the windowed mixer. -/
theorem v26_apply (b : Fin 8) (n : Fin 8192) (kv : Fin 2) (d : Fin 64) :
    val_main_v26 x0 x1 x2 (ix4 b n kv d) = proj x0 x1 x2 b n ⟨640 + (64 * kv.val + d.val), by omega⟩ := by
  rw [val_main_v26_apply, val_main_v18_apply, ← v15_apply]
  congr 1; idx_ext

/-- The distance of two positions, as a word. -/
theorem v34_apply (n m : Fin 8192) : val_main_v34 (F := Ideal) (ix2 n m) = word (gap n m : Nat) := by
  have h : val_main_v34 (F := Ideal) (ix2 n m) = IntOp.absi (IntOp.subi (BitVec.ofNat 32 n.val) (BitVec.ofNat 32 m.val)) := by
    pointwise [val_main_v34, val_main_v33, val_main_v32, val_main_v31, val_main_v30, val_main_v29, val_main_v28]
  rw [h, word_nat, word_nat, word_sub, word_abs (by omega) (by omega), natAbs_gap]

/-- The penalties of the reference are the penalties of the heads. -/
theorem v43_apply (h : Fin 8) : val_main_v43 (F := Ideal) (ix1 h) = penalty h := by
  have e : val_main_v35 (F := Ideal) (ix1 h) = ((h.val : ℝ) : EReal) := by
    have e' : val_main_v35 (F := Ideal) (ix1 h) = FloatOps.sitofp (F := Ideal) .f32 (BitVec.ofNat 32 h.val) := by
      pointwise [val_main_v35]
    rw [e', word_nat, sitofp_word (by omega) (by omega)]; simp
  unfold penalty
  rw [← e]
  pointwise [val_main_v43, val_main_v42, val_main_v41, val_main_v40, val_main_v39, val_main_v38, val_main_v37, val_main_v36, val_main_cst_2, val_main_cst_3, val_main_cst_4, val_main_cst_5]

/-- The score of one query and one key, masked outside the window. -/
theorem v60_apply (b : Fin 8) (kv : Fin 2) (g : Fin 4) (n m : Fin 8192) :
    val_main_v60 x0 x1 x2 (ix5 b kv g n m) = winScore (proj x0 x1 x2 b) (head kv g) n m := by
  have hs : val_main_v57 x0 x1 x2 (ix5 b kv g n m) =
      val_main_v45 x0 x1 x2 (ix5 b kv m n g) * eighth -
        val_main_v43 (F := Ideal) (ix1 (head kv g)) * FloatOps.sitofp (F := Ideal) .f32 (val_main_v34 (F := Ideal) (ix2 n m)) := by
    unfold eighth head
    unfold val_main_v57 val_main_v48 val_main_v46 val_main_v56 val_main_v55 val_main_v54 val_main_v53 val_main_v52 val_main_v51
      val_main_v50 val_main_v49 val_main_v44 val_main_v47 val_main_cst_6
    generalize val_main_v45 x0 x1 x2 = y
    generalize val_main_v34 (F := Ideal) = e
    generalize val_main_v43 (F := Ideal) = f
    pointwise []
  have hd : val_main_v45 x0 x1 x2 (ix5 b kv m n g) =
      ∑ d : Fin 64, proj x0 x1 x2 b m ⟨512 + (64 * kv.val + d.val), by omega⟩ *
        proj x0 x1 x2 b n ⟨64 * (head kv g).val + d.val, by omega⟩ := by
    rw [val_main_v45_apply]
    refine Finset.sum_congr rfl fun d _ => ?_
    rw [← v25_apply, ← v24_apply]
    congr 2 <;> idx_ext
  have hm : val_main_v60 x0 x1 x2 (ix5 b kv g n m) =
      Scalar.select (IntOp.cmpi .sle (val_main_v34 (F := Ideal) (ix2 n m)) (BitVec.ofNat 32 128))
        (val_main_v57 x0 x1 x2 (ix5 b kv g n m)) (Ideal.ofBits .f32 0xFF800000#32) := by
    unfold val_main_v60 val_main_call0_v1 val_main_v59 val_main_v58 val_main_c val_main_call0_v2 val_main_call0_v0 val_main_cst_7
    generalize val_main_v57 x0 x1 x2 = y
    generalize val_main_v34 (F := Ideal) = e
    pointwise []
    rfl
  have hg : gap n m ≤ 8192 := by unfold gap; omega
  rw [hm, hs, hd, v34_apply, v43_apply, word_nat, select_sle (by omega) (by omega) (by omega) (by omega),
    sitofp_word (by omega) (by omega), ofBits_bot]
  unfold winScore
  have hk : (head kv g).val / 4 = kv.val := by unfold head; dsimp only; omega
  simp only [hk, Int.cast_natCast, Nat.cast_le, Nat.cast_ofNat]
  congr 1
  norm_num

/-- The scores with the sink's as one more key. -/
theorem v64_key (b : Fin 8) (kv : Fin 2) (g : Fin 4) (n m : Fin 8192) :
    val_main_v64 x0 x1 x2 x4 (ix5 b kv g n ⟨m.val, by omega⟩) = winScore (proj x0 x1 x2 b) (head kv g) n m := by
  rw [← v60_apply]
  unfold val_main_v64
  generalize val_main_v60 x0 x1 x2 = y
  pointwise []

/-- The last score of a query is the sink of its head. -/
theorem v64_sink (b : Fin 8) (kv : Fin 2) (g : Fin 4) (n : Fin 8192) :
    val_main_v64 x0 x1 x2 x4 (ix5 b kv g n ⟨8192, by omega⟩) = x4 (ix2 0 (head kv g)) := by
  have h : val_main_v63 x4 (ix5 b kv g n 0) = x4 (ix2 0 (head kv g)) := by
    unfold head
    pointwise [val_main_v63, val_main_v62, val_main_v61, val_main_v27]
  rw [← h]
  unfold val_main_v64
  generalize val_main_v60 x0 x1 x2 = y
  generalize val_main_v63 x4 = y'
  pointwise []

/-- The largest of the scores and the sink's, as a fold. -/
theorem v65_apply (b : Fin 8) (kv : Fin 2) (g : Fin 4) (n : Fin 8192) :
    val_main_v65 x0 x1 x2 x4 (ix4 b kv g n) =
      Finset.univ.fold max (Ideal.ofBits .f32 0xFF800000#32)
        fun k : Fin 8193 => val_main_v64 x0 x1 x2 x4 (ix5 b kv g n k) := by
  unfold val_main_v65
  rw [Host.reduce_eq_fold_single _ _ _ _ (by decide)]
  congr 1
  funext k
  show val_main_v64 x0 x1 x2 x4 _ = _
  congr 1
  idx_ext

/-- The largest score of a query, the sink's among them. -/
theorem v67_apply (b : Fin 8) (kv : Fin 2) (g : Fin 4) (n : Fin 8192) :
    val_main_v67 x0 x1 x2 x4 (ix4 b kv g n) =
      maxWith (winScore (proj x0 x1 x2 b) (head kv g) n) (x4 (ix2 0 (head kv g))) := by
  rw [val_main_v67_apply, val_main_v66_apply, val_main_cst_9_apply, v65_apply, Ideal.maximumf_def, Ideal.ofBits_def, ofBits_bot,
    max_eq_right bot_le]
  exact fold_max_sink (n := 8192) (by omega) _ _ _ (fun m => v64_key x0 x1 x2 x4 b kv g n m) (v64_sink x0 x1 x2 x4 b kv g n)

/-- The exponential of a score less the largest. -/
theorem v71_apply (b : Fin 8) (kv : Fin 2) (g : Fin 4) (n : Fin 8192) (k : Fin 8193) :
    val_main_v71 x0 x1 x2 x4 (ix5 b kv g n k) =
      Ideal.exp (val_main_v64 x0 x1 x2 x4 (ix5 b kv g n k) - val_main_v67 x0 x1 x2 x4 (ix4 b kv g n)) := by
  unfold val_main_v71 val_main_v70 val_main_v69 val_main_v68
  generalize val_main_v64 x0 x1 x2 x4 = y
  generalize val_main_v67 x0 x1 x2 x4 = y'
  pointwise []

/-- The sum of a query's exponentials, the sink's last. -/
theorem v72_apply (b : Fin 8) (kv : Fin 2) (g : Fin 4) (n : Fin 8192) :
    val_main_v72 x0 x1 x2 x4 (ix4 b kv g n) =
      (∑ m : Fin 8192, val_main_v71 x0 x1 x2 x4 (ix5 b kv g n ⟨m.val, by omega⟩)) +
        val_main_v71 x0 x1 x2 x4 (ix5 b kv g n ⟨8192, by omega⟩) := by
  have h : val_main_v72 x0 x1 x2 x4 (ix4 b kv g n) = ∑ k : Fin 8193, val_main_v71 x0 x1 x2 x4 (ix5 b kv g n k) := by
    unfold val_main_v72
    generalize val_main_v71 x0 x1 x2 x4 = y
    pointwise [val_main_cst_10]
  rw [h, sum_last (n := 8192) rfl]

/-- The reference's windowed mixer is the plain one. -/
theorem v77_apply (b : Fin 8) (kv : Fin 2) (g : Fin 4) (n : Fin 8192) (d : Fin 64) :
    val_main_v77 x0 x1 x2 x4 (ix5 b kv d g n) =
      winOut (proj x0 x1 x2 b) (x4 (ix2 0 (head kv g))) (head kv g) n d := by
  have hk : (head kv g).val / 4 = kv.val := by unfold head; dsimp only; omega
  rw [val_main_v77_apply]
  unfold winOut
  refine Finset.sum_congr rfl fun m _ => ?_
  have hl : lidx_main_v77 (ix5 b kv d g n) m = ix4 b m kv d := by idx_ext
  have hr : ridx_main_v77 (ix5 b kv d g n) m = ix5 b kv g n m := by idx_ext
  have hp : val_main_v76 x0 x1 x2 x4 (ix5 b kv g n m) =
      Ideal.div (val_main_v71 x0 x1 x2 x4 (ix5 b kv g n ⟨m.val, by omega⟩)) (val_main_v72 x0 x1 x2 x4 (ix4 b kv g n)) := by
    unfold val_main_v76 val_main_v75 val_main_v74 val_main_v73
    generalize val_main_v71 x0 x1 x2 x4 = y
    generalize val_main_v72 x0 x1 x2 x4 = y'
    pointwise []
  rw [hl, hr, hp, v26_apply, v72_apply]
  simp only [v71_apply, v64_key, v64_sink, v67_apply, hk]

/-- The windowed mixer of the reference. -/
theorem v79_apply (b : Fin 8) (n : Fin 8192) (h : Fin 8) (d : Fin 64) :
    val_main_v79 x0 x1 x2 x4 (ix3 b n ⟨64 * h.val + d.val, by omega⟩) =
      winOut (proj x0 x1 x2 b) (x4 (ix2 0 h)) h n d := by
  have e : head ⟨h.val / 4, by omega⟩ ⟨h.val % 4, by omega⟩ = h := by unfold head; ext; dsimp only; omega
  have hv := v77_apply x0 x1 x2 x4 b ⟨h.val / 4, by omega⟩ ⟨h.val % 4, by omega⟩ n d
  rw [e] at hv
  rw [← hv, val_main_v79_apply, val_main_v78_apply]
  congr 1; idx_ext

end Cert.ReferenceIdeal.Plain
-- ==== Proof.RefNbr.lean ====
/- The reference's neighborhood mixer, read as the plain one: the neighbors' tokens and relative positions it computes
   in words, the gathers by them, and the softmax. -/
module

public import proofs.«01_k».proof.Proof.RefProj
public import proofs.«01_k».proof.Proof.Words

@[expose] public section

set_option maxRecDepth 16384

noncomputable section

namespace Cert.ReferenceIdeal.Plain

open Idealize.ShloMosaic Idealize.ShloMosaic.TcCoe
open Cert.ReferenceIdeal Cert.ReferenceIdeal.Gen Cert.ReferenceIdeal.Read Cert.Layer Cert.Words

variable (x0 : (⟨S8x8192x1024, .f32⟩ : BufTy).Contents (Elt Ideal)) (x1 : (⟨S1x1024, .f32⟩ : BufTy).Contents (Elt Ideal))
  (x2 : (⟨S1x1024x4352, .f32⟩ : BufTy).Contents (Elt Ideal)) (x5 : (⟨S1x8x15x31, .f32⟩ : BufTy).Contents (Elt Ideal))

/-- The queries of the neighborhood mixer. -/
theorem v80_apply (b : Fin 8) (n : Fin 8192) (h : Fin 8) (d : Fin 64) :
    val_main_v80 x0 x1 x2 (ix4 b n h d) = proj x0 x1 x2 b n ⟨768 + (64 * h.val + d.val), by omega⟩ := by
  rw [val_main_v80_apply, val_main_v19_apply, ← v15_apply]
  congr 1; idx_ext

/-- Its keys. -/
theorem v81_apply (b : Fin 8) (n : Fin 8192) (h : Fin 8) (d : Fin 64) :
    val_main_v81 x0 x1 x2 (ix4 b n h d) = proj x0 x1 x2 b n ⟨1280 + (64 * h.val + d.val), by omega⟩ := by
  rw [val_main_v81_apply, val_main_v20_apply, ← v15_apply]
  congr 1; idx_ext

/-- Its values. -/
theorem v82_apply (b : Fin 8) (n : Fin 8192) (h : Fin 8) (d : Fin 64) :
    val_main_v82 x0 x1 x2 (ix4 b n h d) = proj x0 x1 x2 b n ⟨1792 + (64 * h.val + d.val), by omega⟩ := by
  rw [val_main_v82_apply, val_main_v21_apply, ← v15_apply]
  congr 1; idx_ext

/-- The first rows of the neighborhoods, as words. -/
theorem v88_apply (r : Fin 128) : val_main_v88 (F := Ideal) (ix1 r) = word (row0 r.val : Nat) := by
  have h : val_main_v88 (F := Ideal) (ix1 r) = IntOp.minsi (BitVec.ofNat 32 120) (IntOp.maxsi (BitVec.ofNat 32 0)
      (IntOp.subi (BitVec.ofNat 32 r.val) (BitVec.ofNat 32 4))) := by
    pointwise [val_main_v88, val_main_call1_v4, val_main_call1_v3, val_main_call1_v2, val_main_call1_v1, val_main_call1_v0,
      val_main_c_13, val_main_c_12, val_main_v87, val_main_v86, val_main_c_11, val_main_v84]
    rfl
  rw [h, word_nat, word_nat, word_nat, word_nat, word_sub, word_max (by omega) (by omega) (by omega) (by omega),
    word_min (by omega) (by omega) (by omega) (by omega)]
  congr 1
  unfold row0
  omega

/-- The first columns of the neighborhoods, as words. -/
theorem v97_apply (q : Fin 64) : val_main_v97 (F := Ideal) (ix1 q) = word (col0 q.val : Nat) := by
  have h : val_main_v97 (F := Ideal) (ix1 q) = IntOp.minsi (BitVec.ofNat 32 48) (IntOp.maxsi (BitVec.ofNat 32 0)
      (IntOp.subi (BitVec.ofNat 32 q.val) (BitVec.ofNat 32 8))) := by
    pointwise [val_main_v97, val_main_call2_v4, val_main_call2_v3, val_main_call2_v2, val_main_call2_v1, val_main_call2_v0,
      val_main_c_16, val_main_c_15, val_main_v96, val_main_v95, val_main_c_14, val_main_v85]
    rfl
  rw [h, word_nat, word_nat, word_nat, word_nat, word_sub, word_max (by omega) (by omega) (by omega) (by omega),
    word_min (by omega) (by omega) (by omega) (by omega)]
  congr 1
  unfold col0
  omega

/-- The rows of the neighborhoods. -/
theorem v94_apply (r : Fin 128) (kr : Fin 8) : val_main_v94 (F := Ideal) (ix2 r kr) = word (row0 r.val + kr.val : Nat) := by
  have h : val_main_v94 (F := Ideal) (ix2 r kr) = IntOp.addi (val_main_v88 (F := Ideal) (ix1 r)) (BitVec.ofNat 32 kr.val) := by
    unfold val_main_v94 val_main_v92 val_main_v93 val_main_v89 val_main_v91 val_main_v90
    generalize val_main_v88 (F := Ideal) = y
    pointwise []
  rw [h, v88_apply, word_nat, word_add]
  push_cast; rfl

/-- The columns of the neighborhoods. -/
theorem v103_apply (q : Fin 64) (kc : Fin 16) : val_main_v103 (F := Ideal) (ix2 q kc) = word (col0 q.val + kc.val : Nat) := by
  have h : val_main_v103 (F := Ideal) (ix2 q kc) = IntOp.addi (val_main_v97 (F := Ideal) (ix1 q)) (BitVec.ofNat 32 kc.val) := by
    unfold val_main_v103 val_main_v101 val_main_v102 val_main_v98 val_main_v100 val_main_v99
    generalize val_main_v97 (F := Ideal) = y
    pointwise []
  rw [h, v97_apply, word_nat, word_add]
  push_cast; rfl

/-- The neighbors' tokens. -/
theorem v121_apply (n : Fin 8192) (j : Fin 128) : val_main_v121 (F := Ideal) (ix2 n j) = word (tok n.val j.val : Nat) := by
  have e : val_main_v121 (F := Ideal) (ix2 n j) =
      val_main_v120 (F := Ideal) (ix4 ⟨n.val / 64, by omega⟩ ⟨n.val % 64, by omega⟩ ⟨j.val / 16, by omega⟩ ⟨j.val % 16, by omega⟩) := by
    rw [val_main_v121_apply]; congr 1; idx_ext
  have h : ∀ (r : Fin 128) (q : Fin 64) (kr : Fin 8) (kc : Fin 16), val_main_v120 (F := Ideal) (ix4 r q kr kc) =
      IntOp.addi (IntOp.muli (val_main_v94 (F := Ideal) (ix2 r kr)) (BitVec.ofNat 32 64)) (val_main_v103 (F := Ideal) (ix2 q kc)) := by
    intro r q kr kc
    unfold val_main_v120 val_main_v118 val_main_v119 val_main_v117 val_main_v116 val_main_v114 val_main_v115 val_main_c_19
    generalize val_main_v94 (F := Ideal) = y
    generalize val_main_v103 (F := Ideal) = y'
    pointwise []
  rw [e, h, v94_apply, v103_apply, word_nat, word_mul, word_add]
  unfold tok
  push_cast; rfl

/-- The places of the relative positions in a head's table. -/
theorem v129_apply (n : Fin 8192) (j : Fin 128) :
    val_main_v129 (F := Ideal) (ix2 n j) = word (relRow n.val j.val * 31 + relCol n.val j.val : Nat) := by
  have e : val_main_v129 (F := Ideal) (ix2 n j) =
      val_main_v128 (F := Ideal) (ix4 ⟨n.val / 64, by omega⟩ ⟨n.val % 64, by omega⟩ ⟨j.val / 16, by omega⟩ ⟨j.val % 16, by omega⟩) := by
    rw [val_main_v129_apply]; congr 1; idx_ext
  have h : ∀ (r : Fin 128) (q : Fin 64) (kr : Fin 8) (kc : Fin 16), val_main_v128 (F := Ideal) (ix4 r q kr kc) =
      IntOp.addi (IntOp.muli (IntOp.addi (IntOp.subi (val_main_v94 (F := Ideal) (ix2 r kr)) (BitVec.ofNat 32 r.val)) (BitVec.ofNat 32 7))
          (BitVec.ofNat 32 31))
        (IntOp.addi (IntOp.subi (val_main_v103 (F := Ideal) (ix2 q kc)) (BitVec.ofNat 32 q.val)) (BitVec.ofNat 32 15)) := by
    intro r q kr kc
    unfold val_main_v128 val_main_v126 val_main_v127 val_main_v125 val_main_v124 val_main_v122 val_main_v123 val_main_c_20
      val_main_v108 val_main_v107 val_main_c_17 val_main_v106 val_main_v105 val_main_v104 val_main_v84
      val_main_v113 val_main_v112 val_main_c_18 val_main_v111 val_main_v110 val_main_v109 val_main_v85
    generalize val_main_v94 (F := Ideal) = y
    generalize val_main_v103 (F := Ideal) = y'
    pointwise []
  rw [e, h, v94_apply, v103_apply]
  simp only [word_nat, word_sub, word_add, word_mul]
  congr 1
  unfold relRow relCol row0 col0
  omega

/-- An index that is not negative is taken as it is. -/
theorem v135_apply (n : Fin 8192) (j : Fin 128) : val_main_v135 (F := Ideal) (ix3 n j 0) = word (tok n.val j.val : Nat) := by
  have ht := tok_lt n j
  have h : val_main_v135 (F := Ideal) (ix3 n j 0) = Scalar.select (IntOp.cmpi .slt (val_main_v121 (F := Ideal) (ix2 n j)) (BitVec.ofNat 32 0))
      (IntOp.addi (val_main_v121 (F := Ideal) (ix2 n j)) (BitVec.ofNat 32 8192)) (val_main_v121 (F := Ideal) (ix2 n j)) := by
    unfold val_main_v135 val_main_v134 val_main_v133 val_main_v132 val_main_v131 val_main_v130 val_main_c_21 val_main_c_22
    generalize val_main_v121 (F := Ideal) = y
    pointwise []
  rw [h, v121_apply, word_nat, select_slt (by omega) (by omega) (by omega) (by omega), if_neg (by omega)]

/-- The values are gathered by the same indices as the keys. -/
theorem v167_eq : val_main_v167 (F := Ideal) = val_main_v135 (F := Ideal) := rfl

/-- The flat index of a relative position, as a word. -/
theorem v146_apply (n : Fin 8192) (j : Fin 128) :
    val_main_v146 (F := Ideal) (ix3 n j 0) = word (relRow n.val j.val * 31 + relCol n.val j.val : Nat) := by
  have hr := relRow_lt n j
  have hc := relCol_lt n j
  have h : val_main_v146 (F := Ideal) (ix3 n j 0) = Scalar.select (IntOp.cmpi .slt (val_main_v129 (F := Ideal) (ix2 n j)) (BitVec.ofNat 32 0))
      (IntOp.addi (val_main_v129 (F := Ideal) (ix2 n j)) (BitVec.ofNat 32 465)) (val_main_v129 (F := Ideal) (ix2 n j)) := by
    unfold val_main_v146 val_main_v145 val_main_v144 val_main_v143 val_main_v142 val_main_v141 val_main_c_24 val_main_c_25
    generalize val_main_v129 (F := Ideal) = y
    pointwise []
  rw [h, v129_apply, word_nat, select_slt (by omega) (by omega) (by omega) (by omega), if_neg (by omega)]

/-- A gather by the neighbors' tokens. -/
theorem gatherTok (x : S8x8192x8x64.Idx → EReal) (b : Fin 8) (n : Fin 8192) (j : Fin 128) (h : Fin 8) (d : Fin 64) :
    Host.gather gather_S8x8192x8x64_S8192x128x1_S8x8192x128x8x64_034_1_n_n_1_2_81864 x (val_main_v135 (F := Ideal)) (ix5 b n j h d) =
      x (ix4 b ⟨tok n j, tok_lt n j⟩ h d) := by
  have ht := tok_lt n j
  refine gather_eq _ _ _ _ _ fun a => ?_
  fin_cases a
  · show 0 + 0 + b.val = b.val
    omega
  · show min (val_main_v135 (F := Ideal) _).toInt.toNat 8191 + 0 + 0 = tok n j
    rw [show ∀ i : S8192x128x1.Idx, i = ix3 n j 0 → val_main_v135 (F := Ideal) i = word (tok n.val j.val : Nat) from
      fun i hi => by rw [hi, v135_apply]]
    · rw [clamp_word (by omega) (by omega)]; rfl
    · funext b; fin_cases b <;> rfl
  · show 0 + 0 + h.val = h.val
    omega
  · show 0 + 0 + d.val = d.val
    omega

/-- A gather by the places of the relative positions. -/
theorem gatherPlace (x : S8x465.Idx → EReal) (n : Fin 8192) (j : Fin 128) (h : Fin 8) :
    Host.gather gather_S8x465_S8192x128x1_S8x8192x128_0_1_n_n_1_2_81 x (val_main_v146 (F := Ideal)) (ix3 h n j) =
      x (ix2 h ⟨relRow n j * 31 + relCol n j, by have := relRow_lt n j; have := relCol_lt n j; omega⟩) := by
  have hr := relRow_lt n j
  have hc := relCol_lt n j
  refine gather_eq _ _ _ _ _ fun a => ?_
  fin_cases a
  · show 0 + 0 + h.val = h.val
    omega
  · show min (val_main_v146 (F := Ideal) _).toInt.toNat 464 + 0 + 0 = relRow n j * 31 + relCol n j
    rw [show ∀ i : S8192x128x1.Idx, i = ix3 n j 0 → val_main_v146 (F := Ideal) i = word (relRow n.val j.val * 31 + relCol n.val j.val : Nat) from
      fun i hi => by rw [hi, v146_apply]]
    · rw [clamp_word (by omega) (by omega)]; rfl
    · funext b; fin_cases b <;> rfl

/-- The biases of the relative positions, by head, row and column. -/
def bias (h : Fin 8) (r : Fin 15) (q : Fin 31) : EReal := x5 (ix4 0 h r q)

/-- The bias of neighbor `j` of token `n`. -/
theorem v147_apply (h : Fin 8) (n : Fin 8192) (j : Fin 128) :
    val_main_v147 x5 (ix3 h n j) = bias x5 h ⟨relRow n j, relRow_lt n j⟩ ⟨relCol n j, relCol_lt n j⟩ := by
  unfold val_main_v147
  rw [gatherPlace, val_main_v140_apply, val_main_v83_apply]
  unfold bias
  have hr := relRow_lt n j
  have hc := relCol_lt n j
  congr 1
  funext a
  fin_cases a <;> refine Fin.ext ?_ <;> dsimp <;> omega

/-- The scores of the neighborhood mixer. -/
theorem v150_apply (b : Fin 8) (h : Fin 8) (n : Fin 8192) (j : Fin 128) :
    val_main_v150 x0 x1 x2 x5 (ix4 b h n j) = nbrScore (proj x0 x1 x2 b) (bias x5) h n j := by
  have hs : val_main_v150 x0 x1 x2 x5 (ix4 b h n j) = val_main_v137 x0 x1 x2 (ix4 b h n j) * eighth + val_main_v147 x5 (ix3 h n j) := by
    unfold val_main_v150 val_main_v149 val_main_v148 val_main_v139 val_main_v138 val_main_cst_23 eighth
    generalize val_main_v137 x0 x1 x2 = y
    generalize val_main_v147 x5 = y'
    pointwise []
  rw [hs, val_main_v137_apply, v147_apply]
  unfold nbrScore
  congr 2
  refine Finset.sum_congr rfl fun d _ => ?_
  have hl : lidx_main_v137 (ix4 b h n j) d = ix4 b n h d := by idx_ext
  have hr : ridx_main_v137 (ix4 b h n j) d = ix5 b n j h d := by idx_ext
  rw [hl, hr, v80_apply]
  unfold val_main_v136
  rw [gatherTok, v81_apply]

/-- The largest score of a query, as a fold. -/
theorem v151_apply (b : Fin 8) (h : Fin 8) (n : Fin 8192) :
    val_main_v151 x0 x1 x2 x5 (ix3 b h n) =
      Finset.univ.fold max (Ideal.ofBits .f32 0xFF800000#32) fun j : Fin 128 => val_main_v150 x0 x1 x2 x5 (ix4 b h n j) := by
  unfold val_main_v151
  generalize val_main_v150 x0 x1 x2 x5 = y
  rw [Host.reduce_eq_fold_single _ _ _ _ (by decide)]
  refine congrArg (fun f => Finset.univ.fold max (Ideal.ofBits .f32 0xFF800000#32) f) (funext fun j => ?_)
  show y _ = _
  congr 1
  idx_ext

/-- The largest score of a query. -/
theorem v153_apply (b : Fin 8) (h : Fin 8) (n : Fin 8192) :
    val_main_v153 x0 x1 x2 x5 (ix3 b h n) = maxOf (nbrScore (proj x0 x1 x2 b) (bias x5) h n) := by
  rw [val_main_v153_apply, val_main_v152_apply, val_main_cst_27_apply, v151_apply, Ideal.maximumf_def, Ideal.ofBits_def, ofBits_bot,
    max_eq_right bot_le]
  unfold maxOf
  simp only [v150_apply]

/-- The exponential of a score less the largest. -/
theorem v157_apply (b : Fin 8) (h : Fin 8) (n : Fin 8192) (j : Fin 128) :
    val_main_v157 x0 x1 x2 x5 (ix4 b h n j) =
      Ideal.exp (val_main_v150 x0 x1 x2 x5 (ix4 b h n j) - val_main_v153 x0 x1 x2 x5 (ix3 b h n)) := by
  unfold val_main_v157 val_main_v156 val_main_v155 val_main_v154
  generalize val_main_v150 x0 x1 x2 x5 = y
  generalize val_main_v153 x0 x1 x2 x5 = y'
  pointwise []

/-- The weight of a neighbor: its exponential over the sum of them. -/
theorem v161_apply (b : Fin 8) (h : Fin 8) (n : Fin 8192) (j : Fin 128) :
    val_main_v161 x0 x1 x2 x5 (ix4 b h n j) =
      Ideal.div (val_main_v157 x0 x1 x2 x5 (ix4 b h n j)) (∑ j : Fin 128, val_main_v157 x0 x1 x2 x5 (ix4 b h n j)) := by
  unfold val_main_v161 val_main_v160 val_main_v159 val_main_v158 val_main_cst_28
  generalize val_main_v157 x0 x1 x2 x5 = y
  pointwise []

/-- The reference's neighborhood mixer is the plain one. -/
theorem v170_apply (b : Fin 8) (n : Fin 8192) (h : Fin 8) (d : Fin 64) :
    val_main_v170 x0 x1 x2 x5 (ix3 b n ⟨64 * h.val + d.val, by omega⟩) = nbrOut (proj x0 x1 x2 b) (bias x5) h n d := by
  have e : val_main_v170 x0 x1 x2 x5 (ix3 b n ⟨64 * h.val + d.val, by omega⟩) = val_main_v169 x0 x1 x2 x5 (ix4 b n h d) := by
    rw [val_main_v170_apply]; congr 1; idx_ext
  rw [e, val_main_v169_apply]
  unfold nbrOut
  refine Finset.sum_congr rfl fun j _ => ?_
  have hl : lidx_main_v169 (ix4 b n h d) j = ix4 b h n j := by idx_ext
  have hr : ridx_main_v169 (ix4 b n h d) j = ix5 b n j h d := by idx_ext
  rw [hl, hr]
  unfold val_main_v168
  rw [v167_eq, gatherTok, v82_apply, v161_apply]
  simp only [v157_apply, v150_apply, v153_apply]

end Cert.ReferenceIdeal.Plain
-- ==== Proof.RefTail.lean ====
/- The reference from the mixers' outputs to the result, read as the plain second half of the layer. -/
module

public import proofs.«01_k».proof.Proof.RefProj

@[expose] public section

set_option maxRecDepth 16384

noncomputable section

namespace Cert.ReferenceIdeal.Plain

open Idealize.ShloMosaic Idealize.ShloMosaic.TcCoe
open Cert.ReferenceIdeal Cert.ReferenceIdeal.Gen Cert.ReferenceIdeal.Read Cert.Layer

variable (x0 : (⟨S8x8192x1024, .f32⟩ : BufTy).Contents (Elt Ideal)) (x1 : (⟨S1x1024, .f32⟩ : BufTy).Contents (Elt Ideal))
  (x2 : (⟨S1x1024x4352, .f32⟩ : BufTy).Contents (Elt Ideal)) (x3 : (⟨S1x2048, .f32⟩ : BufTy).Contents (Elt Ideal))
  (x4 : (⟨S1x8, .f32⟩ : BufTy).Contents (Elt Ideal)) (x5 : (⟨S1x8x15x31, .f32⟩ : BufTy).Contents (Elt Ideal))
  (x6 : (⟨S1x512x1024, .f32⟩ : BufTy).Contents (Elt Ideal)) (x7 : (⟨S1x512x1024, .f32⟩ : BufTy).Contents (Elt Ideal))
  (x8 : (⟨S1x1024x1024, .f32⟩ : BufTy).Contents (Elt Ideal)) (x9 : (⟨S1x1024, .f32⟩ : BufTy).Contents (Elt Ideal))
  (x10 : (⟨S1x1024x4096, .f32⟩ : BufTy).Contents (Elt Ideal)) (x11 : (⟨S1x4096x1024, .f32⟩ : BufTy).Contents (Elt Ideal))
  (x12 : (⟨S1024, .f32⟩ : BufTy).Contents (Elt Ideal))

/-- A gate of token `n`. -/
def gateAt (b : Fin 8) (n : Fin 8192) (j : Fin 2048) : EReal :=
  Ideal.logistic (proj x0 x1 x2 b n ⟨2304 + j.val, by omega⟩ + x3 (ix2 0 j))

/-- The logits of the first gate are columns 2304 to 3327 of the projection. -/
theorem v22_apply (b : Fin 8) (n : Fin 8192) (j : Fin 1024) : val_main_v22 x0 x1 x2 (ix3 b n j) = proj x0 x1 x2 b n ⟨2304 + j.val, by omega⟩ := by
  rw [val_main_v22_apply, ← v15_apply]; congr 1; idx_ext

/-- The logits of the second gate are columns 3328 to 4351 of the projection. -/
theorem v23_apply (b : Fin 8) (n : Fin 8192) (j : Fin 1024) : val_main_v23 x0 x1 x2 (ix3 b n j) = proj x0 x1 x2 b n ⟨3328 + j.val, by omega⟩ := by
  rw [val_main_v23_apply, ← v15_apply]; congr 1; idx_ext

/-- The first mixer's gate. -/
theorem v182_apply (b : Fin 8) (n : Fin 8192) (j : Fin 1024) :
    val_main_v182 x0 x1 x2 x3 (ix3 b n j) = gateAt x0 x1 x2 x3 b n ⟨j.val, by omega⟩ := by
  unfold gateAt Ideal.logistic
  rw [← v22_apply]
  unfold val_main_v182 val_main_v181 val_main_v180 val_main_v179 val_main_v178 val_main_v177 val_main_v176 val_main_v175 val_main_v174
    val_main_v173 val_main_v172 val_main_v171 val_main_cst_31 val_main_cst_32
  generalize val_main_v22 x0 x1 x2 = y
  generalize val_main_v23 x0 x1 x2 = y'
  pointwise []

/-- The second mixer's gate. -/
theorem v186_apply (b : Fin 8) (n : Fin 8192) (j : Fin 1024) :
    val_main_v186 x0 x1 x2 x3 (ix3 b n j) = gateAt x0 x1 x2 x3 b n ⟨1024 + j.val, by omega⟩ := by
  have e := v23_apply x0 x1 x2 b n j
  unfold gateAt Ideal.logistic
  rw [show (⟨2304 + (1024 + j.val), by omega⟩ : Fin 4352) = ⟨3328 + j.val, by omega⟩ from Fin.ext (by dsimp only; omega), ← v23_apply]
  unfold val_main_v186 val_main_v181 val_main_v180 val_main_v179 val_main_v178 val_main_v177 val_main_v176 val_main_v175 val_main_v174
    val_main_v173 val_main_v172 val_main_v171 val_main_cst_31 val_main_cst_32
  generalize val_main_v22 x0 x1 x2 = y
  generalize val_main_v23 x0 x1 x2 = y'
  pointwise []

/-- The first mixer's output through its matrix. -/
theorem v184_apply (b : Fin 8) (n : Fin 8192) (j : Fin 1024) :
    val_main_v184 x0 x1 x2 x4 x6 (ix3 b n j) =
      rowMul (fun k : Fin 512 => val_main_v79 x0 x1 x2 x4 (ix3 b n k)) (fun k j => x6 (ix3 0 k j)) j := by
  unfold rowMul
  rw [val_main_v184_apply]
  refine Finset.sum_congr rfl fun k _ => ?_
  rw [val_main_v183_apply]
  exact congrArg₂ (· * ·) (congrArg _ (by idx_ext)) (congrArg _ (by idx_ext))

/-- The second mixer's. -/
theorem v188_apply (b : Fin 8) (n : Fin 8192) (j : Fin 1024) :
    val_main_v188 x0 x1 x2 x5 x7 (ix3 b n j) =
      rowMul (fun k : Fin 512 => val_main_v170 x0 x1 x2 x5 (ix3 b n k)) (fun k j => x7 (ix3 0 k j)) j := by
  unfold rowMul
  rw [val_main_v188_apply]
  refine Finset.sum_congr rfl fun k _ => ?_
  rw [val_main_v187_apply]
  exact congrArg₂ (· * ·) (congrArg _ (by idx_ext)) (congrArg _ (by idx_ext))

/-- The first mixer's row through its matrix. -/
def pa (b : Fin 8) (n : Fin 8192) (j : Fin 1024) : EReal :=
  rowMul (fun k : Fin 512 => val_main_v79 x0 x1 x2 x4 (ix3 b n k)) (fun k j => x6 (ix3 0 k j)) j

/-- The second mixer's row through its matrix. -/
def pb (b : Fin 8) (n : Fin 8192) (j : Fin 1024) : EReal :=
  rowMul (fun k : Fin 512 => val_main_v170 x0 x1 x2 x5 (ix3 b n k)) (fun k j => x7 (ix3 0 k j)) j

/-- The token after the mixers. -/
def x1At (b : Fin 8) (n : Fin 8192) : Fin 1024 → EReal :=
  afterMix (fun j => x0 (ix3 b n j)) (fun j => gateAt x0 x1 x2 x3 b n ⟨j.val, by omega⟩)
    (fun j => gateAt x0 x1 x2 x3 b n ⟨1024 + j.val, by omega⟩) (pa x0 x1 x2 x4 x6 b n) (pb x0 x1 x2 x5 x7 b n)
    fun k j => x8 (ix3 0 k j)

/-- The token after the mixers. -/
theorem v193_apply (b : Fin 8) (n : Fin 8192) (j : Fin 1024) :
    val_main_v193 x0 x1 x2 x3 x4 x5 x6 x7 x8 (ix3 b n j) = x1At x0 x1 x2 x3 x4 x5 x6 x7 x8 b n j := by
  have hm : ∀ k, val_main_v190 x0 x1 x2 x3 x4 x5 x6 x7 (ix3 b n k) =
      merged (fun j => gateAt x0 x1 x2 x3 b n ⟨j.val, by omega⟩) (fun j => gateAt x0 x1 x2 x3 b n ⟨1024 + j.val, by omega⟩)
        (pa x0 x1 x2 x4 x6 b n) (pb x0 x1 x2 x5 x7 b n) k := fun k => by
    unfold merged pa pb
    beta_reduce
    rw [← v182_apply, ← v186_apply, ← v184_apply, ← v188_apply]
    rw [val_main_v190_apply, val_main_v185_apply, val_main_v189_apply]
    rfl
  unfold x1At afterMix rowMul
  rw [val_main_v193_apply, Ideal.addf_def, val_main_v192_apply]
  refine congrArg (x0 (ix3 b n j) + ·) (Finset.sum_congr rfl fun k _ => ?_)
  rw [val_main_v191_apply, ← hm]
  exact congrArg₂ (· * ·) (congrArg _ (by idx_ext)) (congrArg _ (by idx_ext))

/-- The token after the mixers, normalised. -/
theorem v207_apply (b : Fin 8) (n : Fin 8192) (j : Fin 1024) :
    val_main_v207 x0 x1 x2 x3 x4 x5 x6 x7 x8 x9 (ix3 b n j) =
      rms (x1At x0 x1 x2 x3 x4 x5 x6 x7 x8 b n) (fun k => x9 (ix2 0 k)) j := by
  unfold rms
  simp only [← v193_apply]
  unfold val_main_v207 val_main_v206 val_main_v205 val_main_v204 val_main_v203 val_main_v202 val_main_v201 val_main_v200 val_main_v199
    val_main_v198 val_main_v197 val_main_v196 val_main_v195 val_main_v194 val_main_cst_33 val_main_cst_34 val_main_cst_35
  generalize val_main_v193 x0 x1 x2 x3 x4 x5 x6 x7 x8 = y
  pointwise []

/-- The squared rectifier of the network's first product. -/
theorem v211_apply (b : Fin 8) (n : Fin 8192) (f : Fin 4096) :
    val_main_v211 x0 x1 x2 x3 x4 x5 x6 x7 x8 x9 x10 (ix3 b n f) =
      sqRelu (rowMul (rms (x1At x0 x1 x2 x3 x4 x5 x6 x7 x8 b n) fun k => x9 (ix2 0 k)) (fun k f => x10 (ix3 0 k f)) f) := by
  have h : val_main_v209 x0 x1 x2 x3 x4 x5 x6 x7 x8 x9 x10 (ix3 b n f) =
      rowMul (rms (x1At x0 x1 x2 x3 x4 x5 x6 x7 x8 b n) fun k => x9 (ix2 0 k)) (fun k f => x10 (ix3 0 k f)) f := by
    unfold rowMul
    rw [val_main_v209_apply]
    refine Finset.sum_congr rfl fun k _ => ?_
    rw [val_main_v208_apply, ← v207_apply]
    exact congrArg₂ (· * ·) (congrArg _ (by idx_ext)) (congrArg _ (by idx_ext))
  rw [← h]
  unfold sqRelu val_main_v211 val_main_v210 val_main_call3_v0 val_main_call3_cst
  generalize val_main_v209 x0 x1 x2 x3 x4 x5 x6 x7 x8 x9 x10 = y
  pointwise []

/-- The token after the network. -/
theorem v214_apply (b : Fin 8) (n : Fin 8192) (j : Fin 1024) :
    val_main_v214 x0 x1 x2 x3 x4 x5 x6 x7 x8 x9 x10 x11 (ix3 b n j) =
      afterMlp (x1At x0 x1 x2 x3 x4 x5 x6 x7 x8 b n) (fun k => x9 (ix2 0 k)) (fun k f => x10 (ix3 0 k f))
        (fun f j => x11 (ix3 0 f j)) j := by
  unfold afterMlp
  rw [val_main_v214_apply, Ideal.addf_def, v193_apply, val_main_v213_apply]
  refine congrArg (x1At x0 x1 x2 x3 x4 x5 x6 x7 x8 b n j + ·) (Finset.sum_congr rfl fun f _ => ?_)
  rw [val_main_v212_apply, ← v211_apply]
  exact congrArg₂ (· * ·) (congrArg _ (by idx_ext)) (congrArg _ (by idx_ext))

/-- The reference's result is the plain second half of the layer over its mixers' outputs. -/
theorem v227_apply (b : Fin 8) (n : Fin 8192) (j : Fin 1024) :
    val_main_v227 x0 x1 x2 x3 x4 x5 x6 x7 x8 x9 x10 x11 x12 (ix3 b n j) =
      tail (fun j => x0 (ix3 b n j)) (fun j => gateAt x0 x1 x2 x3 b n ⟨j.val, by omega⟩)
        (fun j => gateAt x0 x1 x2 x3 b n ⟨1024 + j.val, by omega⟩) (pa x0 x1 x2 x4 x6 b n) (pb x0 x1 x2 x5 x7 b n)
        (fun k j => x8 (ix3 0 k j)) (fun k => x9 (ix2 0 k)) (fun k f => x10 (ix3 0 k f)) (fun f j => x11 (ix3 0 f j))
        (fun k => x12 (ix1 k)) j := by
  unfold tail
  show _ = rms (afterMlp (x1At x0 x1 x2 x3 x4 x5 x6 x7 x8 b n) (fun k => x9 (ix2 0 k)) (fun k f => x10 (ix3 0 k f))
        fun f j => x11 (ix3 0 f j)) (fun k => x12 (ix1 k)) j
  unfold rms
  simp only [← v214_apply]
  unfold val_main_v227 val_main_v226 val_main_v225 val_main_v224 val_main_v223 val_main_v222 val_main_v221 val_main_v220 val_main_v219
    val_main_v218 val_main_v217 val_main_v216 val_main_v215 val_main_cst_36 val_main_cst_37 val_main_cst_38
  generalize val_main_v214 x0 x1 x2 x3 x4 x5 x6 x7 x8 x9 x10 x11 = y
  pointwise []

end Cert.ReferenceIdeal.Plain
-- ==== Proof.RefValue.lean ====
/- The reference's result, read as the plain layer. -/
module

public import proofs.«01_k».proof.Proof.RefWin
public import proofs.«01_k».proof.Proof.RefNbr
public import proofs.«01_k».proof.Proof.RefTail
public import proofs.«01_k».proof.Proof.LayerWhole

@[expose] public section

set_option maxRecDepth 16384

noncomputable section

namespace Cert.ReferenceIdeal.Plain

open Idealize.ShloMosaic Idealize.ShloMosaic.TcCoe
open Cert.ReferenceIdeal Cert.ReferenceIdeal.Gen Cert.ReferenceIdeal.Read Cert.Layer

variable (x0 : (⟨S8x8192x1024, .f32⟩ : BufTy).Contents (Elt Ideal)) (x1 : (⟨S1x1024, .f32⟩ : BufTy).Contents (Elt Ideal))
  (x2 : (⟨S1x1024x4352, .f32⟩ : BufTy).Contents (Elt Ideal)) (x3 : (⟨S1x2048, .f32⟩ : BufTy).Contents (Elt Ideal))
  (x4 : (⟨S1x8, .f32⟩ : BufTy).Contents (Elt Ideal)) (x5 : (⟨S1x8x15x31, .f32⟩ : BufTy).Contents (Elt Ideal))
  (x6 : (⟨S1x512x1024, .f32⟩ : BufTy).Contents (Elt Ideal)) (x7 : (⟨S1x512x1024, .f32⟩ : BufTy).Contents (Elt Ideal))
  (x8 : (⟨S1x1024x1024, .f32⟩ : BufTy).Contents (Elt Ideal)) (x9 : (⟨S1x1024, .f32⟩ : BufTy).Contents (Elt Ideal))
  (x10 : (⟨S1x1024x4096, .f32⟩ : BufTy).Contents (Elt Ideal)) (x11 : (⟨S1x4096x1024, .f32⟩ : BufTy).Contents (Elt Ideal))
  (x12 : (⟨S1024, .f32⟩ : BufTy).Contents (Elt Ideal))

/-- The windowed mixer through its matrix. -/
theorem pa_heads (b : Fin 8) (n : Fin 8192) (j : Fin 1024) :
    pa x0 x1 x2 x4 x6 b n j =
      heads (fun h d => winOut (proj x0 x1 x2 b) (x4 (ix2 0 h)) h n d) (fun k j => x6 (ix3 0 k j)) j :=
  rowMul_heads _ _ _ _ (Equiv.refl _) j (fun g d => v79_apply x0 x1 x2 x4 b n g d) (fun g d => rfl)

/-- The neighborhood mixer through its matrix. -/
theorem pb_heads (b : Fin 8) (n : Fin 8192) (j : Fin 1024) :
    pb x0 x1 x2 x5 x7 b n j = heads (fun h d => nbrOut (proj x0 x1 x2 b) (bias x5) h n d) (fun k j => x7 (ix3 0 k j)) j :=
  rowMul_heads _ _ _ _ (Equiv.refl _) j (fun g d => v170_apply x0 x1 x2 x5 b n g d) (fun g d => rfl)

/-- The reference's result is the layer. -/
theorem v227_layer (b : Fin 8) (n : Fin 8192) (j : Fin 1024) :
    val_main_v227 x0 x1 x2 x3 x4 x5 x6 x7 x8 x9 x10 x11 x12 (ix3 b n j) =
      layer (proj x0 x1 x2 b) (fun j => x0 (ix3 b n j)) (fun j => x3 (ix2 0 j)) (fun h => x4 (ix2 0 h)) (bias x5)
        (fun k j => x6 (ix3 0 k j)) (fun k j => x7 (ix3 0 k j)) (fun k j => x8 (ix3 0 k j)) (fun k => x9 (ix2 0 k))
        (fun k f => x10 (ix3 0 k f)) (fun f j => x11 (ix3 0 f j)) (fun k => x12 (ix1 k)) n j := by
  rw [v227_apply, funext (pa_heads x0 x1 x2 x4 x6 b n), funext (pb_heads x0 x1 x2 x5 x7 b n)]
  rfl

end Cert.ReferenceIdeal.Plain
-- ==== Proof.Finite.lean ====
/- What the precondition gives: weights that are real numbers, sinks below infinity. -/
module

public import proofs.«01_k».proof.Defs
public import proofs.«01_k».proof.Proof.Gen.Pre_finite_weights
public import proofs.«01_k».proof.Proof.Attn

@[expose] public section

noncomputable section

namespace Cert.KernelIdeal.Finite

open Idealize.ShloMosaic Idealize.ShloMosaic.TcCoe Idealize.SL.Sem
open Cert.KernelIdeal Cert.Layer

/-- A number compared below infinity is not infinity. -/
theorem ne_top_of_cmp (x : EReal) (h : Ideal.cmp .olt x (Ideal.ofBits .f32 0x7F800000#32) = 1) : x ≠ ⊤ := by
  rw [Ideal.cmp_olt_eq_one] at h
  exact ne_top_of_lt h

/-- A number whose absolute value is not infinity is real. -/
theorem isReal_of_abs (x : EReal) (h : max x (-x) ≠ ⊤) : IsReal x := by
  refine isReal_of_ne (fun e => h ?_) (fun e => h ?_)
  all_goals subst e; simp

variable (m : (ℓ : Loc nD τ sig) → Buf (Elt Ideal) ℓ) (h : Cert.Pre_KernelIdeal_finite_weights m) (c : Dev nD)

include h

/-- The weights of the first normalisation are real. -/
theorem norm_mix (k : Fin 1024) : IsReal (m ((c : Thread nD τ).loc main_arg1) (ix2 0 k)) :=
  isReal_of_abs _ (ne_top_of_cmp _ (congrFun (h c).1 (ix2 0 k)))

/-- The columns of the input weights for queries and keys are real. -/
theorem w_in (k : Fin 1024) (j : Fin 4352) (hj : LogitCol j.val) : IsReal (m ((c : Thread nD τ).loc main_arg2) (ix3 0 k j)) := by
  rcases hj with hj | hj
  · have e := isReal_of_abs _ (ne_top_of_cmp _ (congrFun (h c).2.1 (ix3 0 k ⟨j.val, hj⟩)))
    refine (congrArg (fun i => IsReal (m ((c : Thread nD τ).loc main_arg2) i)) ?_).mp e
    idx_ext
  · have e := isReal_of_abs _ (ne_top_of_cmp _ (congrFun (h c).2.2.1 (ix3 0 k ⟨j.val - 768, by omega⟩)))
    refine (congrArg (fun i => IsReal (m ((c : Thread nD τ).loc main_arg2) i)) ?_).mp e
    idx_ext

/-- No sink is plus infinity. -/
theorem sink (g : Fin 8) : @Ne EReal (m ((c : Thread nD τ).loc main_arg4) (ix2 0 g)) ⊤ :=
  ne_top_of_cmp _ (congrFun (h c).2.2.2.1 (ix2 0 g))

/-- The relative position biases are real. -/
theorem rpb (g : Fin 8) (r : Fin 15) (q : Fin 31) : IsReal (m ((c : Thread nD τ).loc main_arg5) (ix4 0 g r q)) :=
  isReal_of_abs _ (ne_top_of_cmp _ (congrFun (h c).2.2.2.2 (ix4 0 g r q)))

end Cert.KernelIdeal.Finite
-- ==== Proof.Equal.lean ====
/- The kernel's result buffer and the reference's hold the same array, where the arguments agree and the precondition
   holds. -/
module

public import proofs.«01_k».proof.Proof.KernelValue
public import proofs.«01_k».proof.Proof.RefValue
public import proofs.«01_k».proof.Proof.Finite

@[expose] public section

set_option maxRecDepth 16384

noncomputable section

namespace Cert.KernelIdeal.Mix

open Idealize.ShloMosaic Idealize.ShloMosaic.TcCoe Idealize.SL.Sem
open Cert.KernelIdeal Cert.KernelIdeal.Gen Cert.Layer

variable (m : (ℓ : Loc nD τ sig) → Buf (Elt Ideal) ℓ) (ρ : Dev nD → PrngReg) (c : Dev nD)

/-- The kernel's result at token `n` of sequence `b` is the layer. -/
theorem value (h : Cert.Pre_KernelIdeal_finite_weights m) (b : Fin 8) (n : Fin 8192) (j : Fin 1024) :
    W17 m ρ c main_v129 (ix3 b n j) =
      layerOf (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11))
        (m ((c : Thread nD τ).loc main_arg12)) b n j := by
  rw [v129]
  refine (unflat_apply _ b n j).trans ?_
  rw [v128, v30', v55, v107, v53_4]
  exact out_layer _ _ _ _ _ _ _ _ _ _ _ _ _ (Finite.norm_mix m h c) (Finite.w_in m h c) (Finite.sink m h c) (Finite.rpb m h c) b n j

/-- The kernel's result is the reference's array over the same arguments. -/
theorem equal (h : Cert.Pre_KernelIdeal_finite_weights m) :
    W17 m ρ c main_v129 =
      Cert.ReferenceIdeal.Read.val_main_v227 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10))
        (m ((c : Thread nD τ).loc main_arg11)) (m ((c : Thread nD τ).loc main_arg12)) := by
  funext i
  obtain ⟨b, n, j, rfl⟩ : ∃ (b : Fin 8) (n : Fin 8192) (j : Fin 1024), i = ix3 b n j := ⟨i 0, i 1, i 2, by idx_ext⟩
  refine (value m ρ c h b n j).trans (Eq.trans ?_ (Cert.ReferenceIdeal.Plain.v227_layer _ _ _ _ _ _ _ _ _ _ _ _ _ b n j).symm)
  rfl

end Cert.KernelIdeal.Mix
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_weights
public import proofs.«01_k».proof.Proof.KernelRun
public import proofs.«01_k».proof.Proof.Equal
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem Cert.Kernel

/-- The reference's frame: no call, so every semaphore is at zero, and its run leaves the arguments alone. -/
theorem reference_frame : Cert.quiescent_ReferenceIdeal (hReferenceIdeal := Cert.ReferenceIdeal.Gen.facts) := fun m ρ _ =>
  (θ_run _ _ _).mono (fun r h => ⟨fun c => (h c).2, sem_eq_zero_of_no_sems (by decide) r.2⟩) (Cert.ReferenceIdeal.Value.run m ρ)

/-- The kernel and the reference end at the same array. -/
theorem algebraic : Cert.algebraic_KernelIdeal_ReferenceIdeal_pre_finite_weights (hKernelIdeal := Cert.KernelIdeal.Gen.facts)
    (hReferenceIdeal := Cert.ReferenceIdeal.Gen.facts) (hPre_finite_weights := Cert.Pre_finite_weights.Gen.facts) := by
  intro m g m' g' hpre hargs
  refine ⟨fun c => Cert.KernelIdeal.Gen.W17 m g c Cert.KernelIdeal.main_v129,
    (θ_run _ _ _).mono (fun r h => h.1) (Cert.KernelIdeal.Gen.Whole.run m g),
    (θ_run _ _ _).mono (fun r h c => ?_) (Cert.ReferenceIdeal.Value.run m' g')⟩
  obtain ⟨a0, a1, a2, a3, a4, a5, a6, a7, a8, a9, a10, a11, a12⟩ := hargs c
  refine ⟨((h c).1.trans (Cert.ReferenceIdeal.Read.val_main_v227_eq _)).trans (Eq.trans ?_ (Cert.KernelIdeal.Mix.equal m g c hpre).symm),
    (h c).2⟩
  rw [← a0, ← a1, ← a2, ← a3, ← a4, ← a5, ← a6, ← a7, ← a8, ← a9, ← a10, ← a11, ← a12]

theorem claim : Cert.Claim := ⟨Cert.Kernel.Gen.facts, Cert.KernelIdeal.Gen.facts, Cert.ReferenceIdeal.Gen.facts, Cert.Pre_finite_weights.Gen.facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial,
  IdealRules.named_const.statement Cert.KernelIdeal.κ "mask" .f32 0xF149F2CA#32 ⊥ rfl, algebraic⟩

end Cert.Proof

end
